-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v790) = v0 c
          ∧ r.2.mem ((c.tc : Thread Cert.ReferenceIdeal.nD Cert.ReferenceIdeal.τ).loc Cert.ReferenceIdeal.main_v791) = v1 c
          ∧ r.2.mem ((c.tc : Thread Cert.ReferenceIdeal.nD Cert.ReferenceIdeal.τ).loc Cert.ReferenceIdeal.main_v792) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x80x64x64 : Shape := ⟨4, ![8, 80, 64, 64]⟩
abbrev S8x80x32x32 : Shape := ⟨4, ![8, 80, 32, 32]⟩
abbrev S8x80x16x16 : Shape := ⟨4, ![8, 80, 16, 16]⟩
abbrev S8x80x8x8 : Shape := ⟨4, ![8, 80, 8, 8]⟩
abbrev S8x80x4x4 : Shape := ⟨4, ![8, 80, 4, 4]⟩
abbrev S8x1x64x64 : Shape := ⟨4, ![8, 1, 64, 64]⟩
abbrev S8x1x32x32 : Shape := ⟨4, ![8, 1, 32, 32]⟩
abbrev S8x1x16x16 : Shape := ⟨4, ![8, 1, 16, 16]⟩
abbrev S8x1x8x8 : Shape := ⟨4, ![8, 1, 8, 8]⟩
abbrev S8x1x4x4 : Shape := ⟨4, ![8, 1, 4, 4]⟩
abbrev S8x4x64x64 : Shape := ⟨4, ![8, 4, 64, 64]⟩
abbrev S8x4x32x32 : Shape := ⟨4, ![8, 4, 32, 32]⟩
abbrev S8x4x16x16 : Shape := ⟨4, ![8, 4, 16, 16]⟩
abbrev S8x4x8x8 : Shape := ⟨4, ![8, 4, 8, 8]⟩
abbrev S8x4x4x4 : Shape := ⟨4, ![8, 4, 4, 4]⟩
abbrev S8x64x4 : Shape := ⟨3, ![8, 64, 4]⟩
abbrev S8x64 : Shape := ⟨2, ![8, 64]⟩
abbrev S8x5632 : Shape := ⟨2, ![8, 5632]⟩
abbrev S8x64x1 : Shape := ⟨3, ![8, 64, 1]⟩
abbrev S_ : Shape := ⟨0, ![]⟩
abbrev S8x64x3 : Shape := ⟨3, ![8, 64, 3]⟩
abbrev S8x64x8 : Shape := ⟨3, ![8, 64, 8]⟩
abbrev S8x1x5632 : Shape := ⟨3, ![8, 1, 5632]⟩
abbrev S8x4x5632 : Shape := ⟨3, ![8, 4, 5632]⟩
abbrev S8x512 : Shape := ⟨2, ![8, 512]⟩
abbrev S1x64x8 : Shape := ⟨3, ![1, 64, 8]⟩
abbrev S1x1x512 : Shape := ⟨3, ![1, 1, 512]⟩
abbrev S1x4x512 : Shape := ⟨3, ![1, 4, 512]⟩
abbrev S1x512 : Shape := ⟨2, ![1, 512]⟩
abbrev S64x8 : Shape := ⟨2, ![64, 8]⟩
abbrev S64x1 : Shape := ⟨2, ![64, 1]⟩
abbrev S64x512 : Shape := ⟨2, ![64, 512]⟩
abbrev S512 : Shape := ⟨1, ![512]⟩
abbrev S4x512 : Shape := ⟨2, ![4, 512]⟩
abbrev S8x1x5456 : Shape := ⟨3, ![8, 1, 5456]⟩
abbrev S8x5456 : Shape := ⟨2, ![8, 5456]⟩
abbrev S8x5456x1 : Shape := ⟨3, ![8, 5456, 1]⟩
abbrev S8x4x5456 : Shape := ⟨3, ![8, 4, 5456]⟩
abbrev S8x5456x4 : Shape := ⟨3, ![8, 5456, 4]⟩

abbrev nBuf : Space → Nat
  | .hbm => 35
  | .vmem => 10
  | .smem => 0
  | _ => 0

abbrev bufTy : (tb : Table) → Fin (tcTables nBuf tb) → BufTy
  | .hbm, ⟨0, _⟩ => ⟨S8x80x64x64, .f32⟩
  | .hbm, ⟨1, _⟩ => ⟨S8x80x32x32, .f32⟩
  | .hbm, ⟨2, _⟩ => ⟨S8x80x16x16, .f32⟩
  | .hbm, ⟨3, _⟩ => ⟨S8x80x8x8, .f32⟩
  | .hbm, ⟨4, _⟩ => ⟨S8x80x4x4, .f32⟩
  | .hbm, ⟨5, _⟩ => ⟨S8x1x64x64, .f32⟩
  | .hbm, ⟨6, _⟩ => ⟨S8x1x32x32, .f32⟩
  | .hbm, ⟨7, _⟩ => ⟨S8x1x16x16, .f32⟩
  | .hbm, ⟨8, _⟩ => ⟨S8x1x8x8, .f32⟩
  | .hbm, ⟨9, _⟩ => ⟨S8x1x4x4, .f32⟩
  | .hbm, ⟨10, _⟩ => ⟨S8x4x64x64, .f32⟩
  | .hbm, ⟨11, _⟩ => ⟨S8x4x32x32, .f32⟩
  | .hbm, ⟨12, _⟩ => ⟨S8x4x16x16, .f32⟩
  | .hbm, ⟨13, _⟩ => ⟨S8x4x8x8, .f32⟩
  | .hbm, ⟨14, _⟩ => ⟨S8x4x4x4, .f32⟩
  | .hbm, ⟨15, _⟩ => ⟨S8x64x4, .f32⟩
  | .hbm, ⟨16, _⟩ => ⟨S8x64, .i32⟩
  | .hbm, ⟨17, _⟩ => ⟨S8x5632, .f32⟩
  | .hbm, ⟨18, _⟩ => ⟨S8x64, .f32⟩
  | .hbm, ⟨19, _⟩ => ⟨S8x64x1, .f32⟩
  | .hbm, ⟨20, _⟩ => ⟨S_, .f32⟩
  | .hbm, ⟨21, _⟩ => ⟨S8x64x3, .f32⟩
  | .hbm, ⟨22, _⟩ => ⟨S8x64x8, .f32⟩
  | .hbm, ⟨23, _⟩ => ⟨S8x1x5632, .f32⟩
  | .hbm, ⟨24, _⟩ => ⟨S8x1x5632, .f32⟩
  | .hbm, ⟨25, _⟩ => ⟨S8x4x5632, .f32⟩
  | .hbm, ⟨26, _⟩ => ⟨S8x1x5456, .f32⟩
  | .hbm, ⟨27, _⟩ => ⟨S8x5456, .f32⟩
  | .hbm, ⟨28, _⟩ => ⟨S8x5456x1, .f32⟩
  | .hbm, ⟨29, _⟩ => ⟨S8x5456x1, .i32⟩
  | .hbm, ⟨30, _⟩ => ⟨S8x1x5456, .f32⟩
  | .hbm, ⟨31, _⟩ => ⟨S8x5456, .f32⟩
  | .hbm, ⟨32, _⟩ => ⟨S8x5456x1, .f32⟩
  | .hbm, ⟨33, _⟩ => ⟨S8x4x5456, .f32⟩
  | .hbm, ⟨34, _⟩ => ⟨S8x5456x4, .f32⟩
  | .local _ .vmem, ⟨0, _⟩ => ⟨S8x512, .f32⟩
  | .local _ .vmem, ⟨1, _⟩ => ⟨S8x512, .f32⟩
  | .local _ .vmem, ⟨2, _⟩ => ⟨S1x64x8, .f32⟩
  | .local _ .vmem, ⟨3, _⟩ => ⟨S1x64x8, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x4x512, .f32⟩
  | .local _ .vmem, ⟨9, _⟩ => ⟨S1x4x512, .f32⟩
  | _, _ => ⟨S8x80x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_v4_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x80x64x64 : Shape := ⟨4, ![8, 80, 64, 64]⟩
abbrev S8x80x32x32 : Shape := ⟨4, ![8, 80, 32, 32]⟩
abbrev S8x80x16x16 : Shape := ⟨4, ![8, 80, 16, 16]⟩
abbrev S8x80x8x8 : Shape := ⟨4, ![8, 80, 8, 8]⟩
abbrev S8x80x4x4 : Shape := ⟨4, ![8, 80, 4, 4]⟩
abbrev S8x1x64x64 : Shape := ⟨4, ![8, 1, 64, 64]⟩
abbrev S8x1x32x32 : Shape := ⟨4, ![8, 1, 32, 32]⟩
abbrev S8x1x16x16 : Shape := ⟨4, ![8, 1, 16, 16]⟩
abbrev S8x1x8x8 : Shape := ⟨4, ![8, 1, 8, 8]⟩
abbrev S8x1x4x4 : Shape := ⟨4, ![8, 1, 4, 4]⟩
abbrev S8x4x64x64 : Shape := ⟨4, ![8, 4, 64, 64]⟩
abbrev S8x4x32x32 : Shape := ⟨4, ![8, 4, 32, 32]⟩
abbrev S8x4x16x16 : Shape := ⟨4, ![8, 4, 16, 16]⟩
abbrev S8x4x8x8 : Shape := ⟨4, ![8, 4, 8, 8]⟩
abbrev S8x4x4x4 : Shape := ⟨4, ![8, 4, 4, 4]⟩
abbrev S8x64x4 : Shape := ⟨3, ![8, 64, 4]⟩
abbrev S8x64 : Shape := ⟨2, ![8, 64]⟩
abbrev S64 : Shape := ⟨1, ![64]⟩
abbrev S_ : Shape := ⟨0, ![]⟩
abbrev S64x64 : Shape := ⟨2, ![64, 64]⟩
abbrev S4096 : Shape := ⟨1, ![4096]⟩
abbrev S1x4096x1 : Shape := ⟨3, ![1, 4096, 1]⟩
abbrev S8x64x1 : Shape := ⟨3, ![8, 64, 1]⟩
abbrev S8x1x64 : Shape := ⟨3, ![8, 1, 64]⟩
abbrev S8x4096x64 : Shape := ⟨3, ![8, 4096, 64]⟩
abbrev S8x4096x64x1 : Shape := ⟨4, ![8, 4096, 64, 1]⟩
abbrev S8x4096x64x4 : Shape := ⟨4, ![8, 4096, 64, 4]⟩
abbrev S8x4096 : Shape := ⟨2, ![8, 4096]⟩
abbrev S8x4096x1x1 : Shape := ⟨4, ![8, 4096, 1, 1]⟩
abbrev S8x4096x1x4 : Shape := ⟨4, ![8, 4096, 1, 4]⟩
abbrev S8x4096x1x4x1 : Shape := ⟨5, ![8, 4096, 1, 4, 1]⟩
abbrev S1 : Shape := ⟨1, ![1]⟩
abbrev S1x1x1x1x1 : Shape := ⟨5, ![1, 1, 1, 1, 1]⟩
abbrev S8x4096x4 : Shape := ⟨3, ![8, 4096, 4]⟩
abbrev S8x4096x1 : Shape := ⟨3, ![8, 4096, 1]⟩
abbrev S1x1x1x1 : Shape := ⟨4, ![1, 1, 1, 1]⟩
abbrev S32 : Shape := ⟨1, ![32]⟩
abbrev S32x32 : Shape := ⟨2, ![32, 32]⟩
abbrev S1024 : Shape := ⟨1, ![1024]⟩
abbrev S1x1024x1 : Shape := ⟨3, ![1, 1024, 1]⟩
abbrev S8x1024x64 : Shape := ⟨3, ![8, 1024, 64]⟩
abbrev S8x1024x64x1 : Shape := ⟨4, ![8, 1024, 64, 1]⟩
abbrev S8x1024x64x4 : Shape := ⟨4, ![8, 1024, 64, 4]⟩
abbrev S8x1024 : Shape := ⟨2, ![8, 1024]⟩
abbrev S8x1024x1x1 : Shape := ⟨4, ![8, 1024, 1, 1]⟩
abbrev S8x1024x1x4 : Shape := ⟨4, ![8, 1024, 1, 4]⟩
abbrev S8x1024x1x4x1 : Shape := ⟨5, ![8, 1024, 1, 4, 1]⟩
abbrev S8x1024x4 : Shape := ⟨3, ![8, 1024, 4]⟩
abbrev S8x1024x1 : Shape := ⟨3, ![8, 1024, 1]⟩
abbrev S16 : Shape := ⟨1, ![16]⟩
abbrev S16x16 : Shape := ⟨2, ![16, 16]⟩
abbrev S256 : Shape := ⟨1, ![256]⟩
abbrev S1x256x1 : Shape := ⟨3, ![1, 256, 1]⟩
abbrev S8x256x64 : Shape := ⟨3, ![8, 256, 64]⟩
abbrev S8x256x64x1 : Shape := ⟨4, ![8, 256, 64, 1]⟩
abbrev S8x256x64x4 : Shape := ⟨4, ![8, 256, 64, 4]⟩
abbrev S8x256 : Shape := ⟨2, ![8, 256]⟩
abbrev S8x256x1x1 : Shape := ⟨4, ![8, 256, 1, 1]⟩
abbrev S8x256x1x4 : Shape := ⟨4, ![8, 256, 1, 4]⟩
abbrev S8x256x1x4x1 : Shape := ⟨5, ![8, 256, 1, 4, 1]⟩
abbrev S8x256x4 : Shape := ⟨3, ![8, 256, 4]⟩
abbrev S8x256x1 : Shape := ⟨3, ![8, 256, 1]⟩
abbrev S8 : Shape := ⟨1, ![8]⟩
abbrev S8x8 : Shape := ⟨2, ![8, 8]⟩
abbrev S1x64x1 : Shape := ⟨3, ![1, 64, 1]⟩
abbrev S8x64x64 : Shape := ⟨3, ![8, 64, 64]⟩
abbrev S8x64x64x1 : Shape := ⟨4, ![8, 64, 64, 1]⟩
abbrev S8x64x64x4 : Shape := ⟨4, ![8, 64, 64, 4]⟩
abbrev S8x64x1x1 : Shape := ⟨4, ![8, 64, 1, 1]⟩
abbrev S8x64x1x4 : Shape := ⟨4, ![8, 64, 1, 4]⟩
abbrev S8x64x1x4x1 : Shape := ⟨5, ![8, 64, 1, 4, 1]⟩
abbrev S4 : Shape := ⟨1, ![4]⟩
abbrev S4x4 : Shape := ⟨2, ![4, 4]⟩
abbrev S1x16x1 : Shape := ⟨3, ![1, 16, 1]⟩
abbrev S8x16x64 : Shape := ⟨3, ![8, 16, 64]⟩
abbrev S8x16x64x1 : Shape := ⟨4, ![8, 16, 64, 1]⟩
abbrev S8x16x64x4 : Shape := ⟨4, ![8, 16, 64, 4]⟩
abbrev S8x16 : Shape := ⟨2, ![8, 16]⟩
abbrev S8x16x1x1 : Shape := ⟨4, ![8, 16, 1, 1]⟩
abbrev S8x16x1x4 : Shape := ⟨4, ![8, 16, 1, 4]⟩
abbrev S8x16x1x4x1 : Shape := ⟨5, ![8, 16, 1, 4, 1]⟩
abbrev S8x16x4 : Shape := ⟨3, ![8, 16, 4]⟩
abbrev S8x16x1 : Shape := ⟨3, ![8, 16, 1]⟩
abbrev S8x5456x1 : Shape := ⟨3, ![8, 5456, 1]⟩
abbrev S8x5456x4 : Shape := ⟨3, ![8, 5456, 4]⟩

abbrev nBuf : Space → Nat
  | .hbm => 1200
  | .vmem => 0
  | .smem => 0
  | _ => 0

abbrev hbmTy0_0 (i : Nat) : BufTy := match i % 128 with
  | 0 => ⟨S8x80x64x64, .f32⟩
  | 1 => ⟨S8x80x32x32, .f32⟩
  | 2 => ⟨S8x80x16x16, .f32⟩
  | 3 => ⟨S8x80x8x8, .f32⟩
  | 4 => ⟨S8x80x4x4, .f32⟩
  | 5 => ⟨S8x1x64x64, .f32⟩
  | 6 => ⟨S8x1x32x32, .f32⟩
  | 7 => ⟨S8x1x16x16, .f32⟩
  | 8 => ⟨S8x1x8x8, .f32⟩
  | 9 => ⟨S8x1x4x4, .f32⟩
  | 10 => ⟨S8x4x64x64, .f32⟩
  | 11 => ⟨S8x4x32x32, .f32⟩
  | 12 => ⟨S8x4x16x16, .f32⟩
  | 13 => ⟨S8x4x8x8, .f32⟩
  | 14 => ⟨S8x4x4x4, .f32⟩
  | 15 => ⟨S8x64x4, .f32⟩
  | 16 => ⟨S8x64, .i32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S64x64, .f32⟩
  | 32 => ⟨S64x64, .f32⟩
  | 33 => ⟨S4096, .f32⟩
  | 34 => ⟨S4096, .f32⟩
  | 35 => ⟨S1x4096x1, .f32⟩
  | 36 => ⟨S8x64x1, .f32⟩
  | 37 => ⟨S8x64, .f32⟩
  | 38 => ⟨S8x1x64, .f32⟩
  | 39 => ⟨S8x4096x64, .f32⟩
  | 40 => ⟨S8x4096x64, .f32⟩
  | 41 => ⟨S8x4096x64, .f32⟩
  | 42 => ⟨S1x4096x1, .f32⟩
  | 43 => ⟨S8x64x1, .f32⟩
  | 44 => ⟨S8x64, .f32⟩
  | 45 => ⟨S8x1x64, .f32⟩
  | 46 => ⟨S8x4096x64, .f32⟩
  | 47 => ⟨S8x4096x64, .f32⟩
  | 48 => ⟨S8x4096x64, .f32⟩
  | 49 => ⟨S8x64x1, .f32⟩
  | 50 => ⟨S8x64, .f32⟩
  | 51 => ⟨S8x1x64, .f32⟩
  | 52 => ⟨S1x4096x1, .f32⟩
  | 53 => ⟨S8x4096x64, .f32⟩
  | 54 => ⟨S8x4096x64, .f32⟩
  | 55 => ⟨S8x4096x64, .f32⟩
  | 56 => ⟨S8x64x1, .f32⟩
  | 57 => ⟨S8x64, .f32⟩
  | 58 => ⟨S8x1x64, .f32⟩
  | 59 => ⟨S1x4096x1, .f32⟩
  | 60 => ⟨S8x4096x64, .f32⟩
  | 61 => ⟨S8x4096x64, .f32⟩
  | 62 => ⟨S8x4096x64, .f32⟩
  | 63 => ⟨S8x4096x64x1, .f32⟩
  | 64 => ⟨S8x4096x64x1, .f32⟩
  | 65 => ⟨S8x4096x64x1, .f32⟩
  | 66 => ⟨S8x4096x64x1, .f32⟩
  | 67 => ⟨S8x4096x64x4, .f32⟩
  | 68 => ⟨S8x4096x64x1, .f32⟩
  | 69 => ⟨S8x4096x64, .f32⟩
  | 70 => ⟨S8x4096x64x1, .f32⟩
  | 71 => ⟨S8x4096x64, .f32⟩
  | 72 => ⟨S8x4096x64, .f32⟩
  | 73 => ⟨S8x4096x64x1, .f32⟩
  | 74 => ⟨S8x4096x64, .f32⟩
  | 75 => ⟨S8x4096x64x1, .f32⟩
  | 76 => ⟨S8x4096x64, .f32⟩
  | 77 => ⟨S8x4096x64, .f32⟩
  | 78 => ⟨S8x4096x64, .f32⟩
  | 79 => ⟨S_, .f32⟩
  | 80 => ⟨S8x4096x64, .f32⟩
  | 81 => ⟨S_, .f32⟩
  | 82 => ⟨S8x4096x64, .f32⟩
  | 83 => ⟨S_, .f32⟩
  | 84 => ⟨S8x4096x64, .f32⟩
  | 85 => ⟨S8x4096x64, .i1⟩
  | 86 => ⟨S_, .f32⟩
  | 87 => ⟨S8x4096x64, .f32⟩
  | 88 => ⟨S8x4096x64, .i1⟩
  | 89 => ⟨S_, .f32⟩
  | 90 => ⟨S8x4096x64, .f32⟩
  | 91 => ⟨S8x4096x64, .i1⟩
  | 92 => ⟨S8x4096x64, .i1⟩
  | 93 => ⟨S8x64x1, .f32⟩
  | 94 => ⟨S8x64, .f32⟩
  | 95 => ⟨S8x64x1, .f32⟩
  | 96 => ⟨S8x64, .f32⟩
  | 97 => ⟨S8x64, .f32⟩
  | 98 => ⟨S_, .f32⟩
  | 99 => ⟨S8x64, .f32⟩
  | 100 => ⟨S8x64, .f32⟩
  | 101 => ⟨S8x64x1, .f32⟩
  | 102 => ⟨S8x64, .f32⟩
  | 103 => ⟨S8x64x1, .f32⟩
  | 104 => ⟨S8x64, .f32⟩
  | 105 => ⟨S8x64, .f32⟩
  | 106 => ⟨S_, .f32⟩
  | 107 => ⟨S8x64, .f32⟩
  | 108 => ⟨S8x64, .f32⟩
  | 109 => ⟨S1x4096x1, .f32⟩
  | 110 => ⟨S8x1x64, .f32⟩
  | 111 => ⟨S8x4096x64, .f32⟩
  | 112 => ⟨S8x4096x64, .f32⟩
  | 113 => ⟨S8x4096x64, .f32⟩
  | 114 => ⟨S1x4096x1, .f32⟩
  | 115 => ⟨S8x1x64, .f32⟩
  | 116 => ⟨S8x4096x64, .f32⟩
  | 117 => ⟨S8x4096x64, .f32⟩
  | 118 => ⟨S8x4096x64, .f32⟩
  | 119 => ⟨S8x1x64, .f32⟩
  | 120 => ⟨S1x4096x1, .f32⟩
  | 121 => ⟨S8x4096x64, .f32⟩
  | 122 => ⟨S8x4096x64, .f32⟩
  | 123 => ⟨S8x4096x64, .f32⟩
  | 124 => ⟨S8x1x64, .f32⟩
  | 125 => ⟨S1x4096x1, .f32⟩
  | 126 => ⟨S8x4096x64, .f32⟩
  | 127 => ⟨S8x4096x64, .f32⟩
  | _ => ⟨S8x80x64x64, .f32⟩

abbrev hbmTy0_1 (i : Nat) : BufTy := match i % 128 with
  | 0 => ⟨S8x4096x64, .f32⟩
  | 1 => ⟨S8x4096x64x1, .f32⟩
  | 2 => ⟨S8x4096x64x1, .f32⟩
  | 3 => ⟨S8x4096x64x1, .f32⟩
  | 4 => ⟨S8x4096x64x1, .f32⟩
  | 5 => ⟨S8x4096x64x4, .f32⟩
  | 6 => ⟨S_, .f32⟩
  | 7 => ⟨S8x4096x64, .f32⟩
  | 8 => ⟨S_, .f32⟩
  | 9 => ⟨S8x4096x64, .f32⟩
  | 10 => ⟨S8x4096x64, .i1⟩
  | 11 => ⟨S8x4096x64, .i1⟩
  | 12 => ⟨S8x4096x64, .i1⟩
  | 13 => ⟨S_, .f32⟩
  | 14 => ⟨S_, .f32⟩
  | 15 => ⟨S8x4096x64, .f32⟩
  | 16 => ⟨S8x4096x64, .f32⟩
  | 17 => ⟨S8x4096x64, .i32⟩
  | 18 => ⟨S_, .f32⟩
  | 19 => ⟨S_, .i32⟩
  | 20 => ⟨S8x4096, .f32⟩
  | 21 => ⟨S8x4096, .i32⟩
  | 22 => ⟨S8x4096x1x1, .i32⟩
  | 23 => ⟨S8x4096x1x4, .i32⟩
  | 24 => ⟨S_, .i32⟩
  | 25 => ⟨S8x4096x1x4, .i32⟩
  | 26 => ⟨S8x4096x1x4, .i1⟩
  | 27 => ⟨S_, .i32⟩
  | 28 => ⟨S8x4096x1x4, .i32⟩
  | 29 => ⟨S8x4096x1x4, .i32⟩
  | 30 => ⟨S8x4096x1x4, .i32⟩
  | 31 => ⟨S8x4096x1x4x1, .i32⟩
  | 32 => ⟨S1, .i32⟩
  | 33 => ⟨S_, .i32⟩
  | 34 => ⟨S8x4096x1x4x1, .i32⟩
  | 35 => ⟨S8x4096x1x4x1, .i1⟩
  | 36 => ⟨S1x1x1x1x1, .i32⟩
  | 37 => ⟨S8x4096x1x4x1, .i32⟩
  | 38 => ⟨S8x4096x1x4x1, .i1⟩
  | 39 => ⟨S8x4096x1x4x1, .i1⟩
  | 40 => ⟨S_, .i1⟩
  | 41 => ⟨S8x4096x1x4, .i1⟩
  | 42 => ⟨S8x4096x1x4, .f32⟩
  | 43 => ⟨S_, .f32⟩
  | 44 => ⟨S8x4096x1x4, .f32⟩
  | 45 => ⟨S8x4096x1x4, .f32⟩
  | 46 => ⟨S8x4096x4, .f32⟩
  | 47 => ⟨S8x1x64, .i32⟩
  | 48 => ⟨S8x4096x64, .i32⟩
  | 49 => ⟨S8x4096x1, .i32⟩
  | 50 => ⟨S_, .i32⟩
  | 51 => ⟨S8x4096x1, .i32⟩
  | 52 => ⟨S8x4096x1, .i1⟩
  | 53 => ⟨S_, .i32⟩
  | 54 => ⟨S8x4096x1, .i32⟩
  | 55 => ⟨S8x4096x1, .i32⟩
  | 56 => ⟨S8x4096x1, .i32⟩
  | 57 => ⟨S8x4096x1x1, .i32⟩
  | 58 => ⟨S1, .i32⟩
  | 59 => ⟨S_, .i32⟩
  | 60 => ⟨S8x4096x1x1, .i32⟩
  | 61 => ⟨S8x4096x1x1, .i1⟩
  | 62 => ⟨S1x1x1x1, .i32⟩
  | 63 => ⟨S8x4096x1x1, .i32⟩
  | 64 => ⟨S8x4096x1x1, .i1⟩
  | 65 => ⟨S8x4096x1x1, .i1⟩
  | 66 => ⟨S_, .i1⟩
  | 67 => ⟨S8x4096x1, .i1⟩
  | 68 => ⟨S8x4096x1, .i32⟩
  | 69 => ⟨S_, .i32⟩
  | 70 => ⟨S8x4096x1, .i32⟩
  | 71 => ⟨S8x4096x1, .i32⟩
  | 72 => ⟨S8x4096x1, .f32⟩
  | 73 => ⟨S8x4096, .f32⟩
  | 74 => ⟨S8x4096x1, .f32⟩
  | 75 => ⟨S8x4096, .f32⟩
  | 76 => ⟨S8x4096, .f32⟩
  | 77 => ⟨S8x4096x1, .f32⟩
  | 78 => ⟨S8x4096, .f32⟩
  | 79 => ⟨S8x4096x1, .f32⟩
  | 80 => ⟨S8x4096, .f32⟩
  | 81 => ⟨S8x4096, .f32⟩
  | 82 => ⟨S8x4096x1, .f32⟩
  | 83 => ⟨S8x4096, .f32⟩
  | 84 => ⟨S8x4096x1, .f32⟩
  | 85 => ⟨S8x4096, .f32⟩
  | 86 => ⟨S8x4096, .f32⟩
  | 87 => ⟨S8x4096x1, .f32⟩
  | 88 => ⟨S8x4096, .f32⟩
  | 89 => ⟨S8x4096x1, .f32⟩
  | 90 => ⟨S8x4096, .f32⟩
  | 91 => ⟨S8x4096, .f32⟩
  | 92 => ⟨S8x4096x64, .i32⟩
  | 93 => ⟨S_, .i32⟩
  | 94 => ⟨S8x4096, .i32⟩
  | 95 => ⟨S_, .i32⟩
  | 96 => ⟨S8x4096, .i32⟩
  | 97 => ⟨S8x4096, .i1⟩
  | 98 => ⟨S8x4096, .f32⟩
  | 99 => ⟨S8x4096, .f32⟩
  | 100 => ⟨S_, .f32⟩
  | 101 => ⟨S8x4096, .f32⟩
  | 102 => ⟨S8x4096, .f32⟩
  | 103 => ⟨S8x4096, .f32⟩
  | 104 => ⟨S_, .f32⟩
  | 105 => ⟨S_, .f32⟩
  | 106 => ⟨S8x4096, .f32⟩
  | 107 => ⟨S8x4096, .f32⟩
  | 108 => ⟨S8x4096, .f32⟩
  | 109 => ⟨S_, .f32⟩
  | 110 => ⟨S_, .f32⟩
  | 111 => ⟨S8x4096, .f32⟩
  | 112 => ⟨S8x4096, .f32⟩
  | 113 => ⟨S8x4096x1, .f32⟩
  | 114 => ⟨S8x4096x1, .i1⟩
  | 115 => ⟨S_, .i32⟩
  | 116 => ⟨S_, .i32⟩
  | 117 => ⟨S8x4096x1, .i32⟩
  | 118 => ⟨S8x4096x1, .i32⟩
  | 119 => ⟨S8x4096x1, .i1⟩
  | 120 => ⟨S_, .f32⟩
  | 121 => ⟨S_, .f32⟩
  | 122 => ⟨S8x4096x4, .i1⟩
  | 123 => ⟨S8x4096x4, .f32⟩
  | 124 => ⟨S8x4096x4, .f32⟩
  | 125 => ⟨S32, .f32⟩
  | 126 => ⟨S_, .f32⟩
  | 127 => ⟨S32, .f32⟩
  | _ => ⟨S8x80x64x64, .f32⟩

abbrev hbmTy0_2 (i : Nat) : BufTy := match i % 128 with
  | 0 => ⟨S32, .f32⟩
  | 1 => ⟨S_, .f32⟩
  | 2 => ⟨S32, .f32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32x32, .f32⟩
  | 12 => ⟨S32x32, .f32⟩
  | 13 => ⟨S1024, .f32⟩
  | 14 => ⟨S1024, .f32⟩
  | 15 => ⟨S1x1024x1, .f32⟩
  | 16 => ⟨S8x64x1, .f32⟩
  | 17 => ⟨S8x64, .f32⟩
  | 18 => ⟨S8x1x64, .f32⟩
  | 19 => ⟨S8x1024x64, .f32⟩
  | 20 => ⟨S8x1024x64, .f32⟩
  | 21 => ⟨S8x1024x64, .f32⟩
  | 22 => ⟨S1x1024x1, .f32⟩
  | 23 => ⟨S8x64x1, .f32⟩
  | 24 => ⟨S8x64, .f32⟩
  | 25 => ⟨S8x1x64, .f32⟩
  | 26 => ⟨S8x1024x64, .f32⟩
  | 27 => ⟨S8x1024x64, .f32⟩
  | 28 => ⟨S8x1024x64, .f32⟩
  | 29 => ⟨S8x64x1, .f32⟩
  | 30 => ⟨S8x64, .f32⟩
  | 31 => ⟨S8x1x64, .f32⟩
  | 32 => ⟨S1x1024x1, .f32⟩
  | 33 => ⟨S8x1024x64, .f32⟩
  | 34 => ⟨S8x1024x64, .f32⟩
  | 35 => ⟨S8x1024x64, .f32⟩
  | 36 => ⟨S8x64x1, .f32⟩
  | 37 => ⟨S8x64, .f32⟩
  | 38 => ⟨S8x1x64, .f32⟩
  | 39 => ⟨S1x1024x1, .f32⟩
  | 40 => ⟨S8x1024x64, .f32⟩
  | 41 => ⟨S8x1024x64, .f32⟩
  | 42 => ⟨S8x1024x64, .f32⟩
  | 43 => ⟨S8x1024x64x1, .f32⟩
  | 44 => ⟨S8x1024x64x1, .f32⟩
  | 45 => ⟨S8x1024x64x1, .f32⟩
  | 46 => ⟨S8x1024x64x1, .f32⟩
  | 47 => ⟨S8x1024x64x4, .f32⟩
  | 48 => ⟨S8x1024x64x1, .f32⟩
  | 49 => ⟨S8x1024x64, .f32⟩
  | 50 => ⟨S8x1024x64x1, .f32⟩
  | 51 => ⟨S8x1024x64, .f32⟩
  | 52 => ⟨S8x1024x64, .f32⟩
  | 53 => ⟨S8x1024x64x1, .f32⟩
  | 54 => ⟨S8x1024x64, .f32⟩
  | 55 => ⟨S8x1024x64x1, .f32⟩
  | 56 => ⟨S8x1024x64, .f32⟩
  | 57 => ⟨S8x1024x64, .f32⟩
  | 58 => ⟨S8x1024x64, .f32⟩
  | 59 => ⟨S_, .f32⟩
  | 60 => ⟨S8x1024x64, .f32⟩
  | 61 => ⟨S_, .f32⟩
  | 62 => ⟨S8x1024x64, .f32⟩
  | 63 => ⟨S_, .f32⟩
  | 64 => ⟨S8x1024x64, .f32⟩
  | 65 => ⟨S8x1024x64, .i1⟩
  | 66 => ⟨S_, .f32⟩
  | 67 => ⟨S8x1024x64, .f32⟩
  | 68 => ⟨S8x1024x64, .i1⟩
  | 69 => ⟨S_, .f32⟩
  | 70 => ⟨S8x1024x64, .f32⟩
  | 71 => ⟨S8x1024x64, .i1⟩
  | 72 => ⟨S8x1024x64, .i1⟩
  | 73 => ⟨S8x64x1, .f32⟩
  | 74 => ⟨S8x64, .f32⟩
  | 75 => ⟨S8x64x1, .f32⟩
  | 76 => ⟨S8x64, .f32⟩
  | 77 => ⟨S8x64, .f32⟩
  | 78 => ⟨S_, .f32⟩
  | 79 => ⟨S8x64, .f32⟩
  | 80 => ⟨S8x64, .f32⟩
  | 81 => ⟨S8x64x1, .f32⟩
  | 82 => ⟨S8x64, .f32⟩
  | 83 => ⟨S8x64x1, .f32⟩
  | 84 => ⟨S8x64, .f32⟩
  | 85 => ⟨S8x64, .f32⟩
  | 86 => ⟨S_, .f32⟩
  | 87 => ⟨S8x64, .f32⟩
  | 88 => ⟨S8x64, .f32⟩
  | 89 => ⟨S1x1024x1, .f32⟩
  | 90 => ⟨S8x1x64, .f32⟩
  | 91 => ⟨S8x1024x64, .f32⟩
  | 92 => ⟨S8x1024x64, .f32⟩
  | 93 => ⟨S8x1024x64, .f32⟩
  | 94 => ⟨S1x1024x1, .f32⟩
  | 95 => ⟨S8x1x64, .f32⟩
  | 96 => ⟨S8x1024x64, .f32⟩
  | 97 => ⟨S8x1024x64, .f32⟩
  | 98 => ⟨S8x1024x64, .f32⟩
  | 99 => ⟨S8x1x64, .f32⟩
  | 100 => ⟨S1x1024x1, .f32⟩
  | 101 => ⟨S8x1024x64, .f32⟩
  | 102 => ⟨S8x1024x64, .f32⟩
  | 103 => ⟨S8x1024x64, .f32⟩
  | 104 => ⟨S8x1x64, .f32⟩
  | 105 => ⟨S1x1024x1, .f32⟩
  | 106 => ⟨S8x1024x64, .f32⟩
  | 107 => ⟨S8x1024x64, .f32⟩
  | 108 => ⟨S8x1024x64, .f32⟩
  | 109 => ⟨S8x1024x64x1, .f32⟩
  | 110 => ⟨S8x1024x64x1, .f32⟩
  | 111 => ⟨S8x1024x64x1, .f32⟩
  | 112 => ⟨S8x1024x64x1, .f32⟩
  | 113 => ⟨S8x1024x64x4, .f32⟩
  | 114 => ⟨S_, .f32⟩
  | 115 => ⟨S8x1024x64, .f32⟩
  | 116 => ⟨S_, .f32⟩
  | 117 => ⟨S8x1024x64, .f32⟩
  | 118 => ⟨S8x1024x64, .i1⟩
  | 119 => ⟨S8x1024x64, .i1⟩
  | 120 => ⟨S8x1024x64, .i1⟩
  | 121 => ⟨S_, .f32⟩
  | 122 => ⟨S_, .f32⟩
  | 123 => ⟨S8x1024x64, .f32⟩
  | 124 => ⟨S8x1024x64, .f32⟩
  | 125 => ⟨S8x1024x64, .i32⟩
  | 126 => ⟨S_, .f32⟩
  | 127 => ⟨S_, .i32⟩
  | _ => ⟨S8x80x64x64, .f32⟩

abbrev hbmTy0_3 (i : Nat) : BufTy := match i % 128 with
  | 0 => ⟨S8x1024, .f32⟩
  | 1 => ⟨S8x1024, .i32⟩
  | 2 => ⟨S8x1024x1x1, .i32⟩
  | 3 => ⟨S8x1024x1x4, .i32⟩
  | 4 => ⟨S_, .i32⟩
  | 5 => ⟨S8x1024x1x4, .i32⟩
  | 6 => ⟨S8x1024x1x4, .i1⟩
  | 7 => ⟨S_, .i32⟩
  | 8 => ⟨S8x1024x1x4, .i32⟩
  | 9 => ⟨S8x1024x1x4, .i32⟩
  | 10 => ⟨S8x1024x1x4, .i32⟩
  | 11 => ⟨S8x1024x1x4x1, .i32⟩
  | 12 => ⟨S1, .i32⟩
  | 13 => ⟨S_, .i32⟩
  | 14 => ⟨S8x1024x1x4x1, .i32⟩
  | 15 => ⟨S8x1024x1x4x1, .i1⟩
  | 16 => ⟨S1x1x1x1x1, .i32⟩
  | 17 => ⟨S8x1024x1x4x1, .i32⟩
  | 18 => ⟨S8x1024x1x4x1, .i1⟩
  | 19 => ⟨S8x1024x1x4x1, .i1⟩
  | 20 => ⟨S_, .i1⟩
  | 21 => ⟨S8x1024x1x4, .i1⟩
  | 22 => ⟨S8x1024x1x4, .f32⟩
  | 23 => ⟨S_, .f32⟩
  | 24 => ⟨S8x1024x1x4, .f32⟩
  | 25 => ⟨S8x1024x1x4, .f32⟩
  | 26 => ⟨S8x1024x4, .f32⟩
  | 27 => ⟨S8x1x64, .i32⟩
  | 28 => ⟨S8x1024x64, .i32⟩
  | 29 => ⟨S8x1024x1, .i32⟩
  | 30 => ⟨S_, .i32⟩
  | 31 => ⟨S8x1024x1, .i32⟩
  | 32 => ⟨S8x1024x1, .i1⟩
  | 33 => ⟨S_, .i32⟩
  | 34 => ⟨S8x1024x1, .i32⟩
  | 35 => ⟨S8x1024x1, .i32⟩
  | 36 => ⟨S8x1024x1, .i32⟩
  | 37 => ⟨S8x1024x1x1, .i32⟩
  | 38 => ⟨S1, .i32⟩
  | 39 => ⟨S_, .i32⟩
  | 40 => ⟨S8x1024x1x1, .i32⟩
  | 41 => ⟨S8x1024x1x1, .i1⟩
  | 42 => ⟨S1x1x1x1, .i32⟩
  | 43 => ⟨S8x1024x1x1, .i32⟩
  | 44 => ⟨S8x1024x1x1, .i1⟩
  | 45 => ⟨S8x1024x1x1, .i1⟩
  | 46 => ⟨S_, .i1⟩
  | 47 => ⟨S8x1024x1, .i1⟩
  | 48 => ⟨S8x1024x1, .i32⟩
  | 49 => ⟨S_, .i32⟩
  | 50 => ⟨S8x1024x1, .i32⟩
  | 51 => ⟨S8x1024x1, .i32⟩
  | 52 => ⟨S8x1024x1, .f32⟩
  | 53 => ⟨S8x1024, .f32⟩
  | 54 => ⟨S8x1024x1, .f32⟩
  | 55 => ⟨S8x1024, .f32⟩
  | 56 => ⟨S8x1024, .f32⟩
  | 57 => ⟨S8x1024x1, .f32⟩
  | 58 => ⟨S8x1024, .f32⟩
  | 59 => ⟨S8x1024x1, .f32⟩
  | 60 => ⟨S8x1024, .f32⟩
  | 61 => ⟨S8x1024, .f32⟩
  | 62 => ⟨S8x1024x1, .f32⟩
  | 63 => ⟨S8x1024, .f32⟩
  | 64 => ⟨S8x1024x1, .f32⟩
  | 65 => ⟨S8x1024, .f32⟩
  | 66 => ⟨S8x1024, .f32⟩
  | 67 => ⟨S8x1024x1, .f32⟩
  | 68 => ⟨S8x1024, .f32⟩
  | 69 => ⟨S8x1024x1, .f32⟩
  | 70 => ⟨S8x1024, .f32⟩
  | 71 => ⟨S8x1024, .f32⟩
  | 72 => ⟨S8x1024x64, .i32⟩
  | 73 => ⟨S_, .i32⟩
  | 74 => ⟨S8x1024, .i32⟩
  | 75 => ⟨S_, .i32⟩
  | 76 => ⟨S8x1024, .i32⟩
  | 77 => ⟨S8x1024, .i1⟩
  | 78 => ⟨S8x1024, .f32⟩
  | 79 => ⟨S8x1024, .f32⟩
  | 80 => ⟨S_, .f32⟩
  | 81 => ⟨S8x1024, .f32⟩
  | 82 => ⟨S8x1024, .f32⟩
  | 83 => ⟨S8x1024, .f32⟩
  | 84 => ⟨S_, .f32⟩
  | 85 => ⟨S_, .f32⟩
  | 86 => ⟨S8x1024, .f32⟩
  | 87 => ⟨S8x1024, .f32⟩
  | 88 => ⟨S8x1024, .f32⟩
  | 89 => ⟨S_, .f32⟩
  | 90 => ⟨S_, .f32⟩
  | 91 => ⟨S8x1024, .f32⟩
  | 92 => ⟨S8x1024, .f32⟩
  | 93 => ⟨S8x1024x1, .f32⟩
  | 94 => ⟨S8x1024x1, .i1⟩
  | 95 => ⟨S_, .i32⟩
  | 96 => ⟨S_, .i32⟩
  | 97 => ⟨S8x1024x1, .i32⟩
  | 98 => ⟨S8x1024x1, .i32⟩
  | 99 => ⟨S8x1024x1, .i1⟩
  | 100 => ⟨S_, .f32⟩
  | 101 => ⟨S_, .f32⟩
  | 102 => ⟨S8x1024x4, .i1⟩
  | 103 => ⟨S8x1024x4, .f32⟩
  | 104 => ⟨S8x1024x4, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S16x16, .f32⟩
  | 120 => ⟨S16x16, .f32⟩
  | 121 => ⟨S256, .f32⟩
  | 122 => ⟨S256, .f32⟩
  | 123 => ⟨S1x256x1, .f32⟩
  | 124 => ⟨S8x64x1, .f32⟩
  | 125 => ⟨S8x64, .f32⟩
  | 126 => ⟨S8x1x64, .f32⟩
  | 127 => ⟨S8x256x64, .f32⟩
  | _ => ⟨S8x80x64x64, .f32⟩

abbrev hbmTy0_4 (i : Nat) : BufTy := match i % 128 with
  | 0 => ⟨S8x256x64, .f32⟩
  | 1 => ⟨S8x256x64, .f32⟩
  | 2 => ⟨S1x256x1, .f32⟩
  | 3 => ⟨S8x64x1, .f32⟩
  | 4 => ⟨S8x64, .f32⟩
  | 5 => ⟨S8x1x64, .f32⟩
  | 6 => ⟨S8x256x64, .f32⟩
  | 7 => ⟨S8x256x64, .f32⟩
  | 8 => ⟨S8x256x64, .f32⟩
  | 9 => ⟨S8x64x1, .f32⟩
  | 10 => ⟨S8x64, .f32⟩
  | 11 => ⟨S8x1x64, .f32⟩
  | 12 => ⟨S1x256x1, .f32⟩
  | 13 => ⟨S8x256x64, .f32⟩
  | 14 => ⟨S8x256x64, .f32⟩
  | 15 => ⟨S8x256x64, .f32⟩
  | 16 => ⟨S8x64x1, .f32⟩
  | 17 => ⟨S8x64, .f32⟩
  | 18 => ⟨S8x1x64, .f32⟩
  | 19 => ⟨S1x256x1, .f32⟩
  | 20 => ⟨S8x256x64, .f32⟩
  | 21 => ⟨S8x256x64, .f32⟩
  | 22 => ⟨S8x256x64, .f32⟩
  | 23 => ⟨S8x256x64x1, .f32⟩
  | 24 => ⟨S8x256x64x1, .f32⟩
  | 25 => ⟨S8x256x64x1, .f32⟩
  | 26 => ⟨S8x256x64x1, .f32⟩
  | 27 => ⟨S8x256x64x4, .f32⟩
  | 28 => ⟨S8x256x64x1, .f32⟩
  | 29 => ⟨S8x256x64, .f32⟩
  | 30 => ⟨S8x256x64x1, .f32⟩
  | 31 => ⟨S8x256x64, .f32⟩
  | 32 => ⟨S8x256x64, .f32⟩
  | 33 => ⟨S8x256x64x1, .f32⟩
  | 34 => ⟨S8x256x64, .f32⟩
  | 35 => ⟨S8x256x64x1, .f32⟩
  | 36 => ⟨S8x256x64, .f32⟩
  | 37 => ⟨S8x256x64, .f32⟩
  | 38 => ⟨S8x256x64, .f32⟩
  | 39 => ⟨S_, .f32⟩
  | 40 => ⟨S8x256x64, .f32⟩
  | 41 => ⟨S_, .f32⟩
  | 42 => ⟨S8x256x64, .f32⟩
  | 43 => ⟨S_, .f32⟩
  | 44 => ⟨S8x256x64, .f32⟩
  | 45 => ⟨S8x256x64, .i1⟩
  | 46 => ⟨S_, .f32⟩
  | 47 => ⟨S8x256x64, .f32⟩
  | 48 => ⟨S8x256x64, .i1⟩
  | 49 => ⟨S_, .f32⟩
  | 50 => ⟨S8x256x64, .f32⟩
  | 51 => ⟨S8x256x64, .i1⟩
  | 52 => ⟨S8x256x64, .i1⟩
  | 53 => ⟨S8x64x1, .f32⟩
  | 54 => ⟨S8x64, .f32⟩
  | 55 => ⟨S8x64x1, .f32⟩
  | 56 => ⟨S8x64, .f32⟩
  | 57 => ⟨S8x64, .f32⟩
  | 58 => ⟨S_, .f32⟩
  | 59 => ⟨S8x64, .f32⟩
  | 60 => ⟨S8x64, .f32⟩
  | 61 => ⟨S8x64x1, .f32⟩
  | 62 => ⟨S8x64, .f32⟩
  | 63 => ⟨S8x64x1, .f32⟩
  | 64 => ⟨S8x64, .f32⟩
  | 65 => ⟨S8x64, .f32⟩
  | 66 => ⟨S_, .f32⟩
  | 67 => ⟨S8x64, .f32⟩
  | 68 => ⟨S8x64, .f32⟩
  | 69 => ⟨S1x256x1, .f32⟩
  | 70 => ⟨S8x1x64, .f32⟩
  | 71 => ⟨S8x256x64, .f32⟩
  | 72 => ⟨S8x256x64, .f32⟩
  | 73 => ⟨S8x256x64, .f32⟩
  | 74 => ⟨S1x256x1, .f32⟩
  | 75 => ⟨S8x1x64, .f32⟩
  | 76 => ⟨S8x256x64, .f32⟩
  | 77 => ⟨S8x256x64, .f32⟩
  | 78 => ⟨S8x256x64, .f32⟩
  | 79 => ⟨S8x1x64, .f32⟩
  | 80 => ⟨S1x256x1, .f32⟩
  | 81 => ⟨S8x256x64, .f32⟩
  | 82 => ⟨S8x256x64, .f32⟩
  | 83 => ⟨S8x256x64, .f32⟩
  | 84 => ⟨S8x1x64, .f32⟩
  | 85 => ⟨S1x256x1, .f32⟩
  | 86 => ⟨S8x256x64, .f32⟩
  | 87 => ⟨S8x256x64, .f32⟩
  | 88 => ⟨S8x256x64, .f32⟩
  | 89 => ⟨S8x256x64x1, .f32⟩
  | 90 => ⟨S8x256x64x1, .f32⟩
  | 91 => ⟨S8x256x64x1, .f32⟩
  | 92 => ⟨S8x256x64x1, .f32⟩
  | 93 => ⟨S8x256x64x4, .f32⟩
  | 94 => ⟨S_, .f32⟩
  | 95 => ⟨S8x256x64, .f32⟩
  | 96 => ⟨S_, .f32⟩
  | 97 => ⟨S8x256x64, .f32⟩
  | 98 => ⟨S8x256x64, .i1⟩
  | 99 => ⟨S8x256x64, .i1⟩
  | 100 => ⟨S8x256x64, .i1⟩
  | 101 => ⟨S_, .f32⟩
  | 102 => ⟨S_, .f32⟩
  | 103 => ⟨S8x256x64, .f32⟩
  | 104 => ⟨S8x256x64, .f32⟩
  | 105 => ⟨S8x256x64, .i32⟩
  | 106 => ⟨S_, .f32⟩
  | 107 => ⟨S_, .i32⟩
  | 108 => ⟨S8x256, .f32⟩
  | 109 => ⟨S8x256, .i32⟩
  | 110 => ⟨S8x256x1x1, .i32⟩
  | 111 => ⟨S8x256x1x4, .i32⟩
  | 112 => ⟨S_, .i32⟩
  | 113 => ⟨S8x256x1x4, .i32⟩
  | 114 => ⟨S8x256x1x4, .i1⟩
  | 115 => ⟨S_, .i32⟩
  | 116 => ⟨S8x256x1x4, .i32⟩
  | 117 => ⟨S8x256x1x4, .i32⟩
  | 118 => ⟨S8x256x1x4, .i32⟩
  | 119 => ⟨S8x256x1x4x1, .i32⟩
  | 120 => ⟨S1, .i32⟩
  | 121 => ⟨S_, .i32⟩
  | 122 => ⟨S8x256x1x4x1, .i32⟩
  | 123 => ⟨S8x256x1x4x1, .i1⟩
  | 124 => ⟨S1x1x1x1x1, .i32⟩
  | 125 => ⟨S8x256x1x4x1, .i32⟩
  | 126 => ⟨S8x256x1x4x1, .i1⟩
  | 127 => ⟨S8x256x1x4x1, .i1⟩
  | _ => ⟨S8x80x64x64, .f32⟩

abbrev hbmTy0_5 (i : Nat) : BufTy := match i % 128 with
  | 0 => ⟨S_, .i1⟩
  | 1 => ⟨S8x256x1x4, .i1⟩
  | 2 => ⟨S8x256x1x4, .f32⟩
  | 3 => ⟨S_, .f32⟩
  | 4 => ⟨S8x256x1x4, .f32⟩
  | 5 => ⟨S8x256x1x4, .f32⟩
  | 6 => ⟨S8x256x4, .f32⟩
  | 7 => ⟨S8x1x64, .i32⟩
  | 8 => ⟨S8x256x64, .i32⟩
  | 9 => ⟨S8x256x1, .i32⟩
  | 10 => ⟨S_, .i32⟩
  | 11 => ⟨S8x256x1, .i32⟩
  | 12 => ⟨S8x256x1, .i1⟩
  | 13 => ⟨S_, .i32⟩
  | 14 => ⟨S8x256x1, .i32⟩
  | 15 => ⟨S8x256x1, .i32⟩
  | 16 => ⟨S8x256x1, .i32⟩
  | 17 => ⟨S8x256x1x1, .i32⟩
  | 18 => ⟨S1, .i32⟩
  | 19 => ⟨S_, .i32⟩
  | 20 => ⟨S8x256x1x1, .i32⟩
  | 21 => ⟨S8x256x1x1, .i1⟩
  | 22 => ⟨S1x1x1x1, .i32⟩
  | 23 => ⟨S8x256x1x1, .i32⟩
  | 24 => ⟨S8x256x1x1, .i1⟩
  | 25 => ⟨S8x256x1x1, .i1⟩
  | 26 => ⟨S_, .i1⟩
  | 27 => ⟨S8x256x1, .i1⟩
  | 28 => ⟨S8x256x1, .i32⟩
  | 29 => ⟨S_, .i32⟩
  | 30 => ⟨S8x256x1, .i32⟩
  | 31 => ⟨S8x256x1, .i32⟩
  | 32 => ⟨S8x256x1, .f32⟩
  | 33 => ⟨S8x256, .f32⟩
  | 34 => ⟨S8x256x1, .f32⟩
  | 35 => ⟨S8x256, .f32⟩
  | 36 => ⟨S8x256, .f32⟩
  | 37 => ⟨S8x256x1, .f32⟩
  | 38 => ⟨S8x256, .f32⟩
  | 39 => ⟨S8x256x1, .f32⟩
  | 40 => ⟨S8x256, .f32⟩
  | 41 => ⟨S8x256, .f32⟩
  | 42 => ⟨S8x256x1, .f32⟩
  | 43 => ⟨S8x256, .f32⟩
  | 44 => ⟨S8x256x1, .f32⟩
  | 45 => ⟨S8x256, .f32⟩
  | 46 => ⟨S8x256, .f32⟩
  | 47 => ⟨S8x256x1, .f32⟩
  | 48 => ⟨S8x256, .f32⟩
  | 49 => ⟨S8x256x1, .f32⟩
  | 50 => ⟨S8x256, .f32⟩
  | 51 => ⟨S8x256, .f32⟩
  | 52 => ⟨S8x256x64, .i32⟩
  | 53 => ⟨S_, .i32⟩
  | 54 => ⟨S8x256, .i32⟩
  | 55 => ⟨S_, .i32⟩
  | 56 => ⟨S8x256, .i32⟩
  | 57 => ⟨S8x256, .i1⟩
  | 58 => ⟨S8x256, .f32⟩
  | 59 => ⟨S8x256, .f32⟩
  | 60 => ⟨S_, .f32⟩
  | 61 => ⟨S8x256, .f32⟩
  | 62 => ⟨S8x256, .f32⟩
  | 63 => ⟨S8x256, .f32⟩
  | 64 => ⟨S_, .f32⟩
  | 65 => ⟨S_, .f32⟩
  | 66 => ⟨S8x256, .f32⟩
  | 67 => ⟨S8x256, .f32⟩
  | 68 => ⟨S8x256, .f32⟩
  | 69 => ⟨S_, .f32⟩
  | 70 => ⟨S_, .f32⟩
  | 71 => ⟨S8x256, .f32⟩
  | 72 => ⟨S8x256, .f32⟩
  | 73 => ⟨S8x256x1, .f32⟩
  | 74 => ⟨S8x256x1, .i1⟩
  | 75 => ⟨S_, .i32⟩
  | 76 => ⟨S_, .i32⟩
  | 77 => ⟨S8x256x1, .i32⟩
  | 78 => ⟨S8x256x1, .i32⟩
  | 79 => ⟨S8x256x1, .i1⟩
  | 80 => ⟨S_, .f32⟩
  | 81 => ⟨S_, .f32⟩
  | 82 => ⟨S8x256x4, .i1⟩
  | 83 => ⟨S8x256x4, .f32⟩
  | 84 => ⟨S8x256x4, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S8, .f32⟩
  | 93 => ⟨S_, .f32⟩
  | 94 => ⟨S8, .f32⟩
  | 95 => ⟨S8, .f32⟩
  | 96 => ⟨S_, .f32⟩
  | 97 => ⟨S8, .f32⟩
  | 98 => ⟨S8, .f32⟩
  | 99 => ⟨S8x8, .f32⟩
  | 100 => ⟨S8x8, .f32⟩
  | 101 => ⟨S64, .f32⟩
  | 102 => ⟨S64, .f32⟩
  | 103 => ⟨S1x64x1, .f32⟩
  | 104 => ⟨S8x64x1, .f32⟩
  | 105 => ⟨S8x64, .f32⟩
  | 106 => ⟨S8x1x64, .f32⟩
  | 107 => ⟨S8x64x64, .f32⟩
  | 108 => ⟨S8x64x64, .f32⟩
  | 109 => ⟨S8x64x64, .f32⟩
  | 110 => ⟨S1x64x1, .f32⟩
  | 111 => ⟨S8x64x1, .f32⟩
  | 112 => ⟨S8x64, .f32⟩
  | 113 => ⟨S8x1x64, .f32⟩
  | 114 => ⟨S8x64x64, .f32⟩
  | 115 => ⟨S8x64x64, .f32⟩
  | 116 => ⟨S8x64x64, .f32⟩
  | 117 => ⟨S8x64x1, .f32⟩
  | 118 => ⟨S8x64, .f32⟩
  | 119 => ⟨S8x1x64, .f32⟩
  | 120 => ⟨S1x64x1, .f32⟩
  | 121 => ⟨S8x64x64, .f32⟩
  | 122 => ⟨S8x64x64, .f32⟩
  | 123 => ⟨S8x64x64, .f32⟩
  | 124 => ⟨S8x64x1, .f32⟩
  | 125 => ⟨S8x64, .f32⟩
  | 126 => ⟨S8x1x64, .f32⟩
  | 127 => ⟨S1x64x1, .f32⟩
  | _ => ⟨S8x80x64x64, .f32⟩

abbrev hbmTy0_6 (i : Nat) : BufTy := match i % 128 with
  | 0 => ⟨S8x64x64, .f32⟩
  | 1 => ⟨S8x64x64, .f32⟩
  | 2 => ⟨S8x64x64, .f32⟩
  | 3 => ⟨S8x64x64x1, .f32⟩
  | 4 => ⟨S8x64x64x1, .f32⟩
  | 5 => ⟨S8x64x64x1, .f32⟩
  | 6 => ⟨S8x64x64x1, .f32⟩
  | 7 => ⟨S8x64x64x4, .f32⟩
  | 8 => ⟨S8x64x64x1, .f32⟩
  | 9 => ⟨S8x64x64, .f32⟩
  | 10 => ⟨S8x64x64x1, .f32⟩
  | 11 => ⟨S8x64x64, .f32⟩
  | 12 => ⟨S8x64x64, .f32⟩
  | 13 => ⟨S8x64x64x1, .f32⟩
  | 14 => ⟨S8x64x64, .f32⟩
  | 15 => ⟨S8x64x64x1, .f32⟩
  | 16 => ⟨S8x64x64, .f32⟩
  | 17 => ⟨S8x64x64, .f32⟩
  | 18 => ⟨S8x64x64, .f32⟩
  | 19 => ⟨S_, .f32⟩
  | 20 => ⟨S8x64x64, .f32⟩
  | 21 => ⟨S_, .f32⟩
  | 22 => ⟨S8x64x64, .f32⟩
  | 23 => ⟨S_, .f32⟩
  | 24 => ⟨S8x64x64, .f32⟩
  | 25 => ⟨S8x64x64, .i1⟩
  | 26 => ⟨S_, .f32⟩
  | 27 => ⟨S8x64x64, .f32⟩
  | 28 => ⟨S8x64x64, .i1⟩
  | 29 => ⟨S_, .f32⟩
  | 30 => ⟨S8x64x64, .f32⟩
  | 31 => ⟨S8x64x64, .i1⟩
  | 32 => ⟨S8x64x64, .i1⟩
  | 33 => ⟨S8x64x1, .f32⟩
  | 34 => ⟨S8x64, .f32⟩
  | 35 => ⟨S8x64x1, .f32⟩
  | 36 => ⟨S8x64, .f32⟩
  | 37 => ⟨S8x64, .f32⟩
  | 38 => ⟨S_, .f32⟩
  | 39 => ⟨S8x64, .f32⟩
  | 40 => ⟨S8x64, .f32⟩
  | 41 => ⟨S8x64x1, .f32⟩
  | 42 => ⟨S8x64, .f32⟩
  | 43 => ⟨S8x64x1, .f32⟩
  | 44 => ⟨S8x64, .f32⟩
  | 45 => ⟨S8x64, .f32⟩
  | 46 => ⟨S_, .f32⟩
  | 47 => ⟨S8x64, .f32⟩
  | 48 => ⟨S8x64, .f32⟩
  | 49 => ⟨S1x64x1, .f32⟩
  | 50 => ⟨S8x1x64, .f32⟩
  | 51 => ⟨S8x64x64, .f32⟩
  | 52 => ⟨S8x64x64, .f32⟩
  | 53 => ⟨S8x64x64, .f32⟩
  | 54 => ⟨S1x64x1, .f32⟩
  | 55 => ⟨S8x1x64, .f32⟩
  | 56 => ⟨S8x64x64, .f32⟩
  | 57 => ⟨S8x64x64, .f32⟩
  | 58 => ⟨S8x64x64, .f32⟩
  | 59 => ⟨S8x1x64, .f32⟩
  | 60 => ⟨S1x64x1, .f32⟩
  | 61 => ⟨S8x64x64, .f32⟩
  | 62 => ⟨S8x64x64, .f32⟩
  | 63 => ⟨S8x64x64, .f32⟩
  | 64 => ⟨S8x1x64, .f32⟩
  | 65 => ⟨S1x64x1, .f32⟩
  | 66 => ⟨S8x64x64, .f32⟩
  | 67 => ⟨S8x64x64, .f32⟩
  | 68 => ⟨S8x64x64, .f32⟩
  | 69 => ⟨S8x64x64x1, .f32⟩
  | 70 => ⟨S8x64x64x1, .f32⟩
  | 71 => ⟨S8x64x64x1, .f32⟩
  | 72 => ⟨S8x64x64x1, .f32⟩
  | 73 => ⟨S8x64x64x4, .f32⟩
  | 74 => ⟨S_, .f32⟩
  | 75 => ⟨S8x64x64, .f32⟩
  | 76 => ⟨S_, .f32⟩
  | 77 => ⟨S8x64x64, .f32⟩
  | 78 => ⟨S8x64x64, .i1⟩
  | 79 => ⟨S8x64x64, .i1⟩
  | 80 => ⟨S8x64x64, .i1⟩
  | 81 => ⟨S_, .f32⟩
  | 82 => ⟨S_, .f32⟩
  | 83 => ⟨S8x64x64, .f32⟩
  | 84 => ⟨S8x64x64, .f32⟩
  | 85 => ⟨S8x64x64, .i32⟩
  | 86 => ⟨S_, .f32⟩
  | 87 => ⟨S_, .i32⟩
  | 88 => ⟨S8x64, .f32⟩
  | 89 => ⟨S8x64, .i32⟩
  | 90 => ⟨S8x64x1x1, .i32⟩
  | 91 => ⟨S8x64x1x4, .i32⟩
  | 92 => ⟨S_, .i32⟩
  | 93 => ⟨S8x64x1x4, .i32⟩
  | 94 => ⟨S8x64x1x4, .i1⟩
  | 95 => ⟨S_, .i32⟩
  | 96 => ⟨S8x64x1x4, .i32⟩
  | 97 => ⟨S8x64x1x4, .i32⟩
  | 98 => ⟨S8x64x1x4, .i32⟩
  | 99 => ⟨S8x64x1x4x1, .i32⟩
  | 100 => ⟨S1, .i32⟩
  | 101 => ⟨S_, .i32⟩
  | 102 => ⟨S8x64x1x4x1, .i32⟩
  | 103 => ⟨S8x64x1x4x1, .i1⟩
  | 104 => ⟨S1x1x1x1x1, .i32⟩
  | 105 => ⟨S8x64x1x4x1, .i32⟩
  | 106 => ⟨S8x64x1x4x1, .i1⟩
  | 107 => ⟨S8x64x1x4x1, .i1⟩
  | 108 => ⟨S_, .i1⟩
  | 109 => ⟨S8x64x1x4, .i1⟩
  | 110 => ⟨S8x64x1x4, .f32⟩
  | 111 => ⟨S_, .f32⟩
  | 112 => ⟨S8x64x1x4, .f32⟩
  | 113 => ⟨S8x64x1x4, .f32⟩
  | 114 => ⟨S8x64x4, .f32⟩
  | 115 => ⟨S8x1x64, .i32⟩
  | 116 => ⟨S8x64x64, .i32⟩
  | 117 => ⟨S8x64x1, .i32⟩
  | 118 => ⟨S_, .i32⟩
  | 119 => ⟨S8x64x1, .i32⟩
  | 120 => ⟨S8x64x1, .i1⟩
  | 121 => ⟨S_, .i32⟩
  | 122 => ⟨S8x64x1, .i32⟩
  | 123 => ⟨S8x64x1, .i32⟩
  | 124 => ⟨S8x64x1, .i32⟩
  | 125 => ⟨S8x64x1x1, .i32⟩
  | 126 => ⟨S1, .i32⟩
  | 127 => ⟨S_, .i32⟩
  | _ => ⟨S8x80x64x64, .f32⟩

abbrev hbmTy0_7 (i : Nat) : BufTy := match i % 128 with
  | 0 => ⟨S8x64x1x1, .i32⟩
  | 1 => ⟨S8x64x1x1, .i1⟩
  | 2 => ⟨S1x1x1x1, .i32⟩
  | 3 => ⟨S8x64x1x1, .i32⟩
  | 4 => ⟨S8x64x1x1, .i1⟩
  | 5 => ⟨S8x64x1x1, .i1⟩
  | 6 => ⟨S_, .i1⟩
  | 7 => ⟨S8x64x1, .i1⟩
  | 8 => ⟨S8x64x1, .i32⟩
  | 9 => ⟨S_, .i32⟩
  | 10 => ⟨S8x64x1, .i32⟩
  | 11 => ⟨S8x64x1, .i32⟩
  | 12 => ⟨S8x64x1, .f32⟩
  | 13 => ⟨S8x64, .f32⟩
  | 14 => ⟨S8x64x1, .f32⟩
  | 15 => ⟨S8x64, .f32⟩
  | 16 => ⟨S8x64, .f32⟩
  | 17 => ⟨S8x64x1, .f32⟩
  | 18 => ⟨S8x64, .f32⟩
  | 19 => ⟨S8x64x1, .f32⟩
  | 20 => ⟨S8x64, .f32⟩
  | 21 => ⟨S8x64, .f32⟩
  | 22 => ⟨S8x64x1, .f32⟩
  | 23 => ⟨S8x64, .f32⟩
  | 24 => ⟨S8x64x1, .f32⟩
  | 25 => ⟨S8x64, .f32⟩
  | 26 => ⟨S8x64, .f32⟩
  | 27 => ⟨S8x64x1, .f32⟩
  | 28 => ⟨S8x64, .f32⟩
  | 29 => ⟨S8x64x1, .f32⟩
  | 30 => ⟨S8x64, .f32⟩
  | 31 => ⟨S8x64, .f32⟩
  | 32 => ⟨S8x64x64, .i32⟩
  | 33 => ⟨S_, .i32⟩
  | 34 => ⟨S8x64, .i32⟩
  | 35 => ⟨S_, .i32⟩
  | 36 => ⟨S8x64, .i32⟩
  | 37 => ⟨S8x64, .i1⟩
  | 38 => ⟨S8x64, .f32⟩
  | 39 => ⟨S8x64, .f32⟩
  | 40 => ⟨S_, .f32⟩
  | 41 => ⟨S8x64, .f32⟩
  | 42 => ⟨S8x64, .f32⟩
  | 43 => ⟨S8x64, .f32⟩
  | 44 => ⟨S_, .f32⟩
  | 45 => ⟨S_, .f32⟩
  | 46 => ⟨S8x64, .f32⟩
  | 47 => ⟨S8x64, .f32⟩
  | 48 => ⟨S8x64, .f32⟩
  | 49 => ⟨S_, .f32⟩
  | 50 => ⟨S_, .f32⟩
  | 51 => ⟨S8x64, .f32⟩
  | 52 => ⟨S8x64, .f32⟩
  | 53 => ⟨S8x64x1, .f32⟩
  | 54 => ⟨S8x64x1, .i1⟩
  | 55 => ⟨S_, .i32⟩
  | 56 => ⟨S_, .i32⟩
  | 57 => ⟨S8x64x1, .i32⟩
  | 58 => ⟨S8x64x1, .i32⟩
  | 59 => ⟨S8x64x1, .i1⟩
  | 60 => ⟨S_, .f32⟩
  | 61 => ⟨S_, .f32⟩
  | 62 => ⟨S8x64x4, .i1⟩
  | 63 => ⟨S8x64x4, .f32⟩
  | 64 => ⟨S8x64x4, .f32⟩
  | 65 => ⟨S4, .f32⟩
  | 66 => ⟨S_, .f32⟩
  | 67 => ⟨S4, .f32⟩
  | 68 => ⟨S4, .f32⟩
  | 69 => ⟨S_, .f32⟩
  | 70 => ⟨S4, .f32⟩
  | 71 => ⟨S4, .f32⟩
  | 72 => ⟨S4, .f32⟩
  | 73 => ⟨S_, .f32⟩
  | 74 => ⟨S4, .f32⟩
  | 75 => ⟨S4, .f32⟩
  | 76 => ⟨S_, .f32⟩
  | 77 => ⟨S4, .f32⟩
  | 78 => ⟨S4, .f32⟩
  | 79 => ⟨S4x4, .f32⟩
  | 80 => ⟨S4x4, .f32⟩
  | 81 => ⟨S16, .f32⟩
  | 82 => ⟨S16, .f32⟩
  | 83 => ⟨S1x16x1, .f32⟩
  | 84 => ⟨S8x64x1, .f32⟩
  | 85 => ⟨S8x64, .f32⟩
  | 86 => ⟨S8x1x64, .f32⟩
  | 87 => ⟨S8x16x64, .f32⟩
  | 88 => ⟨S8x16x64, .f32⟩
  | 89 => ⟨S8x16x64, .f32⟩
  | 90 => ⟨S1x16x1, .f32⟩
  | 91 => ⟨S8x64x1, .f32⟩
  | 92 => ⟨S8x64, .f32⟩
  | 93 => ⟨S8x1x64, .f32⟩
  | 94 => ⟨S8x16x64, .f32⟩
  | 95 => ⟨S8x16x64, .f32⟩
  | 96 => ⟨S8x16x64, .f32⟩
  | 97 => ⟨S8x64x1, .f32⟩
  | 98 => ⟨S8x64, .f32⟩
  | 99 => ⟨S8x1x64, .f32⟩
  | 100 => ⟨S1x16x1, .f32⟩
  | 101 => ⟨S8x16x64, .f32⟩
  | 102 => ⟨S8x16x64, .f32⟩
  | 103 => ⟨S8x16x64, .f32⟩
  | 104 => ⟨S8x64x1, .f32⟩
  | 105 => ⟨S8x64, .f32⟩
  | 106 => ⟨S8x1x64, .f32⟩
  | 107 => ⟨S1x16x1, .f32⟩
  | 108 => ⟨S8x16x64, .f32⟩
  | 109 => ⟨S8x16x64, .f32⟩
  | 110 => ⟨S8x16x64, .f32⟩
  | 111 => ⟨S8x16x64x1, .f32⟩
  | 112 => ⟨S8x16x64x1, .f32⟩
  | 113 => ⟨S8x16x64x1, .f32⟩
  | 114 => ⟨S8x16x64x1, .f32⟩
  | 115 => ⟨S8x16x64x4, .f32⟩
  | 116 => ⟨S8x16x64x1, .f32⟩
  | 117 => ⟨S8x16x64, .f32⟩
  | 118 => ⟨S8x16x64x1, .f32⟩
  | 119 => ⟨S8x16x64, .f32⟩
  | 120 => ⟨S8x16x64, .f32⟩
  | 121 => ⟨S8x16x64x1, .f32⟩
  | 122 => ⟨S8x16x64, .f32⟩
  | 123 => ⟨S8x16x64x1, .f32⟩
  | 124 => ⟨S8x16x64, .f32⟩
  | 125 => ⟨S8x16x64, .f32⟩
  | 126 => ⟨S8x16x64, .f32⟩
  | 127 => ⟨S_, .f32⟩
  | _ => ⟨S8x80x64x64, .f32⟩

abbrev hbmTy0_8 (i : Nat) : BufTy := match i % 128 with
  | 0 => ⟨S8x16x64, .f32⟩
  | 1 => ⟨S_, .f32⟩
  | 2 => ⟨S8x16x64, .f32⟩
  | 3 => ⟨S_, .f32⟩
  | 4 => ⟨S8x16x64, .f32⟩
  | 5 => ⟨S8x16x64, .i1⟩
  | 6 => ⟨S_, .f32⟩
  | 7 => ⟨S8x16x64, .f32⟩
  | 8 => ⟨S8x16x64, .i1⟩
  | 9 => ⟨S_, .f32⟩
  | 10 => ⟨S8x16x64, .f32⟩
  | 11 => ⟨S8x16x64, .i1⟩
  | 12 => ⟨S8x16x64, .i1⟩
  | 13 => ⟨S8x64x1, .f32⟩
  | 14 => ⟨S8x64, .f32⟩
  | 15 => ⟨S8x64x1, .f32⟩
  | 16 => ⟨S8x64, .f32⟩
  | 17 => ⟨S8x64, .f32⟩
  | 18 => ⟨S_, .f32⟩
  | 19 => ⟨S8x64, .f32⟩
  | 20 => ⟨S8x64, .f32⟩
  | 21 => ⟨S8x64x1, .f32⟩
  | 22 => ⟨S8x64, .f32⟩
  | 23 => ⟨S8x64x1, .f32⟩
  | 24 => ⟨S8x64, .f32⟩
  | 25 => ⟨S8x64, .f32⟩
  | 26 => ⟨S_, .f32⟩
  | 27 => ⟨S8x64, .f32⟩
  | 28 => ⟨S8x64, .f32⟩
  | 29 => ⟨S1x16x1, .f32⟩
  | 30 => ⟨S8x1x64, .f32⟩
  | 31 => ⟨S8x16x64, .f32⟩
  | 32 => ⟨S8x16x64, .f32⟩
  | 33 => ⟨S8x16x64, .f32⟩
  | 34 => ⟨S1x16x1, .f32⟩
  | 35 => ⟨S8x1x64, .f32⟩
  | 36 => ⟨S8x16x64, .f32⟩
  | 37 => ⟨S8x16x64, .f32⟩
  | 38 => ⟨S8x16x64, .f32⟩
  | 39 => ⟨S8x1x64, .f32⟩
  | 40 => ⟨S1x16x1, .f32⟩
  | 41 => ⟨S8x16x64, .f32⟩
  | 42 => ⟨S8x16x64, .f32⟩
  | 43 => ⟨S8x16x64, .f32⟩
  | 44 => ⟨S8x1x64, .f32⟩
  | 45 => ⟨S1x16x1, .f32⟩
  | 46 => ⟨S8x16x64, .f32⟩
  | 47 => ⟨S8x16x64, .f32⟩
  | 48 => ⟨S8x16x64, .f32⟩
  | 49 => ⟨S8x16x64x1, .f32⟩
  | 50 => ⟨S8x16x64x1, .f32⟩
  | 51 => ⟨S8x16x64x1, .f32⟩
  | 52 => ⟨S8x16x64x1, .f32⟩
  | 53 => ⟨S8x16x64x4, .f32⟩
  | 54 => ⟨S_, .f32⟩
  | 55 => ⟨S8x16x64, .f32⟩
  | 56 => ⟨S_, .f32⟩
  | 57 => ⟨S8x16x64, .f32⟩
  | 58 => ⟨S8x16x64, .i1⟩
  | 59 => ⟨S8x16x64, .i1⟩
  | 60 => ⟨S8x16x64, .i1⟩
  | 61 => ⟨S_, .f32⟩
  | 62 => ⟨S_, .f32⟩
  | 63 => ⟨S8x16x64, .f32⟩
  | 64 => ⟨S8x16x64, .f32⟩
  | 65 => ⟨S8x16x64, .i32⟩
  | 66 => ⟨S_, .f32⟩
  | 67 => ⟨S_, .i32⟩
  | 68 => ⟨S8x16, .f32⟩
  | 69 => ⟨S8x16, .i32⟩
  | 70 => ⟨S8x16x1x1, .i32⟩
  | 71 => ⟨S8x16x1x4, .i32⟩
  | 72 => ⟨S_, .i32⟩
  | 73 => ⟨S8x16x1x4, .i32⟩
  | 74 => ⟨S8x16x1x4, .i1⟩
  | 75 => ⟨S_, .i32⟩
  | 76 => ⟨S8x16x1x4, .i32⟩
  | 77 => ⟨S8x16x1x4, .i32⟩
  | 78 => ⟨S8x16x1x4, .i32⟩
  | 79 => ⟨S8x16x1x4x1, .i32⟩
  | 80 => ⟨S1, .i32⟩
  | 81 => ⟨S_, .i32⟩
  | 82 => ⟨S8x16x1x4x1, .i32⟩
  | 83 => ⟨S8x16x1x4x1, .i1⟩
  | 84 => ⟨S1x1x1x1x1, .i32⟩
  | 85 => ⟨S8x16x1x4x1, .i32⟩
  | 86 => ⟨S8x16x1x4x1, .i1⟩
  | 87 => ⟨S8x16x1x4x1, .i1⟩
  | 88 => ⟨S_, .i1⟩
  | 89 => ⟨S8x16x1x4, .i1⟩
  | 90 => ⟨S8x16x1x4, .f32⟩
  | 91 => ⟨S_, .f32⟩
  | 92 => ⟨S8x16x1x4, .f32⟩
  | 93 => ⟨S8x16x1x4, .f32⟩
  | 94 => ⟨S8x16x4, .f32⟩
  | 95 => ⟨S8x1x64, .i32⟩
  | 96 => ⟨S8x16x64, .i32⟩
  | 97 => ⟨S8x16x1, .i32⟩
  | 98 => ⟨S_, .i32⟩
  | 99 => ⟨S8x16x1, .i32⟩
  | 100 => ⟨S8x16x1, .i1⟩
  | 101 => ⟨S_, .i32⟩
  | 102 => ⟨S8x16x1, .i32⟩
  | 103 => ⟨S8x16x1, .i32⟩
  | 104 => ⟨S8x16x1, .i32⟩
  | 105 => ⟨S8x16x1x1, .i32⟩
  | 106 => ⟨S1, .i32⟩
  | 107 => ⟨S_, .i32⟩
  | 108 => ⟨S8x16x1x1, .i32⟩
  | 109 => ⟨S8x16x1x1, .i1⟩
  | 110 => ⟨S1x1x1x1, .i32⟩
  | 111 => ⟨S8x16x1x1, .i32⟩
  | 112 => ⟨S8x16x1x1, .i1⟩
  | 113 => ⟨S8x16x1x1, .i1⟩
  | 114 => ⟨S_, .i1⟩
  | 115 => ⟨S8x16x1, .i1⟩
  | 116 => ⟨S8x16x1, .i32⟩
  | 117 => ⟨S_, .i32⟩
  | 118 => ⟨S8x16x1, .i32⟩
  | 119 => ⟨S8x16x1, .i32⟩
  | 120 => ⟨S8x16x1, .f32⟩
  | 121 => ⟨S8x16, .f32⟩
  | 122 => ⟨S8x16x1, .f32⟩
  | 123 => ⟨S8x16, .f32⟩
  | 124 => ⟨S8x16, .f32⟩
  | 125 => ⟨S8x16x1, .f32⟩
  | 126 => ⟨S8x16, .f32⟩
  | 127 => ⟨S8x16x1, .f32⟩
  | _ => ⟨S8x80x64x64, .f32⟩

abbrev hbmTy0_9 (i : Nat) : BufTy := match i % 128 with
  | 0 => ⟨S8x16, .f32⟩
  | 1 => ⟨S8x16, .f32⟩
  | 2 => ⟨S8x16x1, .f32⟩
  | 3 => ⟨S8x16, .f32⟩
  | 4 => ⟨S8x16x1, .f32⟩
  | 5 => ⟨S8x16, .f32⟩
  | 6 => ⟨S8x16, .f32⟩
  | 7 => ⟨S8x16x1, .f32⟩
  | 8 => ⟨S8x16, .f32⟩
  | 9 => ⟨S8x16x1, .f32⟩
  | 10 => ⟨S8x16, .f32⟩
  | 11 => ⟨S8x16, .f32⟩
  | 12 => ⟨S8x16x64, .i32⟩
  | 13 => ⟨S_, .i32⟩
  | 14 => ⟨S8x16, .i32⟩
  | 15 => ⟨S_, .i32⟩
  | 16 => ⟨S8x16, .i32⟩
  | 17 => ⟨S8x16, .i1⟩
  | 18 => ⟨S8x16, .f32⟩
  | 19 => ⟨S8x16, .f32⟩
  | 20 => ⟨S_, .f32⟩
  | 21 => ⟨S8x16, .f32⟩
  | 22 => ⟨S8x16, .f32⟩
  | 23 => ⟨S8x16, .f32⟩
  | 24 => ⟨S_, .f32⟩
  | 25 => ⟨S_, .f32⟩
  | 26 => ⟨S8x16, .f32⟩
  | 27 => ⟨S8x16, .f32⟩
  | 28 => ⟨S8x16, .f32⟩
  | 29 => ⟨S_, .f32⟩
  | 30 => ⟨S_, .f32⟩
  | 31 => ⟨S8x16, .f32⟩
  | 32 => ⟨S8x16, .f32⟩
  | 33 => ⟨S8x16x1, .f32⟩
  | 34 => ⟨S8x16x1, .i1⟩
  | 35 => ⟨S_, .i32⟩
  | 36 => ⟨S_, .i32⟩
  | 37 => ⟨S8x16x1, .i32⟩
  | 38 => ⟨S8x16x1, .i32⟩
  | 39 => ⟨S8x16x1, .i1⟩
  | 40 => ⟨S_, .f32⟩
  | 41 => ⟨S_, .f32⟩
  | 42 => ⟨S8x16x4, .i1⟩
  | 43 => ⟨S8x16x4, .f32⟩
  | 44 => ⟨S8x16x4, .f32⟩
  | 45 => ⟨S8x5456x1, .i32⟩
  | 46 => ⟨S8x5456x1, .f32⟩
  | 47 => ⟨S8x5456x4, .f32⟩
  | _ => ⟨S8x80x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S8x80x64x64, .f32⟩

abbrev bufTy : (tb : Table) → Fin (tcTables nBuf tb) → BufTy
  | .hbm, ⟨i, _⟩ => hbmTy i
  | _, _ => ⟨S8x80x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_3 : Ref sig .tc := ⟨.hbm, 79, rfl⟩
abbrev main_v58 : Ref sig .tc := ⟨.hbm, 80, rfl⟩
abbrev main_cst_4 : Ref sig .tc := ⟨.hbm, 81, rfl⟩
abbrev main_v59 : Ref sig .tc := ⟨.hbm, 82, rfl⟩
abbrev main_cst_5 : Ref sig .tc := ⟨.hbm, 83, rfl⟩
abbrev main_v60 : Ref sig .tc := ⟨.hbm, 84, rfl⟩
abbrev main_v61 : Ref sig .tc := ⟨.hbm, 85, rfl⟩
abbrev main_cst_6 : Ref sig .tc := ⟨.hbm, 86, rfl⟩
abbrev main_v62 : Ref sig .tc := ⟨.hbm, 87, rfl⟩
abbrev main_v63 : Ref sig .tc := ⟨.hbm, 88, rfl⟩
abbrev main_cst_7 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_8 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_9 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_10 : Ref sig .tc := ⟨.hbm, 134, rfl⟩
abbrev main_v106 : Ref sig .tc := ⟨.hbm, 135, rfl⟩
abbrev main_cst_11 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_12 : Ref sig .tc := ⟨.hbm, 141, rfl⟩
abbrev main_call0_v0 : Ref sig .tc := ⟨.hbm, 142, rfl⟩
abbrev main_call0_v1 : Ref sig .tc := ⟨.hbm, 143, rfl⟩
abbrev main_v111 : Ref sig .tc := ⟨.hbm, 144, rfl⟩
abbrev main_call1_v0 : Ref sig .tc := ⟨.hbm, 145, rfl⟩
abbrev main_call1_cst : Ref sig .tc := ⟨.hbm, 146, rfl⟩
abbrev main_call1_c : Ref sig .tc := ⟨.hbm, 147, rfl⟩
abbrev main_call1_v1_0 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call2_c : Ref sig .tc := ⟨.hbm, 152, rfl⟩
abbrev main_call2_v0 : Ref sig .tc := ⟨.hbm, 153, rfl⟩
abbrev main_call2_v1 : Ref sig .tc := ⟨.hbm, 154, rfl⟩
abbrev main_call2_c_0 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_c_1 : Ref sig .tc := ⟨.hbm, 160, rfl⟩
abbrev main_call2_c_2 : Ref sig .tc := ⟨.hbm, 161, rfl⟩
abbrev main_call2_v6 : Ref sig .tc := ⟨.hbm, 162, rfl⟩
abbrev main_call2_v7 : Ref sig .tc := ⟨.hbm, 163, rfl⟩
abbrev main_call2_v8 : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_c_3 : Ref sig .tc := ⟨.hbm, 168, rfl⟩
abbrev main_call2_v12 : Ref sig .tc := ⟨.hbm, 169, rfl⟩
abbrev main_call2_v13 : Ref sig .tc := ⟨.hbm, 170, rfl⟩
abbrev main_call2_cst : Ref sig .tc := ⟨.hbm, 171, rfl⟩
abbrev main_call2_v14 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_call3_c : Ref sig .tc := ⟨.hbm, 178, rfl⟩
abbrev main_call3_v0 : Ref sig .tc := ⟨.hbm, 179, rfl⟩
abbrev main_call3_v1 : Ref sig .tc := ⟨.hbm, 180, rfl⟩
abbrev main_call3_c_0 : Ref sig .tc := ⟨.hbm, 181, rfl⟩
abbrev main_call3_v2 : Ref sig .tc := ⟨.hbm, 182, rfl⟩
abbrev main_call3_v3 : Ref sig .tc := ⟨.hbm, 183, rfl⟩
abbrev main_call3_v4 : Ref sig .tc := ⟨.hbm, 184, rfl⟩
abbrev main_call3_v5 : Ref sig .tc := ⟨.hbm, 185, rfl⟩
abbrev main_call3_c_1 : Ref sig .tc := ⟨.hbm, 186, rfl⟩
abbrev main_call3_c_2 : Ref sig .tc := ⟨.hbm, 187, rfl⟩
abbrev main_call3_v6 : Ref sig .tc := ⟨.hbm, 188, rfl⟩
abbrev main_call3_v7 : Ref sig .tc := ⟨.hbm, 189, rfl⟩
abbrev main_call3_v8 : Ref sig .tc := ⟨.hbm, 190, rfl⟩
abbrev main_call3_v9 : Ref sig .tc := ⟨.hbm, 191, rfl⟩
abbrev main_call3_v10 : Ref sig .tc := ⟨.hbm, 192, rfl⟩
abbrev main_call3_v11 : Ref sig .tc := ⟨.hbm, 193, rfl⟩
abbrev main_call3_c_3 : Ref sig .tc := ⟨.hbm, 194, rfl⟩
abbrev main_call3_v12 : Ref sig .tc := ⟨.hbm, 195, rfl⟩
abbrev main_call3_v13 : Ref sig .tc := ⟨.hbm, 196, rfl⟩
abbrev main_call3_c_4 : Ref sig .tc := ⟨.hbm, 197, rfl⟩
abbrev main_call3_v14 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_c : Ref sig .tc := ⟨.hbm, 221, rfl⟩
abbrev main_v142 : Ref sig .tc := ⟨.hbm, 222, rfl⟩
abbrev main_c_13 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_cst_14 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_cst_15 : Ref sig .tc := ⟨.hbm, 232, rfl⟩
abbrev main_call4_v0 : Ref sig .tc := ⟨.hbm, 233, rfl⟩
abbrev main_call4_v1 : Ref sig .tc := ⟨.hbm, 234, rfl⟩
abbrev main_v150 : Ref sig .tc := ⟨.hbm, 235, rfl⟩
abbrev main_v151 : Ref sig .tc := ⟨.hbm, 236, rfl⟩
abbrev main_cst_16 : Ref sig .tc := ⟨.hbm, 237, rfl⟩
abbrev main_call5_v0 : Ref sig .tc := ⟨.hbm, 238, rfl⟩
abbrev main_call5_v1 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_c_17 : Ref sig .tc := ⟨.hbm, 243, rfl⟩
abbrev main_call6_v0 : Ref sig .tc := ⟨.hbm, 244, rfl⟩
abbrev main_call6_v1 : Ref sig .tc := ⟨.hbm, 245, rfl⟩
abbrev main_v155 : Ref sig .tc := ⟨.hbm, 246, rfl⟩
abbrev main_v156 : Ref sig .tc := ⟨.hbm, 247, rfl⟩
abbrev main_cst_18 : Ref sig .tc := ⟨.hbm, 248, rfl⟩
abbrev main_call7_v0 : Ref sig .tc := ⟨.hbm, 249, rfl⟩
abbrev main_call7_v1 : Ref sig .tc := ⟨.hbm, 250, rfl⟩
abbrev main_call7_v2 : Ref sig .tc := ⟨.hbm, 251, rfl⟩
abbrev main_v157 : Ref sig .tc := ⟨.hbm, 252, rfl⟩
abbrev main_v158 : Ref sig .tc := ⟨.hbm, 253, rfl⟩
abbrev main_cst_19 : Ref sig .tc := ⟨.hbm, 254, rfl⟩
abbrev main_v159 : Ref sig .tc := ⟨.hbm, 255, rfl⟩
abbrev main_v160 : Ref sig .tc := ⟨.hbm, 256, rfl⟩
abbrev main_cst_20 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_cst_21 : Ref sig .tc := ⟨.hbm, 261, rfl⟩
abbrev main_v164 : Ref sig .tc := ⟨.hbm, 262, rfl⟩
abbrev main_v165 : Ref sig .tc := ⟨.hbm, 263, rfl⟩
abbrev main_cst_22 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_cst_23 : Ref sig .tc := ⟨.hbm, 315, rfl⟩
abbrev main_v216 : Ref sig .tc := ⟨.hbm, 316, rfl⟩
abbrev main_cst_24 : Ref sig .tc := ⟨.hbm, 317, rfl⟩
abbrev main_v217 : Ref sig .tc := ⟨.hbm, 318, rfl⟩
abbrev main_cst_25 : Ref sig .tc := ⟨.hbm, 319, rfl⟩
abbrev main_v218 : Ref sig .tc := ⟨.hbm, 320, rfl⟩
abbrev main_v219 : Ref sig .tc := ⟨.hbm, 321, rfl⟩
abbrev main_cst_26 : Ref sig .tc := ⟨.hbm, 322, rfl⟩
abbrev main_v220 : Ref sig .tc := ⟨.hbm, 323, rfl⟩
abbrev main_v221 : Ref sig .tc := ⟨.hbm, 324, rfl⟩
abbrev main_cst_27 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_cst_28 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_cst_29 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_v262 : Ref sig .tc := ⟨.hbm, 368, rfl⟩
abbrev main_v263 : Ref sig .tc := ⟨.hbm, 369, rfl⟩
abbrev main_cst_30 : Ref sig .tc := ⟨.hbm, 370, rfl⟩
abbrev main_v264 : Ref sig .tc := ⟨.hbm, 371, rfl⟩
abbrev main_cst_31 : Ref sig .tc := ⟨.hbm, 372, rfl⟩
abbrev main_v265 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_cst_32 : Ref sig .tc := ⟨.hbm, 377, rfl⟩
abbrev main_call8_v0 : Ref sig .tc := ⟨.hbm, 378, rfl⟩
abbrev main_call8_v1 : Ref sig .tc := ⟨.hbm, 379, rfl⟩
abbrev main_v269 : Ref sig .tc := ⟨.hbm, 380, rfl⟩
abbrev main_call9_v0 : Ref sig .tc := ⟨.hbm, 381, rfl⟩
abbrev main_call9_cst : Ref sig .tc := ⟨.hbm, 382, rfl⟩
abbrev main_call9_c : Ref sig .tc := ⟨.hbm, 383, rfl⟩
abbrev main_call9_v1_0 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_call10_c : Ref sig .tc := ⟨.hbm, 388, rfl⟩
abbrev main_call10_v0 : Ref sig .tc := ⟨.hbm, 389, rfl⟩
abbrev main_call10_v1 : Ref sig .tc := ⟨.hbm, 390, rfl⟩
abbrev main_call10_c_0 : Ref sig .tc := ⟨.hbm, 391, rfl⟩
abbrev main_call10_v2 : Ref sig .tc := ⟨.hbm, 392, rfl⟩
abbrev main_call10_v3 : Ref sig .tc := ⟨.hbm, 393, rfl⟩
abbrev main_call10_v4 : Ref sig .tc := ⟨.hbm, 394, rfl⟩
abbrev main_call10_v5 : Ref sig .tc := ⟨.hbm, 395, rfl⟩
abbrev main_call10_c_1 : Ref sig .tc := ⟨.hbm, 396, rfl⟩
abbrev main_call10_c_2 : Ref sig .tc := ⟨.hbm, 397, rfl⟩
abbrev main_call10_v6 : Ref sig .tc := ⟨.hbm, 398, rfl⟩
abbrev main_call10_v7 : Ref sig .tc := ⟨.hbm, 399, rfl⟩
abbrev main_call10_v8 : Ref sig .tc := ⟨.hbm, 400, rfl⟩
abbrev main_call10_v9 : Ref sig .tc := ⟨.hbm, 401, rfl⟩
abbrev main_call10_v10 : Ref sig .tc := ⟨.hbm, 402, rfl⟩
abbrev main_call10_v11 : Ref sig .tc := ⟨.hbm, 403, rfl⟩
abbrev main_call10_c_3 : Ref sig .tc := ⟨.hbm, 404, rfl⟩
abbrev main_call10_v12 : Ref sig .tc := ⟨.hbm, 405, rfl⟩
abbrev main_call10_v13 : Ref sig .tc := ⟨.hbm, 406, rfl⟩
abbrev main_call10_cst : Ref sig .tc := ⟨.hbm, 407, rfl⟩
abbrev main_call10_v14 : Ref sig .tc := ⟨.hbm, 408, rfl⟩
abbrev main_v273 : Ref sig .tc := ⟨.hbm, 409, rfl⟩
abbrev main_v274 : Ref sig .tc := ⟨.hbm, 410, rfl⟩
abbrev main_v275 : Ref sig .tc := ⟨.hbm, 411, rfl⟩
abbrev main_v276 : Ref sig .tc := ⟨.hbm, 412, rfl⟩
abbrev main_v277 : Ref sig .tc := ⟨.hbm, 413, rfl⟩
abbrev main_call11_c : Ref sig .tc := ⟨.hbm, 414, rfl⟩
abbrev main_call11_v0 : Ref sig .tc := ⟨.hbm, 415, rfl⟩
abbrev main_call11_v1 : Ref sig .tc := ⟨.hbm, 416, rfl⟩
abbrev main_call11_c_0 : Ref sig .tc := ⟨.hbm, 417, rfl⟩
abbrev main_call11_v2 : Ref sig .tc := ⟨.hbm, 418, rfl⟩
abbrev main_call11_v3 : Ref sig .tc := ⟨.hbm, 419, rfl⟩
abbrev main_call11_v4 : Ref sig .tc := ⟨.hbm, 420, rfl⟩
abbrev main_call11_v5 : Ref sig .tc := ⟨.hbm, 421, rfl⟩
abbrev main_call11_c_1 : Ref sig .tc := ⟨.hbm, 422, rfl⟩
abbrev main_call11_c_2 : Ref sig .tc := ⟨.hbm, 423, rfl⟩
abbrev main_call11_v6 : Ref sig .tc := ⟨.hbm, 424, rfl⟩
abbrev main_call11_v7 : Ref sig .tc := ⟨.hbm, 425, rfl⟩
abbrev main_call11_v8 : Ref sig .tc := ⟨.hbm, 426, rfl⟩
abbrev main_call11_v9 : Ref sig .tc := ⟨.hbm, 427, rfl⟩
abbrev main_call11_v10 : Ref sig .tc := ⟨.hbm, 428, rfl⟩
abbrev main_call11_v11 : Ref sig .tc := ⟨.hbm, 429, rfl⟩
abbrev main_call11_c_3 : Ref sig .tc := ⟨.hbm, 430, rfl⟩
abbrev main_call11_v12 : Ref sig .tc := ⟨.hbm, 431, rfl⟩
abbrev main_call11_v13 : Ref sig .tc := ⟨.hbm, 432, rfl⟩
abbrev main_call11_c_4 : Ref sig .tc := ⟨.hbm, 433, rfl⟩
abbrev main_call11_v14 : Ref sig .tc := ⟨.hbm, 434, rfl⟩
abbrev main_v278 : Ref sig .tc := ⟨.hbm, 435, rfl⟩
abbrev main_v279 : Ref sig .tc := ⟨.hbm, 436, rfl⟩
abbrev main_v280 : Ref sig .tc := ⟨.hbm, 437, rfl⟩
abbrev main_v281 : Ref sig .tc := ⟨.hbm, 438, rfl⟩
abbrev main_v282 : Ref sig .tc := ⟨.hbm, 439, rfl⟩
abbrev main_v283 : Ref sig .tc := ⟨.hbm, 440, rfl⟩
abbrev main_v284 : Ref sig .tc := ⟨.hbm, 441, rfl⟩
abbrev main_v285 : Ref sig .tc := ⟨.hbm, 442, rfl⟩
abbrev main_v286 : Ref sig .tc := ⟨.hbm, 443, rfl⟩
abbrev main_v287 : Ref sig .tc := ⟨.hbm, 444, rfl⟩
abbrev main_v288 : Ref sig .tc := ⟨.hbm, 445, rfl⟩
abbrev main_v289 : Ref sig .tc := ⟨.hbm, 446, rfl⟩
abbrev main_v290 : Ref sig .tc := ⟨.hbm, 447, rfl⟩
abbrev main_v291 : Ref sig .tc := ⟨.hbm, 448, rfl⟩
abbrev main_v292 : Ref sig .tc := ⟨.hbm, 449, rfl⟩
abbrev main_v293 : Ref sig .tc := ⟨.hbm, 450, rfl⟩
abbrev main_v294 : Ref sig .tc := ⟨.hbm, 451, rfl⟩
abbrev main_v295 : Ref sig .tc := ⟨.hbm, 452, rfl⟩
abbrev main_v296 : Ref sig .tc := ⟨.hbm, 453, rfl⟩
abbrev main_v297 : Ref sig .tc := ⟨.hbm, 454, rfl⟩
abbrev main_v298 : Ref sig .tc := ⟨.hbm, 455, rfl⟩
abbrev main_v299 : Ref sig .tc := ⟨.hbm, 456, rfl⟩
abbrev main_c_33 : Ref sig .tc := ⟨.hbm, 457, rfl⟩
abbrev main_v300 : Ref sig .tc := ⟨.hbm, 458, rfl⟩
abbrev main_c_34 : Ref sig .tc := ⟨.hbm, 459, rfl⟩
abbrev main_v301 : Ref sig .tc := ⟨.hbm, 460, rfl⟩
abbrev main_v302 : Ref sig .tc := ⟨.hbm, 461, rfl⟩
abbrev main_v303 : Ref sig .tc := ⟨.hbm, 462, rfl⟩
abbrev main_v304 : Ref sig .tc := ⟨.hbm, 463, rfl⟩
abbrev main_cst_35 : Ref sig .tc := ⟨.hbm, 464, rfl⟩
abbrev main_v305 : Ref sig .tc := ⟨.hbm, 465, rfl⟩
abbrev main_v306 : Ref sig .tc := ⟨.hbm, 466, rfl⟩
abbrev main_v307 : Ref sig .tc := ⟨.hbm, 467, rfl⟩
abbrev main_cst_36 : Ref sig .tc := ⟨.hbm, 468, rfl⟩
abbrev main_call12_v0 : Ref sig .tc := ⟨.hbm, 469, rfl⟩
abbrev main_call12_v1 : Ref sig .tc := ⟨.hbm, 470, rfl⟩
abbrev main_v308 : Ref sig .tc := ⟨.hbm, 471, rfl⟩
abbrev main_v309 : Ref sig .tc := ⟨.hbm, 472, rfl⟩
abbrev main_cst_37 : Ref sig .tc := ⟨.hbm, 473, rfl⟩
abbrev main_call13_v0 : Ref sig .tc := ⟨.hbm, 474, rfl⟩
abbrev main_call13_v1 : Ref sig .tc := ⟨.hbm, 475, rfl⟩
abbrev main_v310 : Ref sig .tc := ⟨.hbm, 476, rfl⟩
abbrev main_v311 : Ref sig .tc := ⟨.hbm, 477, rfl⟩
abbrev main_v312 : Ref sig .tc := ⟨.hbm, 478, rfl⟩
abbrev main_c_38 : Ref sig .tc := ⟨.hbm, 479, rfl⟩
abbrev main_call14_v0 : Ref sig .tc := ⟨.hbm, 480, rfl⟩
abbrev main_call14_v1 : Ref sig .tc := ⟨.hbm, 481, rfl⟩
abbrev main_v313 : Ref sig .tc := ⟨.hbm, 482, rfl⟩
abbrev main_v314 : Ref sig .tc := ⟨.hbm, 483, rfl⟩
abbrev main_cst_39 : Ref sig .tc := ⟨.hbm, 484, rfl⟩
abbrev main_call15_v0 : Ref sig .tc := ⟨.hbm, 485, rfl⟩
abbrev main_call15_v1 : Ref sig .tc := ⟨.hbm, 486, rfl⟩
abbrev main_call15_v2 : Ref sig .tc := ⟨.hbm, 487, rfl⟩
abbrev main_v315 : Ref sig .tc := ⟨.hbm, 488, rfl⟩
abbrev main_v316 : Ref sig .tc := ⟨.hbm, 489, rfl⟩
abbrev main_cst_40 : Ref sig .tc := ⟨.hbm, 490, rfl⟩
abbrev main_v317 : Ref sig .tc := ⟨.hbm, 491, rfl⟩
abbrev main_v318 : Ref sig .tc := ⟨.hbm, 492, rfl⟩
abbrev main_cst_41 : Ref sig .tc := ⟨.hbm, 493, rfl⟩
abbrev main_v319 : Ref sig .tc := ⟨.hbm, 494, rfl⟩
abbrev main_v320 : Ref sig .tc := ⟨.hbm, 495, rfl⟩
abbrev main_v321 : Ref sig .tc := ⟨.hbm, 496, rfl⟩
abbrev main_cst_42 : Ref sig .tc := ⟨.hbm, 497, rfl⟩
abbrev main_v322 : Ref sig .tc := ⟨.hbm, 498, rfl⟩
abbrev main_v323 : Ref sig .tc := ⟨.hbm, 499, rfl⟩
abbrev main_cst_43 : Ref sig .tc := ⟨.hbm, 500, rfl⟩
abbrev main_v324 : Ref sig .tc := ⟨.hbm, 501, rfl⟩
abbrev main_v325 : Ref sig .tc := ⟨.hbm, 502, rfl⟩
abbrev main_v326 : Ref sig .tc := ⟨.hbm, 503, rfl⟩
abbrev main_v327 : Ref sig .tc := ⟨.hbm, 504, rfl⟩
abbrev main_v328 : Ref sig .tc := ⟨.hbm, 505, rfl⟩
abbrev main_v329 : Ref sig .tc := ⟨.hbm, 506, rfl⟩
abbrev main_v330 : Ref sig .tc := ⟨.hbm, 507, rfl⟩
abbrev main_v331 : Ref sig .tc := ⟨.hbm, 508, rfl⟩
abbrev main_v332 : Ref sig .tc := ⟨.hbm, 509, rfl⟩
abbrev main_v333 : Ref sig .tc := ⟨.hbm, 510, rfl⟩
abbrev main_v334 : Ref sig .tc := ⟨.hbm, 511, rfl⟩
abbrev main_v335 : Ref sig .tc := ⟨.hbm, 512, rfl⟩
abbrev main_v336 : Ref sig .tc := ⟨.hbm, 513, rfl⟩
abbrev main_v337 : Ref sig .tc := ⟨.hbm, 514, rfl⟩
abbrev main_v338 : Ref sig .tc := ⟨.hbm, 515, rfl⟩
abbrev main_v339 : Ref sig .tc := ⟨.hbm, 516, rfl⟩
abbrev main_v340 : Ref sig .tc := ⟨.hbm, 517, rfl⟩
abbrev main_v341 : Ref sig .tc := ⟨.hbm, 518, rfl⟩
abbrev main_v342 : Ref sig .tc := ⟨.hbm, 519, rfl⟩
abbrev main_v343 : Ref sig .tc := ⟨.hbm, 520, rfl⟩
abbrev main_v344 : Ref sig .tc := ⟨.hbm, 521, rfl⟩
abbrev main_v345 : Ref sig .tc := ⟨.hbm, 522, rfl⟩
abbrev main_v346 : Ref sig .tc := ⟨.hbm, 523, rfl⟩
abbrev main_v347 : Ref sig .tc := ⟨.hbm, 524, rfl⟩
abbrev main_v348 : Ref sig .tc := ⟨.hbm, 525, rfl⟩
abbrev main_v349 : Ref sig .tc := ⟨.hbm, 526, rfl⟩
abbrev main_v350 : Ref sig .tc := ⟨.hbm, 527, rfl⟩
abbrev main_v351 : Ref sig .tc := ⟨.hbm, 528, rfl⟩
abbrev main_v352 : Ref sig .tc := ⟨.hbm, 529, rfl⟩
abbrev main_v353 : Ref sig .tc := ⟨.hbm, 530, rfl⟩
abbrev main_v354 : Ref sig .tc := ⟨.hbm, 531, rfl⟩
abbrev main_v355 : Ref sig .tc := ⟨.hbm, 532, rfl⟩
abbrev main_v356 : Ref sig .tc := ⟨.hbm, 533, rfl⟩
abbrev main_v357 : Ref sig .tc := ⟨.hbm, 534, rfl⟩
abbrev main_v358 : Ref sig .tc := ⟨.hbm, 535, rfl⟩
abbrev main_v359 : Ref sig .tc := ⟨.hbm, 536, rfl⟩
abbrev main_v360 : Ref sig .tc := ⟨.hbm, 537, rfl⟩
abbrev main_v361 : Ref sig .tc := ⟨.hbm, 538, rfl⟩
abbrev main_v362 : Ref sig .tc := ⟨.hbm, 539, rfl⟩
abbrev main_v363 : Ref sig .tc := ⟨.hbm, 540, rfl⟩
abbrev main_v364 : Ref sig .tc := ⟨.hbm, 541, rfl⟩
abbrev main_v365 : Ref sig .tc := ⟨.hbm, 542, rfl⟩
abbrev main_v366 : Ref sig .tc := ⟨.hbm, 543, rfl⟩
abbrev main_v367 : Ref sig .tc := ⟨.hbm, 544, rfl⟩
abbrev main_v368 : Ref sig .tc := ⟨.hbm, 545, rfl⟩
abbrev main_v369 : Ref sig .tc := ⟨.hbm, 546, rfl⟩
abbrev main_v370 : Ref sig .tc := ⟨.hbm, 547, rfl⟩
abbrev main_v371 : Ref sig .tc := ⟨.hbm, 548, rfl⟩
abbrev main_v372 : Ref sig .tc := ⟨.hbm, 549, rfl⟩
abbrev main_v373 : Ref sig .tc := ⟨.hbm, 550, rfl⟩
abbrev main_cst_44 : Ref sig .tc := ⟨.hbm, 551, rfl⟩
abbrev main_v374 : Ref sig .tc := ⟨.hbm, 552, rfl⟩
abbrev main_cst_45 : Ref sig .tc := ⟨.hbm, 553, rfl⟩
abbrev main_v375 : Ref sig .tc := ⟨.hbm, 554, rfl⟩
abbrev main_cst_46 : Ref sig .tc := ⟨.hbm, 555, rfl⟩
abbrev main_v376 : Ref sig .tc := ⟨.hbm, 556, rfl⟩
abbrev main_v377 : Ref sig .tc := ⟨.hbm, 557, rfl⟩
abbrev main_cst_47 : Ref sig .tc := ⟨.hbm, 558, rfl⟩
abbrev main_v378 : Ref sig .tc := ⟨.hbm, 559, rfl⟩
abbrev main_v379 : Ref sig .tc := ⟨.hbm, 560, rfl⟩
abbrev main_cst_48 : Ref sig .tc := ⟨.hbm, 561, rfl⟩
abbrev main_v380 : Ref sig .tc := ⟨.hbm, 562, rfl⟩
abbrev main_v381 : Ref sig .tc := ⟨.hbm, 563, rfl⟩
abbrev main_v382 : Ref sig .tc := ⟨.hbm, 564, rfl⟩
abbrev main_v383 : Ref sig .tc := ⟨.hbm, 565, rfl⟩
abbrev main_v384 : Ref sig .tc := ⟨.hbm, 566, rfl⟩
abbrev main_v385 : Ref sig .tc := ⟨.hbm, 567, rfl⟩
abbrev main_v386 : Ref sig .tc := ⟨.hbm, 568, rfl⟩
abbrev main_v387 : Ref sig .tc := ⟨.hbm, 569, rfl⟩
abbrev main_cst_49 : Ref sig .tc := ⟨.hbm, 570, rfl⟩
abbrev main_v388 : Ref sig .tc := ⟨.hbm, 571, rfl⟩
abbrev main_v389 : Ref sig .tc := ⟨.hbm, 572, rfl⟩
abbrev main_v390 : Ref sig .tc := ⟨.hbm, 573, rfl⟩
abbrev main_v391 : Ref sig .tc := ⟨.hbm, 574, rfl⟩
abbrev main_v392 : Ref sig .tc := ⟨.hbm, 575, rfl⟩
abbrev main_v393 : Ref sig .tc := ⟨.hbm, 576, rfl⟩
abbrev main_v394 : Ref sig .tc := ⟨.hbm, 577, rfl⟩
abbrev main_cst_50 : Ref sig .tc := ⟨.hbm, 578, rfl⟩
abbrev main_v395 : Ref sig .tc := ⟨.hbm, 579, rfl⟩
abbrev main_v396 : Ref sig .tc := ⟨.hbm, 580, rfl⟩
abbrev main_v397 : Ref sig .tc := ⟨.hbm, 581, rfl⟩
abbrev main_v398 : Ref sig .tc := ⟨.hbm, 582, rfl⟩
abbrev main_v399 : Ref sig .tc := ⟨.hbm, 583, rfl⟩
abbrev main_v400 : Ref sig .tc := ⟨.hbm, 584, rfl⟩
abbrev main_v401 : Ref sig .tc := ⟨.hbm, 585, rfl⟩
abbrev main_v402 : Ref sig .tc := ⟨.hbm, 586, rfl⟩
abbrev main_v403 : Ref sig .tc := ⟨.hbm, 587, rfl⟩
abbrev main_v404 : Ref sig .tc := ⟨.hbm, 588, rfl⟩
abbrev main_v405 : Ref sig .tc := ⟨.hbm, 589, rfl⟩
abbrev main_v406 : Ref sig .tc := ⟨.hbm, 590, rfl⟩
abbrev main_v407 : Ref sig .tc := ⟨.hbm, 591, rfl⟩
abbrev main_v408 : Ref sig .tc := ⟨.hbm, 592, rfl⟩
abbrev main_v409 : Ref sig .tc := ⟨.hbm, 593, rfl⟩
abbrev main_v410 : Ref sig .tc := ⟨.hbm, 594, rfl⟩
abbrev main_v411 : Ref sig .tc := ⟨.hbm, 595, rfl⟩
abbrev main_v412 : Ref sig .tc := ⟨.hbm, 596, rfl⟩
abbrev main_v413 : Ref sig .tc := ⟨.hbm, 597, rfl⟩
abbrev main_v414 : Ref sig .tc := ⟨.hbm, 598, rfl⟩
abbrev main_v415 : Ref sig .tc := ⟨.hbm, 599, rfl⟩
abbrev main_v416 : Ref sig .tc := ⟨.hbm, 600, rfl⟩
abbrev main_v417 : Ref sig .tc := ⟨.hbm, 601, rfl⟩
abbrev main_v418 : Ref sig .tc := ⟨.hbm, 602, rfl⟩
abbrev main_v419 : Ref sig .tc := ⟨.hbm, 603, rfl⟩
abbrev main_v420 : Ref sig .tc := ⟨.hbm, 604, rfl⟩
abbrev main_v421 : Ref sig .tc := ⟨.hbm, 605, rfl⟩
abbrev main_cst_51 : Ref sig .tc := ⟨.hbm, 606, rfl⟩
abbrev main_v422 : Ref sig .tc := ⟨.hbm, 607, rfl⟩
abbrev main_cst_52 : Ref sig .tc := ⟨.hbm, 608, rfl⟩
abbrev main_v423 : Ref sig .tc := ⟨.hbm, 609, rfl⟩
abbrev main_v424 : Ref sig .tc := ⟨.hbm, 610, rfl⟩
abbrev main_v425 : Ref sig .tc := ⟨.hbm, 611, rfl⟩
abbrev main_v426 : Ref sig .tc := ⟨.hbm, 612, rfl⟩
abbrev main_cst_53 : Ref sig .tc := ⟨.hbm, 613, rfl⟩
abbrev main_call16_v0 : Ref sig .tc := ⟨.hbm, 614, rfl⟩
abbrev main_call16_v1 : Ref sig .tc := ⟨.hbm, 615, rfl⟩
abbrev main_v427 : Ref sig .tc := ⟨.hbm, 616, rfl⟩
abbrev main_call17_v0 : Ref sig .tc := ⟨.hbm, 617, rfl⟩
abbrev main_call17_cst : Ref sig .tc := ⟨.hbm, 618, rfl⟩
abbrev main_call17_c : Ref sig .tc := ⟨.hbm, 619, rfl⟩
abbrev main_call17_v1_0 : Ref sig .tc := ⟨.hbm, 620, rfl⟩
abbrev main_v428 : Ref sig .tc := ⟨.hbm, 621, rfl⟩
abbrev main_v429 : Ref sig .tc := ⟨.hbm, 622, rfl⟩
abbrev main_v430 : Ref sig .tc := ⟨.hbm, 623, rfl⟩
abbrev main_call18_c : Ref sig .tc := ⟨.hbm, 624, rfl⟩
abbrev main_call18_v0 : Ref sig .tc := ⟨.hbm, 625, rfl⟩
abbrev main_call18_v1 : Ref sig .tc := ⟨.hbm, 626, rfl⟩
abbrev main_call18_c_0 : Ref sig .tc := ⟨.hbm, 627, rfl⟩
abbrev main_call18_v2 : Ref sig .tc := ⟨.hbm, 628, rfl⟩
abbrev main_call18_v3 : Ref sig .tc := ⟨.hbm, 629, rfl⟩
abbrev main_call18_v4 : Ref sig .tc := ⟨.hbm, 630, rfl⟩
abbrev main_call18_v5 : Ref sig .tc := ⟨.hbm, 631, rfl⟩
abbrev main_call18_c_1 : Ref sig .tc := ⟨.hbm, 632, rfl⟩
abbrev main_call18_c_2 : Ref sig .tc := ⟨.hbm, 633, rfl⟩
abbrev main_call18_v6 : Ref sig .tc := ⟨.hbm, 634, rfl⟩
abbrev main_call18_v7 : Ref sig .tc := ⟨.hbm, 635, rfl⟩
abbrev main_call18_v8 : Ref sig .tc := ⟨.hbm, 636, rfl⟩
abbrev main_call18_v9 : Ref sig .tc := ⟨.hbm, 637, rfl⟩
abbrev main_call18_v10 : Ref sig .tc := ⟨.hbm, 638, rfl⟩
abbrev main_call18_v11 : Ref sig .tc := ⟨.hbm, 639, rfl⟩
abbrev main_call18_c_3 : Ref sig .tc := ⟨.hbm, 640, rfl⟩
abbrev main_call18_v12 : Ref sig .tc := ⟨.hbm, 641, rfl⟩
abbrev main_call18_v13 : Ref sig .tc := ⟨.hbm, 642, rfl⟩
abbrev main_call18_cst : Ref sig .tc := ⟨.hbm, 643, rfl⟩
abbrev main_call18_v14 : Ref sig .tc := ⟨.hbm, 644, rfl⟩
abbrev main_v431 : Ref sig .tc := ⟨.hbm, 645, rfl⟩
abbrev main_v432 : Ref sig .tc := ⟨.hbm, 646, rfl⟩
abbrev main_v433 : Ref sig .tc := ⟨.hbm, 647, rfl⟩
abbrev main_v434 : Ref sig .tc := ⟨.hbm, 648, rfl⟩
abbrev main_v435 : Ref sig .tc := ⟨.hbm, 649, rfl⟩
abbrev main_call19_c : Ref sig .tc := ⟨.hbm, 650, rfl⟩
abbrev main_call19_v0 : Ref sig .tc := ⟨.hbm, 651, rfl⟩
abbrev main_call19_v1 : Ref sig .tc := ⟨.hbm, 652, rfl⟩
abbrev main_call19_c_0 : Ref sig .tc := ⟨.hbm, 653, rfl⟩
abbrev main_call19_v2 : Ref sig .tc := ⟨.hbm, 654, rfl⟩
abbrev main_call19_v3 : Ref sig .tc := ⟨.hbm, 655, rfl⟩
abbrev main_call19_v4 : Ref sig .tc := ⟨.hbm, 656, rfl⟩
abbrev main_call19_v5 : Ref sig .tc := ⟨.hbm, 657, rfl⟩
abbrev main_call19_c_1 : Ref sig .tc := ⟨.hbm, 658, rfl⟩
abbrev main_call19_c_2 : Ref sig .tc := ⟨.hbm, 659, rfl⟩
abbrev main_call19_v6 : Ref sig .tc := ⟨.hbm, 660, rfl⟩
abbrev main_call19_v7 : Ref sig .tc := ⟨.hbm, 661, rfl⟩
abbrev main_call19_v8 : Ref sig .tc := ⟨.hbm, 662, rfl⟩
abbrev main_call19_v9 : Ref sig .tc := ⟨.hbm, 663, rfl⟩
abbrev main_call19_v10 : Ref sig .tc := ⟨.hbm, 664, rfl⟩
abbrev main_call19_v11 : Ref sig .tc := ⟨.hbm, 665, rfl⟩
abbrev main_call19_c_3 : Ref sig .tc := ⟨.hbm, 666, rfl⟩
abbrev main_call19_v12 : Ref sig .tc := ⟨.hbm, 667, rfl⟩
abbrev main_call19_v13 : Ref sig .tc := ⟨.hbm, 668, rfl⟩
abbrev main_call19_c_4 : Ref sig .tc := ⟨.hbm, 669, rfl⟩
abbrev main_call19_v14 : Ref sig .tc := ⟨.hbm, 670, rfl⟩
abbrev main_v436 : Ref sig .tc := ⟨.hbm, 671, rfl⟩
abbrev main_v437 : Ref sig .tc := ⟨.hbm, 672, rfl⟩
abbrev main_v438 : Ref sig .tc := ⟨.hbm, 673, rfl⟩
abbrev main_v439 : Ref sig .tc := ⟨.hbm, 674, rfl⟩
abbrev main_v440 : Ref sig .tc := ⟨.hbm, 675, rfl⟩
abbrev main_v441 : Ref sig .tc := ⟨.hbm, 676, rfl⟩
abbrev main_v442 : Ref sig .tc := ⟨.hbm, 677, rfl⟩
abbrev main_v443 : Ref sig .tc := ⟨.hbm, 678, rfl⟩
abbrev main_v444 : Ref sig .tc := ⟨.hbm, 679, rfl⟩
abbrev main_v445 : Ref sig .tc := ⟨.hbm, 680, rfl⟩
abbrev main_v446 : Ref sig .tc := ⟨.hbm, 681, rfl⟩
abbrev main_v447 : Ref sig .tc := ⟨.hbm, 682, rfl⟩
abbrev main_v448 : Ref sig .tc := ⟨.hbm, 683, rfl⟩
abbrev main_v449 : Ref sig .tc := ⟨.hbm, 684, rfl⟩
abbrev main_v450 : Ref sig .tc := ⟨.hbm, 685, rfl⟩
abbrev main_v451 : Ref sig .tc := ⟨.hbm, 686, rfl⟩
abbrev main_v452 : Ref sig .tc := ⟨.hbm, 687, rfl⟩
abbrev main_v453 : Ref sig .tc := ⟨.hbm, 688, rfl⟩
abbrev main_v454 : Ref sig .tc := ⟨.hbm, 689, rfl⟩
abbrev main_v455 : Ref sig .tc := ⟨.hbm, 690, rfl⟩
abbrev main_v456 : Ref sig .tc := ⟨.hbm, 691, rfl⟩
abbrev main_v457 : Ref sig .tc := ⟨.hbm, 692, rfl⟩
abbrev main_c_54 : Ref sig .tc := ⟨.hbm, 693, rfl⟩
abbrev main_v458 : Ref sig .tc := ⟨.hbm, 694, rfl⟩
abbrev main_c_55 : Ref sig .tc := ⟨.hbm, 695, rfl⟩
abbrev main_v459 : Ref sig .tc := ⟨.hbm, 696, rfl⟩
abbrev main_v460 : Ref sig .tc := ⟨.hbm, 697, rfl⟩
abbrev main_v461 : Ref sig .tc := ⟨.hbm, 698, rfl⟩
abbrev main_v462 : Ref sig .tc := ⟨.hbm, 699, rfl⟩
abbrev main_cst_56 : Ref sig .tc := ⟨.hbm, 700, rfl⟩
abbrev main_v463 : Ref sig .tc := ⟨.hbm, 701, rfl⟩
abbrev main_v464 : Ref sig .tc := ⟨.hbm, 702, rfl⟩
abbrev main_v465 : Ref sig .tc := ⟨.hbm, 703, rfl⟩
abbrev main_cst_57 : Ref sig .tc := ⟨.hbm, 704, rfl⟩
abbrev main_call20_v0 : Ref sig .tc := ⟨.hbm, 705, rfl⟩
abbrev main_call20_v1 : Ref sig .tc := ⟨.hbm, 706, rfl⟩
abbrev main_v466 : Ref sig .tc := ⟨.hbm, 707, rfl⟩
abbrev main_v467 : Ref sig .tc := ⟨.hbm, 708, rfl⟩
abbrev main_cst_58 : Ref sig .tc := ⟨.hbm, 709, rfl⟩
abbrev main_call21_v0 : Ref sig .tc := ⟨.hbm, 710, rfl⟩
abbrev main_call21_v1 : Ref sig .tc := ⟨.hbm, 711, rfl⟩
abbrev main_v468 : Ref sig .tc := ⟨.hbm, 712, rfl⟩
abbrev main_v469 : Ref sig .tc := ⟨.hbm, 713, rfl⟩
abbrev main_v470 : Ref sig .tc := ⟨.hbm, 714, rfl⟩
abbrev main_c_59 : Ref sig .tc := ⟨.hbm, 715, rfl⟩
abbrev main_call22_v0 : Ref sig .tc := ⟨.hbm, 716, rfl⟩
abbrev main_call22_v1 : Ref sig .tc := ⟨.hbm, 717, rfl⟩
abbrev main_v471 : Ref sig .tc := ⟨.hbm, 718, rfl⟩
abbrev main_v472 : Ref sig .tc := ⟨.hbm, 719, rfl⟩
abbrev main_cst_60 : Ref sig .tc := ⟨.hbm, 720, rfl⟩
abbrev main_call23_v0 : Ref sig .tc := ⟨.hbm, 721, rfl⟩
abbrev main_call23_v1 : Ref sig .tc := ⟨.hbm, 722, rfl⟩
abbrev main_call23_v2 : Ref sig .tc := ⟨.hbm, 723, rfl⟩
abbrev main_v473 : Ref sig .tc := ⟨.hbm, 724, rfl⟩
abbrev main_v474 : Ref sig .tc := ⟨.hbm, 725, rfl⟩
abbrev main_cst_61 : Ref sig .tc := ⟨.hbm, 726, rfl⟩
abbrev main_v475 : Ref sig .tc := ⟨.hbm, 727, rfl⟩
abbrev main_v476 : Ref sig .tc := ⟨.hbm, 728, rfl⟩
abbrev main_cst_62 : Ref sig .tc := ⟨.hbm, 729, rfl⟩
abbrev main_v477 : Ref sig .tc := ⟨.hbm, 730, rfl⟩
abbrev main_v478 : Ref sig .tc := ⟨.hbm, 731, rfl⟩
abbrev main_v479 : Ref sig .tc := ⟨.hbm, 732, rfl⟩
abbrev main_cst_63 : Ref sig .tc := ⟨.hbm, 733, rfl⟩
abbrev main_v480 : Ref sig .tc := ⟨.hbm, 734, rfl⟩
abbrev main_v481 : Ref sig .tc := ⟨.hbm, 735, rfl⟩
abbrev main_cst_64 : Ref sig .tc := ⟨.hbm, 736, rfl⟩
abbrev main_v482 : Ref sig .tc := ⟨.hbm, 737, rfl⟩
abbrev main_v483 : Ref sig .tc := ⟨.hbm, 738, rfl⟩
abbrev main_v484 : Ref sig .tc := ⟨.hbm, 739, rfl⟩
abbrev main_v485 : Ref sig .tc := ⟨.hbm, 740, rfl⟩
abbrev main_v486 : Ref sig .tc := ⟨.hbm, 741, rfl⟩
abbrev main_v487 : Ref sig .tc := ⟨.hbm, 742, rfl⟩
abbrev main_v488 : Ref sig .tc := ⟨.hbm, 743, rfl⟩
abbrev main_v489 : Ref sig .tc := ⟨.hbm, 744, rfl⟩
abbrev main_v490 : Ref sig .tc := ⟨.hbm, 745, rfl⟩
abbrev main_v491 : Ref sig .tc := ⟨.hbm, 746, rfl⟩
abbrev main_v492 : Ref sig .tc := ⟨.hbm, 747, rfl⟩
abbrev main_v493 : Ref sig .tc := ⟨.hbm, 748, rfl⟩
abbrev main_v494 : Ref sig .tc := ⟨.hbm, 749, rfl⟩
abbrev main_v495 : Ref sig .tc := ⟨.hbm, 750, rfl⟩
abbrev main_v496 : Ref sig .tc := ⟨.hbm, 751, rfl⟩
abbrev main_v497 : Ref sig .tc := ⟨.hbm, 752, rfl⟩
abbrev main_v498 : Ref sig .tc := ⟨.hbm, 753, rfl⟩
abbrev main_v499 : Ref sig .tc := ⟨.hbm, 754, rfl⟩
abbrev main_v500 : Ref sig .tc := ⟨.hbm, 755, rfl⟩
abbrev main_v501 : Ref sig .tc := ⟨.hbm, 756, rfl⟩
abbrev main_v502 : Ref sig .tc := ⟨.hbm, 757, rfl⟩
abbrev main_v503 : Ref sig .tc := ⟨.hbm, 758, rfl⟩
abbrev main_v504 : Ref sig .tc := ⟨.hbm, 759, rfl⟩
abbrev main_v505 : Ref sig .tc := ⟨.hbm, 760, rfl⟩
abbrev main_v506 : Ref sig .tc := ⟨.hbm, 761, rfl⟩
abbrev main_v507 : Ref sig .tc := ⟨.hbm, 762, rfl⟩
abbrev main_v508 : Ref sig .tc := ⟨.hbm, 763, rfl⟩
abbrev main_v509 : Ref sig .tc := ⟨.hbm, 764, rfl⟩
abbrev main_v510 : Ref sig .tc := ⟨.hbm, 765, rfl⟩
abbrev main_v511 : Ref sig .tc := ⟨.hbm, 766, rfl⟩
abbrev main_v512 : Ref sig .tc := ⟨.hbm, 767, rfl⟩
abbrev main_v513 : Ref sig .tc := ⟨.hbm, 768, rfl⟩
abbrev main_v514 : Ref sig .tc := ⟨.hbm, 769, rfl⟩
abbrev main_v515 : Ref sig .tc := ⟨.hbm, 770, rfl⟩
abbrev main_v516 : Ref sig .tc := ⟨.hbm, 771, rfl⟩
abbrev main_v517 : Ref sig .tc := ⟨.hbm, 772, rfl⟩
abbrev main_v518 : Ref sig .tc := ⟨.hbm, 773, rfl⟩
abbrev main_v519 : Ref sig .tc := ⟨.hbm, 774, rfl⟩
abbrev main_v520 : Ref sig .tc := ⟨.hbm, 775, rfl⟩
abbrev main_v521 : Ref sig .tc := ⟨.hbm, 776, rfl⟩
abbrev main_v522 : Ref sig .tc := ⟨.hbm, 777, rfl⟩
abbrev main_v523 : Ref sig .tc := ⟨.hbm, 778, rfl⟩
abbrev main_v524 : Ref sig .tc := ⟨.hbm, 779, rfl⟩
abbrev main_v525 : Ref sig .tc := ⟨.hbm, 780, rfl⟩
abbrev main_v526 : Ref sig .tc := ⟨.hbm, 781, rfl⟩
abbrev main_v527 : Ref sig .tc := ⟨.hbm, 782, rfl⟩
abbrev main_v528 : Ref sig .tc := ⟨.hbm, 783, rfl⟩
abbrev main_v529 : Ref sig .tc := ⟨.hbm, 784, rfl⟩
abbrev main_v530 : Ref sig .tc := ⟨.hbm, 785, rfl⟩
abbrev main_v531 : Ref sig .tc := ⟨.hbm, 786, rfl⟩
abbrev main_cst_65 : Ref sig .tc := ⟨.hbm, 787, rfl⟩
abbrev main_v532 : Ref sig .tc := ⟨.hbm, 788, rfl⟩
abbrev main_cst_66 : Ref sig .tc := ⟨.hbm, 789, rfl⟩
abbrev main_v533 : Ref sig .tc := ⟨.hbm, 790, rfl⟩
abbrev main_cst_67 : Ref sig .tc := ⟨.hbm, 791, rfl⟩
abbrev main_v534 : Ref sig .tc := ⟨.hbm, 792, rfl⟩
abbrev main_v535 : Ref sig .tc := ⟨.hbm, 793, rfl⟩
abbrev main_cst_68 : Ref sig .tc := ⟨.hbm, 794, rfl⟩
abbrev main_v536 : Ref sig .tc := ⟨.hbm, 795, rfl⟩
abbrev main_v537 : Ref sig .tc := ⟨.hbm, 796, rfl⟩
abbrev main_cst_69 : Ref sig .tc := ⟨.hbm, 797, rfl⟩
abbrev main_v538 : Ref sig .tc := ⟨.hbm, 798, rfl⟩
abbrev main_v539 : Ref sig .tc := ⟨.hbm, 799, rfl⟩
abbrev main_v540 : Ref sig .tc := ⟨.hbm, 800, rfl⟩
abbrev main_v541 : Ref sig .tc := ⟨.hbm, 801, rfl⟩
abbrev main_v542 : Ref sig .tc := ⟨.hbm, 802, rfl⟩
abbrev main_v543 : Ref sig .tc := ⟨.hbm, 803, rfl⟩
abbrev main_v544 : Ref sig .tc := ⟨.hbm, 804, rfl⟩
abbrev main_v545 : Ref sig .tc := ⟨.hbm, 805, rfl⟩
abbrev main_cst_70 : Ref sig .tc := ⟨.hbm, 806, rfl⟩
abbrev main_v546 : Ref sig .tc := ⟨.hbm, 807, rfl⟩
abbrev main_v547 : Ref sig .tc := ⟨.hbm, 808, rfl⟩
abbrev main_v548 : Ref sig .tc := ⟨.hbm, 809, rfl⟩
abbrev main_v549 : Ref sig .tc := ⟨.hbm, 810, rfl⟩
abbrev main_v550 : Ref sig .tc := ⟨.hbm, 811, rfl⟩
abbrev main_v551 : Ref sig .tc := ⟨.hbm, 812, rfl⟩
abbrev main_v552 : Ref sig .tc := ⟨.hbm, 813, rfl⟩
abbrev main_cst_71 : Ref sig .tc := ⟨.hbm, 814, rfl⟩
abbrev main_v553 : Ref sig .tc := ⟨.hbm, 815, rfl⟩
abbrev main_v554 : Ref sig .tc := ⟨.hbm, 816, rfl⟩
abbrev main_v555 : Ref sig .tc := ⟨.hbm, 817, rfl⟩
abbrev main_v556 : Ref sig .tc := ⟨.hbm, 818, rfl⟩
abbrev main_v557 : Ref sig .tc := ⟨.hbm, 819, rfl⟩
abbrev main_v558 : Ref sig .tc := ⟨.hbm, 820, rfl⟩
abbrev main_v559 : Ref sig .tc := ⟨.hbm, 821, rfl⟩
abbrev main_v560 : Ref sig .tc := ⟨.hbm, 822, rfl⟩
abbrev main_v561 : Ref sig .tc := ⟨.hbm, 823, rfl⟩
abbrev main_v562 : Ref sig .tc := ⟨.hbm, 824, rfl⟩
abbrev main_v563 : Ref sig .tc := ⟨.hbm, 825, rfl⟩
abbrev main_v564 : Ref sig .tc := ⟨.hbm, 826, rfl⟩
abbrev main_v565 : Ref sig .tc := ⟨.hbm, 827, rfl⟩
abbrev main_v566 : Ref sig .tc := ⟨.hbm, 828, rfl⟩
abbrev main_v567 : Ref sig .tc := ⟨.hbm, 829, rfl⟩
abbrev main_v568 : Ref sig .tc := ⟨.hbm, 830, rfl⟩
abbrev main_v569 : Ref sig .tc := ⟨.hbm, 831, rfl⟩
abbrev main_v570 : Ref sig .tc := ⟨.hbm, 832, rfl⟩
abbrev main_v571 : Ref sig .tc := ⟨.hbm, 833, rfl⟩
abbrev main_v572 : Ref sig .tc := ⟨.hbm, 834, rfl⟩
abbrev main_v573 : Ref sig .tc := ⟨.hbm, 835, rfl⟩
abbrev main_v574 : Ref sig .tc := ⟨.hbm, 836, rfl⟩
abbrev main_v575 : Ref sig .tc := ⟨.hbm, 837, rfl⟩
abbrev main_v576 : Ref sig .tc := ⟨.hbm, 838, rfl⟩
abbrev main_v577 : Ref sig .tc := ⟨.hbm, 839, rfl⟩
abbrev main_v578 : Ref sig .tc := ⟨.hbm, 840, rfl⟩
abbrev main_v579 : Ref sig .tc := ⟨.hbm, 841, rfl⟩
abbrev main_cst_72 : Ref sig .tc := ⟨.hbm, 842, rfl⟩
abbrev main_v580 : Ref sig .tc := ⟨.hbm, 843, rfl⟩
abbrev main_cst_73 : Ref sig .tc := ⟨.hbm, 844, rfl⟩
abbrev main_v581 : Ref sig .tc := ⟨.hbm, 845, rfl⟩
abbrev main_v582 : Ref sig .tc := ⟨.hbm, 846, rfl⟩
abbrev main_v583 : Ref sig .tc := ⟨.hbm, 847, rfl⟩
abbrev main_v584 : Ref sig .tc := ⟨.hbm, 848, rfl⟩
abbrev main_cst_74 : Ref sig .tc := ⟨.hbm, 849, rfl⟩
abbrev main_call24_v0 : Ref sig .tc := ⟨.hbm, 850, rfl⟩
abbrev main_call24_v1 : Ref sig .tc := ⟨.hbm, 851, rfl⟩
abbrev main_v585 : Ref sig .tc := ⟨.hbm, 852, rfl⟩
abbrev main_call25_v0 : Ref sig .tc := ⟨.hbm, 853, rfl⟩
abbrev main_call25_cst : Ref sig .tc := ⟨.hbm, 854, rfl⟩
abbrev main_call25_c : Ref sig .tc := ⟨.hbm, 855, rfl⟩
abbrev main_call25_v1_0 : Ref sig .tc := ⟨.hbm, 856, rfl⟩
abbrev main_v586 : Ref sig .tc := ⟨.hbm, 857, rfl⟩
abbrev main_v587 : Ref sig .tc := ⟨.hbm, 858, rfl⟩
abbrev main_v588 : Ref sig .tc := ⟨.hbm, 859, rfl⟩
abbrev main_call26_c : Ref sig .tc := ⟨.hbm, 860, rfl⟩
abbrev main_call26_v0 : Ref sig .tc := ⟨.hbm, 861, rfl⟩
abbrev main_call26_v1 : Ref sig .tc := ⟨.hbm, 862, rfl⟩
abbrev main_call26_c_0 : Ref sig .tc := ⟨.hbm, 863, rfl⟩
abbrev main_call26_v2 : Ref sig .tc := ⟨.hbm, 864, rfl⟩
abbrev main_call26_v3 : Ref sig .tc := ⟨.hbm, 865, rfl⟩
abbrev main_call26_v4 : Ref sig .tc := ⟨.hbm, 866, rfl⟩
abbrev main_call26_v5 : Ref sig .tc := ⟨.hbm, 867, rfl⟩
abbrev main_call26_c_1 : Ref sig .tc := ⟨.hbm, 868, rfl⟩
abbrev main_call26_c_2 : Ref sig .tc := ⟨.hbm, 869, rfl⟩
abbrev main_call26_v6 : Ref sig .tc := ⟨.hbm, 870, rfl⟩
abbrev main_call26_v7 : Ref sig .tc := ⟨.hbm, 871, rfl⟩
abbrev main_call26_v8 : Ref sig .tc := ⟨.hbm, 872, rfl⟩
abbrev main_call26_v9 : Ref sig .tc := ⟨.hbm, 873, rfl⟩
abbrev main_call26_v10 : Ref sig .tc := ⟨.hbm, 874, rfl⟩
abbrev main_call26_v11 : Ref sig .tc := ⟨.hbm, 875, rfl⟩
abbrev main_call26_c_3 : Ref sig .tc := ⟨.hbm, 876, rfl⟩
abbrev main_call26_v12 : Ref sig .tc := ⟨.hbm, 877, rfl⟩
abbrev main_call26_v13 : Ref sig .tc := ⟨.hbm, 878, rfl⟩
abbrev main_call26_cst : Ref sig .tc := ⟨.hbm, 879, rfl⟩
abbrev main_call26_v14 : Ref sig .tc := ⟨.hbm, 880, rfl⟩
abbrev main_v589 : Ref sig .tc := ⟨.hbm, 881, rfl⟩
abbrev main_v590 : Ref sig .tc := ⟨.hbm, 882, rfl⟩
abbrev main_v591 : Ref sig .tc := ⟨.hbm, 883, rfl⟩
abbrev main_v592 : Ref sig .tc := ⟨.hbm, 884, rfl⟩
abbrev main_v593 : Ref sig .tc := ⟨.hbm, 885, rfl⟩
abbrev main_call27_c : Ref sig .tc := ⟨.hbm, 886, rfl⟩
abbrev main_call27_v0 : Ref sig .tc := ⟨.hbm, 887, rfl⟩
abbrev main_call27_v1 : Ref sig .tc := ⟨.hbm, 888, rfl⟩
abbrev main_call27_c_0 : Ref sig .tc := ⟨.hbm, 889, rfl⟩
abbrev main_call27_v2 : Ref sig .tc := ⟨.hbm, 890, rfl⟩
abbrev main_call27_v3 : Ref sig .tc := ⟨.hbm, 891, rfl⟩
abbrev main_call27_v4 : Ref sig .tc := ⟨.hbm, 892, rfl⟩
abbrev main_call27_v5 : Ref sig .tc := ⟨.hbm, 893, rfl⟩
abbrev main_call27_c_1 : Ref sig .tc := ⟨.hbm, 894, rfl⟩
abbrev main_call27_c_2 : Ref sig .tc := ⟨.hbm, 895, rfl⟩
abbrev main_call27_v6 : Ref sig .tc := ⟨.hbm, 896, rfl⟩
abbrev main_call27_v7 : Ref sig .tc := ⟨.hbm, 897, rfl⟩
abbrev main_call27_v8 : Ref sig .tc := ⟨.hbm, 898, rfl⟩
abbrev main_call27_v9 : Ref sig .tc := ⟨.hbm, 899, rfl⟩
abbrev main_call27_v10 : Ref sig .tc := ⟨.hbm, 900, rfl⟩
abbrev main_call27_v11 : Ref sig .tc := ⟨.hbm, 901, rfl⟩
abbrev main_call27_c_3 : Ref sig .tc := ⟨.hbm, 902, rfl⟩
abbrev main_call27_v12 : Ref sig .tc := ⟨.hbm, 903, rfl⟩
abbrev main_call27_v13 : Ref sig .tc := ⟨.hbm, 904, rfl⟩
abbrev main_call27_c_4 : Ref sig .tc := ⟨.hbm, 905, rfl⟩
abbrev main_call27_v14 : Ref sig .tc := ⟨.hbm, 906, rfl⟩
abbrev main_v594 : Ref sig .tc := ⟨.hbm, 907, rfl⟩
abbrev main_v595 : Ref sig .tc := ⟨.hbm, 908, rfl⟩
abbrev main_v596 : Ref sig .tc := ⟨.hbm, 909, rfl⟩
abbrev main_v597 : Ref sig .tc := ⟨.hbm, 910, rfl⟩
abbrev main_v598 : Ref sig .tc := ⟨.hbm, 911, rfl⟩
abbrev main_v599 : Ref sig .tc := ⟨.hbm, 912, rfl⟩
abbrev main_v600 : Ref sig .tc := ⟨.hbm, 913, rfl⟩
abbrev main_v601 : Ref sig .tc := ⟨.hbm, 914, rfl⟩
abbrev main_v602 : Ref sig .tc := ⟨.hbm, 915, rfl⟩
abbrev main_v603 : Ref sig .tc := ⟨.hbm, 916, rfl⟩
abbrev main_v604 : Ref sig .tc := ⟨.hbm, 917, rfl⟩
abbrev main_v605 : Ref sig .tc := ⟨.hbm, 918, rfl⟩
abbrev main_v606 : Ref sig .tc := ⟨.hbm, 919, rfl⟩
abbrev main_v607 : Ref sig .tc := ⟨.hbm, 920, rfl⟩
abbrev main_v608 : Ref sig .tc := ⟨.hbm, 921, rfl⟩
abbrev main_v609 : Ref sig .tc := ⟨.hbm, 922, rfl⟩
abbrev main_v610 : Ref sig .tc := ⟨.hbm, 923, rfl⟩
abbrev main_v611 : Ref sig .tc := ⟨.hbm, 924, rfl⟩
abbrev main_v612 : Ref sig .tc := ⟨.hbm, 925, rfl⟩
abbrev main_v613 : Ref sig .tc := ⟨.hbm, 926, rfl⟩
abbrev main_v614 : Ref sig .tc := ⟨.hbm, 927, rfl⟩
abbrev main_v615 : Ref sig .tc := ⟨.hbm, 928, rfl⟩
abbrev main_c_75 : Ref sig .tc := ⟨.hbm, 929, rfl⟩
abbrev main_v616 : Ref sig .tc := ⟨.hbm, 930, rfl⟩
abbrev main_c_76 : Ref sig .tc := ⟨.hbm, 931, rfl⟩
abbrev main_v617 : Ref sig .tc := ⟨.hbm, 932, rfl⟩
abbrev main_v618 : Ref sig .tc := ⟨.hbm, 933, rfl⟩
abbrev main_v619 : Ref sig .tc := ⟨.hbm, 934, rfl⟩
abbrev main_v620 : Ref sig .tc := ⟨.hbm, 935, rfl⟩
abbrev main_cst_77 : Ref sig .tc := ⟨.hbm, 936, rfl⟩
abbrev main_v621 : Ref sig .tc := ⟨.hbm, 937, rfl⟩
abbrev main_v622 : Ref sig .tc := ⟨.hbm, 938, rfl⟩
abbrev main_v623 : Ref sig .tc := ⟨.hbm, 939, rfl⟩
abbrev main_cst_78 : Ref sig .tc := ⟨.hbm, 940, rfl⟩
abbrev main_call28_v0 : Ref sig .tc := ⟨.hbm, 941, rfl⟩
abbrev main_call28_v1 : Ref sig .tc := ⟨.hbm, 942, rfl⟩
abbrev main_v624 : Ref sig .tc := ⟨.hbm, 943, rfl⟩
abbrev main_v625 : Ref sig .tc := ⟨.hbm, 944, rfl⟩
abbrev main_cst_79 : Ref sig .tc := ⟨.hbm, 945, rfl⟩
abbrev main_call29_v0 : Ref sig .tc := ⟨.hbm, 946, rfl⟩
abbrev main_call29_v1 : Ref sig .tc := ⟨.hbm, 947, rfl⟩
abbrev main_v626 : Ref sig .tc := ⟨.hbm, 948, rfl⟩
abbrev main_v627 : Ref sig .tc := ⟨.hbm, 949, rfl⟩
abbrev main_v628 : Ref sig .tc := ⟨.hbm, 950, rfl⟩
abbrev main_c_80 : Ref sig .tc := ⟨.hbm, 951, rfl⟩
abbrev main_call30_v0 : Ref sig .tc := ⟨.hbm, 952, rfl⟩
abbrev main_call30_v1 : Ref sig .tc := ⟨.hbm, 953, rfl⟩
abbrev main_v629 : Ref sig .tc := ⟨.hbm, 954, rfl⟩
abbrev main_v630 : Ref sig .tc := ⟨.hbm, 955, rfl⟩
abbrev main_cst_81 : Ref sig .tc := ⟨.hbm, 956, rfl⟩
abbrev main_call31_v0 : Ref sig .tc := ⟨.hbm, 957, rfl⟩
abbrev main_call31_v1 : Ref sig .tc := ⟨.hbm, 958, rfl⟩
abbrev main_call31_v2 : Ref sig .tc := ⟨.hbm, 959, rfl⟩
abbrev main_v631 : Ref sig .tc := ⟨.hbm, 960, rfl⟩
abbrev main_v632 : Ref sig .tc := ⟨.hbm, 961, rfl⟩
abbrev main_cst_82 : Ref sig .tc := ⟨.hbm, 962, rfl⟩
abbrev main_v633 : Ref sig .tc := ⟨.hbm, 963, rfl⟩
abbrev main_v634 : Ref sig .tc := ⟨.hbm, 964, rfl⟩
abbrev main_cst_83 : Ref sig .tc := ⟨.hbm, 965, rfl⟩
abbrev main_v635 : Ref sig .tc := ⟨.hbm, 966, rfl⟩
abbrev main_v636 : Ref sig .tc := ⟨.hbm, 967, rfl⟩
abbrev main_v637 : Ref sig .tc := ⟨.hbm, 968, rfl⟩
abbrev main_cst_84 : Ref sig .tc := ⟨.hbm, 969, rfl⟩
abbrev main_v638 : Ref sig .tc := ⟨.hbm, 970, rfl⟩
abbrev main_v639 : Ref sig .tc := ⟨.hbm, 971, rfl⟩
abbrev main_cst_85 : Ref sig .tc := ⟨.hbm, 972, rfl⟩
abbrev main_v640 : Ref sig .tc := ⟨.hbm, 973, rfl⟩
abbrev main_v641 : Ref sig .tc := ⟨.hbm, 974, rfl⟩
abbrev main_v642 : Ref sig .tc := ⟨.hbm, 975, rfl⟩
abbrev main_v643 : Ref sig .tc := ⟨.hbm, 976, rfl⟩
abbrev main_v644 : Ref sig .tc := ⟨.hbm, 977, rfl⟩
abbrev main_v645 : Ref sig .tc := ⟨.hbm, 978, rfl⟩
abbrev main_v646 : Ref sig .tc := ⟨.hbm, 979, rfl⟩
abbrev main_v647 : Ref sig .tc := ⟨.hbm, 980, rfl⟩
abbrev main_v648 : Ref sig .tc := ⟨.hbm, 981, rfl⟩
abbrev main_v649 : Ref sig .tc := ⟨.hbm, 982, rfl⟩
abbrev main_v650 : Ref sig .tc := ⟨.hbm, 983, rfl⟩
abbrev main_v651 : Ref sig .tc := ⟨.hbm, 984, rfl⟩
abbrev main_v652 : Ref sig .tc := ⟨.hbm, 985, rfl⟩
abbrev main_v653 : Ref sig .tc := ⟨.hbm, 986, rfl⟩
abbrev main_v654 : Ref sig .tc := ⟨.hbm, 987, rfl⟩
abbrev main_v655 : Ref sig .tc := ⟨.hbm, 988, rfl⟩
abbrev main_v656 : Ref sig .tc := ⟨.hbm, 989, rfl⟩
abbrev main_v657 : Ref sig .tc := ⟨.hbm, 990, rfl⟩
abbrev main_v658 : Ref sig .tc := ⟨.hbm, 991, rfl⟩
abbrev main_v659 : Ref sig .tc := ⟨.hbm, 992, rfl⟩
abbrev main_v660 : Ref sig .tc := ⟨.hbm, 993, rfl⟩
abbrev main_v661 : Ref sig .tc := ⟨.hbm, 994, rfl⟩
abbrev main_v662 : Ref sig .tc := ⟨.hbm, 995, rfl⟩
abbrev main_v663 : Ref sig .tc := ⟨.hbm, 996, rfl⟩
abbrev main_v664 : Ref sig .tc := ⟨.hbm, 997, rfl⟩
abbrev main_v665 : Ref sig .tc := ⟨.hbm, 998, rfl⟩
abbrev main_v666 : Ref sig .tc := ⟨.hbm, 999, rfl⟩
abbrev main_v667 : Ref sig .tc := ⟨.hbm, 1000, rfl⟩
abbrev main_v668 : Ref sig .tc := ⟨.hbm, 1001, rfl⟩
abbrev main_v669 : Ref sig .tc := ⟨.hbm, 1002, rfl⟩
abbrev main_v670 : Ref sig .tc := ⟨.hbm, 1003, rfl⟩
abbrev main_v671 : Ref sig .tc := ⟨.hbm, 1004, rfl⟩
abbrev main_v672 : Ref sig .tc := ⟨.hbm, 1005, rfl⟩
abbrev main_v673 : Ref sig .tc := ⟨.hbm, 1006, rfl⟩
abbrev main_v674 : Ref sig .tc := ⟨.hbm, 1007, rfl⟩
abbrev main_v675 : Ref sig .tc := ⟨.hbm, 1008, rfl⟩
abbrev main_v676 : Ref sig .tc := ⟨.hbm, 1009, rfl⟩
abbrev main_v677 : Ref sig .tc := ⟨.hbm, 1010, rfl⟩
abbrev main_v678 : Ref sig .tc := ⟨.hbm, 1011, rfl⟩
abbrev main_v679 : Ref sig .tc := ⟨.hbm, 1012, rfl⟩
abbrev main_v680 : Ref sig .tc := ⟨.hbm, 1013, rfl⟩
abbrev main_v681 : Ref sig .tc := ⟨.hbm, 1014, rfl⟩
abbrev main_v682 : Ref sig .tc := ⟨.hbm, 1015, rfl⟩
abbrev main_v683 : Ref sig .tc := ⟨.hbm, 1016, rfl⟩
abbrev main_v684 : Ref sig .tc := ⟨.hbm, 1017, rfl⟩
abbrev main_v685 : Ref sig .tc := ⟨.hbm, 1018, rfl⟩
abbrev main_v686 : Ref sig .tc := ⟨.hbm, 1019, rfl⟩
abbrev main_v687 : Ref sig .tc := ⟨.hbm, 1020, rfl⟩
abbrev main_v688 : Ref sig .tc := ⟨.hbm, 1021, rfl⟩
abbrev main_v689 : Ref sig .tc := ⟨.hbm, 1022, rfl⟩
abbrev main_cst_86 : Ref sig .tc := ⟨.hbm, 1023, rfl⟩
abbrev main_v690 : Ref sig .tc := ⟨.hbm, 1024, rfl⟩
abbrev main_cst_87 : Ref sig .tc := ⟨.hbm, 1025, rfl⟩
abbrev main_v691 : Ref sig .tc := ⟨.hbm, 1026, rfl⟩
abbrev main_cst_88 : Ref sig .tc := ⟨.hbm, 1027, rfl⟩
abbrev main_v692 : Ref sig .tc := ⟨.hbm, 1028, rfl⟩
abbrev main_v693 : Ref sig .tc := ⟨.hbm, 1029, rfl⟩
abbrev main_cst_89 : Ref sig .tc := ⟨.hbm, 1030, rfl⟩
abbrev main_v694 : Ref sig .tc := ⟨.hbm, 1031, rfl⟩
abbrev main_v695 : Ref sig .tc := ⟨.hbm, 1032, rfl⟩
abbrev main_cst_90 : Ref sig .tc := ⟨.hbm, 1033, rfl⟩
abbrev main_v696 : Ref sig .tc := ⟨.hbm, 1034, rfl⟩
abbrev main_v697 : Ref sig .tc := ⟨.hbm, 1035, rfl⟩
abbrev main_v698 : Ref sig .tc := ⟨.hbm, 1036, rfl⟩
abbrev main_v699 : Ref sig .tc := ⟨.hbm, 1037, rfl⟩
abbrev main_v700 : Ref sig .tc := ⟨.hbm, 1038, rfl⟩
abbrev main_v701 : Ref sig .tc := ⟨.hbm, 1039, rfl⟩
abbrev main_v702 : Ref sig .tc := ⟨.hbm, 1040, rfl⟩
abbrev main_v703 : Ref sig .tc := ⟨.hbm, 1041, rfl⟩
abbrev main_cst_91 : Ref sig .tc := ⟨.hbm, 1042, rfl⟩
abbrev main_v704 : Ref sig .tc := ⟨.hbm, 1043, rfl⟩
abbrev main_v705 : Ref sig .tc := ⟨.hbm, 1044, rfl⟩
abbrev main_v706 : Ref sig .tc := ⟨.hbm, 1045, rfl⟩
abbrev main_v707 : Ref sig .tc := ⟨.hbm, 1046, rfl⟩
abbrev main_v708 : Ref sig .tc := ⟨.hbm, 1047, rfl⟩
abbrev main_v709 : Ref sig .tc := ⟨.hbm, 1048, rfl⟩
abbrev main_v710 : Ref sig .tc := ⟨.hbm, 1049, rfl⟩
abbrev main_cst_92 : Ref sig .tc := ⟨.hbm, 1050, rfl⟩
abbrev main_v711 : Ref sig .tc := ⟨.hbm, 1051, rfl⟩
abbrev main_v712 : Ref sig .tc := ⟨.hbm, 1052, rfl⟩
abbrev main_v713 : Ref sig .tc := ⟨.hbm, 1053, rfl⟩
abbrev main_v714 : Ref sig .tc := ⟨.hbm, 1054, rfl⟩
abbrev main_v715 : Ref sig .tc := ⟨.hbm, 1055, rfl⟩
abbrev main_v716 : Ref sig .tc := ⟨.hbm, 1056, rfl⟩
abbrev main_v717 : Ref sig .tc := ⟨.hbm, 1057, rfl⟩
abbrev main_v718 : Ref sig .tc := ⟨.hbm, 1058, rfl⟩
abbrev main_v719 : Ref sig .tc := ⟨.hbm, 1059, rfl⟩
abbrev main_v720 : Ref sig .tc := ⟨.hbm, 1060, rfl⟩
abbrev main_v721 : Ref sig .tc := ⟨.hbm, 1061, rfl⟩
abbrev main_v722 : Ref sig .tc := ⟨.hbm, 1062, rfl⟩
abbrev main_v723 : Ref sig .tc := ⟨.hbm, 1063, rfl⟩
abbrev main_v724 : Ref sig .tc := ⟨.hbm, 1064, rfl⟩
abbrev main_v725 : Ref sig .tc := ⟨.hbm, 1065, rfl⟩
abbrev main_v726 : Ref sig .tc := ⟨.hbm, 1066, rfl⟩
abbrev main_v727 : Ref sig .tc := ⟨.hbm, 1067, rfl⟩
abbrev main_v728 : Ref sig .tc := ⟨.hbm, 1068, rfl⟩
abbrev main_v729 : Ref sig .tc := ⟨.hbm, 1069, rfl⟩
abbrev main_v730 : Ref sig .tc := ⟨.hbm, 1070, rfl⟩
abbrev main_v731 : Ref sig .tc := ⟨.hbm, 1071, rfl⟩
abbrev main_v732 : Ref sig .tc := ⟨.hbm, 1072, rfl⟩
abbrev main_v733 : Ref sig .tc := ⟨.hbm, 1073, rfl⟩
abbrev main_v734 : Ref sig .tc := ⟨.hbm, 1074, rfl⟩
abbrev main_v735 : Ref sig .tc := ⟨.hbm, 1075, rfl⟩
abbrev main_v736 : Ref sig .tc := ⟨.hbm, 1076, rfl⟩
abbrev main_v737 : Ref sig .tc := ⟨.hbm, 1077, rfl⟩
abbrev main_cst_93 : Ref sig .tc := ⟨.hbm, 1078, rfl⟩
abbrev main_v738 : Ref sig .tc := ⟨.hbm, 1079, rfl⟩
abbrev main_cst_94 : Ref sig .tc := ⟨.hbm, 1080, rfl⟩
abbrev main_v739 : Ref sig .tc := ⟨.hbm, 1081, rfl⟩
abbrev main_v740 : Ref sig .tc := ⟨.hbm, 1082, rfl⟩
abbrev main_v741 : Ref sig .tc := ⟨.hbm, 1083, rfl⟩
abbrev main_v742 : Ref sig .tc := ⟨.hbm, 1084, rfl⟩
abbrev main_cst_95 : Ref sig .tc := ⟨.hbm, 1085, rfl⟩
abbrev main_call32_v0 : Ref sig .tc := ⟨.hbm, 1086, rfl⟩
abbrev main_call32_v1 : Ref sig .tc := ⟨.hbm, 1087, rfl⟩
abbrev main_v743 : Ref sig .tc := ⟨.hbm, 1088, rfl⟩
abbrev main_call33_v0 : Ref sig .tc := ⟨.hbm, 1089, rfl⟩
abbrev main_call33_cst : Ref sig .tc := ⟨.hbm, 1090, rfl⟩
abbrev main_call33_c : Ref sig .tc := ⟨.hbm, 1091, rfl⟩
abbrev main_call33_v1_0 : Ref sig .tc := ⟨.hbm, 1092, rfl⟩
abbrev main_v744 : Ref sig .tc := ⟨.hbm, 1093, rfl⟩
abbrev main_v745 : Ref sig .tc := ⟨.hbm, 1094, rfl⟩
abbrev main_v746 : Ref sig .tc := ⟨.hbm, 1095, rfl⟩
abbrev main_call34_c : Ref sig .tc := ⟨.hbm, 1096, rfl⟩
abbrev main_call34_v0 : Ref sig .tc := ⟨.hbm, 1097, rfl⟩
abbrev main_call34_v1 : Ref sig .tc := ⟨.hbm, 1098, rfl⟩
abbrev main_call34_c_0 : Ref sig .tc := ⟨.hbm, 1099, rfl⟩
abbrev main_call34_v2 : Ref sig .tc := ⟨.hbm, 1100, rfl⟩
abbrev main_call34_v3 : Ref sig .tc := ⟨.hbm, 1101, rfl⟩
abbrev main_call34_v4 : Ref sig .tc := ⟨.hbm, 1102, rfl⟩
abbrev main_call34_v5 : Ref sig .tc := ⟨.hbm, 1103, rfl⟩
abbrev main_call34_c_1 : Ref sig .tc := ⟨.hbm, 1104, rfl⟩
abbrev main_call34_c_2 : Ref sig .tc := ⟨.hbm, 1105, rfl⟩
abbrev main_call34_v6 : Ref sig .tc := ⟨.hbm, 1106, rfl⟩
abbrev main_call34_v7 : Ref sig .tc := ⟨.hbm, 1107, rfl⟩
abbrev main_call34_v8 : Ref sig .tc := ⟨.hbm, 1108, rfl⟩
abbrev main_call34_v9 : Ref sig .tc := ⟨.hbm, 1109, rfl⟩
abbrev main_call34_v10 : Ref sig .tc := ⟨.hbm, 1110, rfl⟩
abbrev main_call34_v11 : Ref sig .tc := ⟨.hbm, 1111, rfl⟩
abbrev main_call34_c_3 : Ref sig .tc := ⟨.hbm, 1112, rfl⟩
abbrev main_call34_v12 : Ref sig .tc := ⟨.hbm, 1113, rfl⟩
abbrev main_call34_v13 : Ref sig .tc := ⟨.hbm, 1114, rfl⟩
abbrev main_call34_cst : Ref sig .tc := ⟨.hbm, 1115, rfl⟩
abbrev main_call34_v14 : Ref sig .tc := ⟨.hbm, 1116, rfl⟩
abbrev main_v747 : Ref sig .tc := ⟨.hbm, 1117, rfl⟩
abbrev main_v748 : Ref sig .tc := ⟨.hbm, 1118, rfl⟩
abbrev main_v749 : Ref sig .tc := ⟨.hbm, 1119, rfl⟩
abbrev main_v750 : Ref sig .tc := ⟨.hbm, 1120, rfl⟩
abbrev main_v751 : Ref sig .tc := ⟨.hbm, 1121, rfl⟩
abbrev main_call35_c : Ref sig .tc := ⟨.hbm, 1122, rfl⟩
abbrev main_call35_v0 : Ref sig .tc := ⟨.hbm, 1123, rfl⟩
abbrev main_call35_v1 : Ref sig .tc := ⟨.hbm, 1124, rfl⟩
abbrev main_call35_c_0 : Ref sig .tc := ⟨.hbm, 1125, rfl⟩
abbrev main_call35_v2 : Ref sig .tc := ⟨.hbm, 1126, rfl⟩
abbrev main_call35_v3 : Ref sig .tc := ⟨.hbm, 1127, rfl⟩
abbrev main_call35_v4 : Ref sig .tc := ⟨.hbm, 1128, rfl⟩
abbrev main_call35_v5 : Ref sig .tc := ⟨.hbm, 1129, rfl⟩
abbrev main_call35_c_1 : Ref sig .tc := ⟨.hbm, 1130, rfl⟩
abbrev main_call35_c_2 : Ref sig .tc := ⟨.hbm, 1131, rfl⟩
abbrev main_call35_v6 : Ref sig .tc := ⟨.hbm, 1132, rfl⟩
abbrev main_call35_v7 : Ref sig .tc := ⟨.hbm, 1133, rfl⟩
abbrev main_call35_v8 : Ref sig .tc := ⟨.hbm, 1134, rfl⟩
abbrev main_call35_v9 : Ref sig .tc := ⟨.hbm, 1135, rfl⟩
abbrev main_call35_v10 : Ref sig .tc := ⟨.hbm, 1136, rfl⟩
abbrev main_call35_v11 : Ref sig .tc := ⟨.hbm, 1137, rfl⟩
abbrev main_call35_c_3 : Ref sig .tc := ⟨.hbm, 1138, rfl⟩
abbrev main_call35_v12 : Ref sig .tc := ⟨.hbm, 1139, rfl⟩
abbrev main_call35_v13 : Ref sig .tc := ⟨.hbm, 1140, rfl⟩
abbrev main_call35_c_4 : Ref sig .tc := ⟨.hbm, 1141, rfl⟩
abbrev main_call35_v14 : Ref sig .tc := ⟨.hbm, 1142, rfl⟩
abbrev main_v752 : Ref sig .tc := ⟨.hbm, 1143, rfl⟩
abbrev main_v753 : Ref sig .tc := ⟨.hbm, 1144, rfl⟩
abbrev main_v754 : Ref sig .tc := ⟨.hbm, 1145, rfl⟩
abbrev main_v755 : Ref sig .tc := ⟨.hbm, 1146, rfl⟩
abbrev main_v756 : Ref sig .tc := ⟨.hbm, 1147, rfl⟩
abbrev main_v757 : Ref sig .tc := ⟨.hbm, 1148, rfl⟩
abbrev main_v758 : Ref sig .tc := ⟨.hbm, 1149, rfl⟩
abbrev main_v759 : Ref sig .tc := ⟨.hbm, 1150, rfl⟩
abbrev main_v760 : Ref sig .tc := ⟨.hbm, 1151, rfl⟩
abbrev main_v761 : Ref sig .tc := ⟨.hbm, 1152, rfl⟩
abbrev main_v762 : Ref sig .tc := ⟨.hbm, 1153, rfl⟩
abbrev main_v763 : Ref sig .tc := ⟨.hbm, 1154, rfl⟩
abbrev main_v764 : Ref sig .tc := ⟨.hbm, 1155, rfl⟩
abbrev main_v765 : Ref sig .tc := ⟨.hbm, 1156, rfl⟩
abbrev main_v766 : Ref sig .tc := ⟨.hbm, 1157, rfl⟩
abbrev main_v767 : Ref sig .tc := ⟨.hbm, 1158, rfl⟩
abbrev main_v768 : Ref sig .tc := ⟨.hbm, 1159, rfl⟩
abbrev main_v769 : Ref sig .tc := ⟨.hbm, 1160, rfl⟩
abbrev main_v770 : Ref sig .tc := ⟨.hbm, 1161, rfl⟩
abbrev main_v771 : Ref sig .tc := ⟨.hbm, 1162, rfl⟩
abbrev main_v772 : Ref sig .tc := ⟨.hbm, 1163, rfl⟩
abbrev main_v773 : Ref sig .tc := ⟨.hbm, 1164, rfl⟩
abbrev main_c_96 : Ref sig .tc := ⟨.hbm, 1165, rfl⟩
abbrev main_v774 : Ref sig .tc := ⟨.hbm, 1166, rfl⟩
abbrev main_c_97 : Ref sig .tc := ⟨.hbm, 1167, rfl⟩
abbrev main_v775 : Ref sig .tc := ⟨.hbm, 1168, rfl⟩
abbrev main_v776 : Ref sig .tc := ⟨.hbm, 1169, rfl⟩
abbrev main_v777 : Ref sig .tc := ⟨.hbm, 1170, rfl⟩
abbrev main_v778 : Ref sig .tc := ⟨.hbm, 1171, rfl⟩
abbrev main_cst_98 : Ref sig .tc := ⟨.hbm, 1172, rfl⟩
abbrev main_v779 : Ref sig .tc := ⟨.hbm, 1173, rfl⟩
abbrev main_v780 : Ref sig .tc := ⟨.hbm, 1174, rfl⟩
abbrev main_v781 : Ref sig .tc := ⟨.hbm, 1175, rfl⟩
abbrev main_cst_99 : Ref sig .tc := ⟨.hbm, 1176, rfl⟩
abbrev main_call36_v0 : Ref sig .tc := ⟨.hbm, 1177, rfl⟩
abbrev main_call36_v1 : Ref sig .tc := ⟨.hbm, 1178, rfl⟩
abbrev main_v782 : Ref sig .tc := ⟨.hbm, 1179, rfl⟩
abbrev main_v783 : Ref sig .tc := ⟨.hbm, 1180, rfl⟩
abbrev main_cst_100 : Ref sig .tc := ⟨.hbm, 1181, rfl⟩
abbrev main_call37_v0 : Ref sig .tc := ⟨.hbm, 1182, rfl⟩
abbrev main_call37_v1 : Ref sig .tc := ⟨.hbm, 1183, rfl⟩
abbrev main_v784 : Ref sig .tc := ⟨.hbm, 1184, rfl⟩
abbrev main_v785 : Ref sig .tc := ⟨.hbm, 1185, rfl⟩
abbrev main_v786 : Ref sig .tc := ⟨.hbm, 1186, rfl⟩
abbrev main_c_101 : Ref sig .tc := ⟨.hbm, 1187, rfl⟩
abbrev main_call38_v0 : Ref sig .tc := ⟨.hbm, 1188, rfl⟩
abbrev main_call38_v1 : Ref sig .tc := ⟨.hbm, 1189, rfl⟩
abbrev main_v787 : Ref sig .tc := ⟨.hbm, 1190, rfl⟩
abbrev main_v788 : Ref sig .tc := ⟨.hbm, 1191, rfl⟩
abbrev main_cst_102 : Ref sig .tc := ⟨.hbm, 1192, rfl⟩
abbrev main_call39_v0 : Ref sig .tc := ⟨.hbm, 1193, rfl⟩
abbrev main_call39_v1 : Ref sig .tc := ⟨.hbm, 1194, rfl⟩
abbrev main_call39_v2 : Ref sig .tc := ⟨.hbm, 1195, rfl⟩
abbrev main_v789 : Ref sig .tc := ⟨.hbm, 1196, rfl⟩
abbrev main_v790 : Ref sig .tc := ⟨.hbm, 1197, rfl⟩
abbrev main_v791 : Ref sig .tc := ⟨.hbm, 1198, rfl⟩
abbrev main_v792 : Ref sig .tc := ⟨.hbm, 1199, rfl⟩

abbrev nD : Nat := 1
abbrev τ : Topo := Topo.v7x

variable {F : FTy → Type} [FloatOps F]
-- ==== Proof.Straight.lean ====
/- A straight line of host operations in which every operation writes a buffer of its own, above all the buffers it
   reads: after the line, the contents of every written buffer are the operation's function of the contents AFTER the
   line of the buffers it reads. So the line's effect is a system of equations over one valuation, and no value is ever
   copied into the terms that use it. -/
module

public import Idealize.ShloMosaic.Lib.StableHlo.Run
public import Idealize.ShloMosaic.Lib.StableHlo.RunHlo

@[expose] public section

namespace Cert.Straight

open Idealize.ShloMosaic Idealize.ShloMosaic.TcCoe Idealize.SL.Sem Idealize.ShloMosaic.StableHlo

variable {τ : Topo} {sig : RefSig} {Val : EltTy → Type}

/-- A TensorCore reference's place in the numbering of its memory space. -/
abbrev place (r : Ref sig .tc) : Nat := r.idx.val

/-- One operation of such a line: it writes `y` alone and determines it, touches only the TensorCore's buffers, and
    what it writes depends only on buffers placed before `y`. -/
structure Writes (op : HloOp τ sig Val) (y : Ref sig .tc) : Prop where
  one : op.writes = {Proc.devRef .tc y}
  tc : op.bufs ⊆ tcRefs τ sig
  determined : op.fresh = ∅
  reads : ∀ F G : Valuation τ sig Val, (∀ r : Ref sig .tc, place r < place y → F (Proc.devRef .tc r) = G (Proc.devRef .tc r)) →
    op.result F (Proc.devRef .tc y) = op.result G (Proc.devRef .tc y)

/-- The operations write buffers at strictly rising places, the first at `k` or later, all before `k'`. -/
inductive Rising : Nat → Nat → List (HloOp τ sig Val) → Prop
  | nil {k k' : Nat} (h : k ≤ k') : Rising k k' []
  | cons {k k' : Nat} {op : HloOp τ sig Val} {y : Ref sig .tc} {ops : List (HloOp τ sig Val)} (hw : Writes op y)
      (hk : k ≤ place y) (h : Rising (place y + 1) k' ops) : Rising k k' (op :: ops)

/-- Two rising lines, one after the other. -/
theorem Rising.append {k m n : Nat} {l₁ l₂ : List (HloOp τ sig Val)} (h₁ : Rising k m l₁) (h₂ : Rising m n l₂) :
    Rising k n (l₁ ++ l₂) := by
  induction h₁ with
  | nil h =>
    cases h₂ with
    | nil h' => exact .nil (h.trans h')
    | cons hw hk hr => exact .cons hw (h.trans hk) hr
  | cons hw hk _ ih => exact .cons hw hk (ih h₂)

/-- A rising line keeps every buffer placed before it. -/
theorem Rising.kept {k k' : Nat} {ops : List (HloOp τ sig Val)} (h : Rising k k' ops) :
    ∀ (V : Valuation τ sig Val) (r : Ref sig .tc), place r < k → after ops V (Proc.devRef .tc r) = V (Proc.devRef .tc r) := by
  induction h with
  | nil => intro V r _; rfl
  | @cons k k' op y ops hw hk _ ih =>
    intro V r hr
    rw [after_cons, ih _ r (by omega)]
    exact result_of_writes_ne op V y r hw.one fun e => by subst e; omega

/-- `U` holds, at every buffer the line writes, what the writing operation computes from `U` itself. -/
def Solves (U : Valuation τ sig Val) : List (HloOp τ sig Val) → Prop
  | [] => True
  | op :: ops => (∀ b ∈ op.writes, U b = op.result U b) ∧ Solves U ops

/-- Every contents solve the empty line. -/
theorem solves_nil {U : Valuation τ sig Val} : Solves U [] ↔ True := Iff.rfl

/-- The contents a rising line leaves solve the line's equations. -/
theorem Rising.solves {k k' : Nat} {ops : List (HloOp τ sig Val)} (h : Rising k k' ops) :
    ∀ V : Valuation τ sig Val, Solves (after ops V) ops := by
  induction h with
  | nil => intro V; trivial
  | @cons k k' op y ops hw hk hr ih =>
    intro V
    refine ⟨fun b hb => ?_, ih _⟩
    rw [hw.one, Finset.mem_singleton] at hb
    subst hb
    rw [after_cons, hr.kept _ y (by omega)]
    refine hw.reads _ _ fun r hlt => ?_
    rw [hr.kept _ r (by omega)]
    exact (result_of_writes_ne op V y r hw.one fun e => by subst e; omega).symm

/-- A solution of two lines run one after the other solves each. -/
theorem solves_append {U : Valuation τ sig Val} {l₁ l₂ : List (HloOp τ sig Val)} :
    Solves U (l₁ ++ l₂) ↔ Solves U l₁ ∧ Solves U l₂ := by
  induction l₁ with
  | nil => exact ⟨fun h => ⟨trivial, h⟩, fun h => h.2⟩
  | cons op l ih => simp only [List.cons_append, Solves, ih, and_assoc]

/-- A rising line touches only the TensorCore's buffers. -/
theorem Rising.tc {k k' : Nat} {ops : List (HloOp τ sig Val)} (h : Rising k k' ops) :
    ops.Forall fun op => op.bufs ⊆ tcRefs τ sig := by
  induction h with
  | nil => trivial
  | cons hw _ _ ih => exact (List.forall_cons _ _ _).mpr ⟨hw.tc, ih⟩

/-- A rising line determines everything it writes. -/
theorem Rising.determined {k k' : Nat} {ops : List (HloOp τ sig Val)} (h : Rising k k' ops) :
    ∀ op ∈ ops, op.fresh = ∅ := by
  induction h with
  | nil => intro op h; cases h
  | cons hw _ _ ih =>
    intro op h
    cases h with
    | head => exact hw.determined
    | tail _ h => exact ih op h

section Builders

variable {k k' : Nat} {x a b c e y : Ref sig .tc} {ops : List (HloOp τ sig Val)}

/-! Each kind of operation at the head of a rising line. -/

/-- A rising line stays one with an operation of no operand before it that writes at or above the line's start. -/
theorem Rising.nullary {v : y.ty.Contents Val} {hy} (hk : k ≤ place y) (h : Rising (place y + 1) k' ops) :
    Rising k k' (StableHlo.nullary (τ := τ) y v hy :: ops) :=
  .cons ⟨rfl, nullary_bufs_sub y v hy, rfl, fun F G _ => by rw [nullary_result, nullary_result]⟩ hk h

/-- A rising line stays one with an operation of one operand before it that writes at or above the line's start and reads below what it writes. -/
theorem Rising.unary {f : x.ty.Contents Val → y.ty.Contents Val} {hx hy} (hk : k ≤ place y) (h₁ : place x < place y)
    (h : Rising (place y + 1) k' ops) : Rising k k' (StableHlo.unary (τ := τ) x y f hx hy :: ops) :=
  .cons ⟨rfl, unary_bufs_sub x y f hx hy, rfl, fun F G hr => by rw [unary_result, unary_result, hr x h₁]⟩ hk h

/-- A rising line stays one with an operation of two operands before it that writes at or above the line's start and reads below what it writes. -/
theorem Rising.binary {f : a.ty.Contents Val → b.ty.Contents Val → y.ty.Contents Val} {ha hb hy} (hk : k ≤ place y)
    (h₁ : place a < place y) (h₂ : place b < place y) (h : Rising (place y + 1) k' ops) :
    Rising k k' (StableHlo.binary (τ := τ) a b y f ha hb hy :: ops) :=
  .cons ⟨rfl, binary_bufs_sub a b y f ha hb hy, rfl, fun F G hr => by rw [binary_result, binary_result, hr a h₁, hr b h₂]⟩ hk h

/-- A rising line stays one with an operation of three operands before it that writes at or above the line's start and reads below what it writes. -/
theorem Rising.ternary {f : c.ty.Contents Val → a.ty.Contents Val → b.ty.Contents Val → y.ty.Contents Val} {hc ha hb hy}
    (hk : k ≤ place y) (h₀ : place c < place y) (h₁ : place a < place y) (h₂ : place b < place y)
    (h : Rising (place y + 1) k' ops) : Rising k k' (StableHlo.ternary (τ := τ) c a b y f hc ha hb hy :: ops) :=
  .cons ⟨rfl, ternary_bufs_sub a b c y f hc ha hb hy, rfl, fun F G hr => by
    rw [ternary_result, ternary_result, hr c h₀, hr a h₁, hr b h₂]⟩ hk h

/-- A rising line stays one with an operation of four operands before it that writes at or above the line's start and reads below what it writes. -/
theorem Rising.quaternary
    {f : a.ty.Contents Val → b.ty.Contents Val → c.ty.Contents Val → e.ty.Contents Val → y.ty.Contents Val} {ha hb hc he hy}
    (hk : k ≤ place y) (h₁ : place a < place y) (h₂ : place b < place y) (h₃ : place c < place y) (h₄ : place e < place y)
    (h : Rising (place y + 1) k' ops) : Rising k k' (StableHlo.quaternary (τ := τ) a b c e y f ha hb hc he hy :: ops) :=
  .cons ⟨rfl, quaternary_bufs_sub a b c e y f ha hb hc he hy, rfl, fun F G hr => by
    rw [quaternary_result, quaternary_result, hr a h₁, hr b h₂, hr c h₃, hr e h₄]⟩ hk h

/-- A rising line stays one with a reshape before it that writes at or above the line's start and reads below what it writes. -/
theorem Rising.reshape {he hn hx hy} (hk : k ≤ place y) (h₁ : place x < place y) (h : Rising (place y + 1) k' ops) :
    Rising k k' (StableHlo.reshape (τ := τ) (Val := Val) x y he hn hx hy :: ops) :=
  .cons ⟨rfl, reshape_bufs_sub x y he hn hx hy, rfl, fun F G hr => by rw [reshape_result, reshape_result, hr x h₁]⟩ hk h

/-- A rising line stays one with an operation of a family of operands before it that writes at or above the line's start and reads below what it writes. -/
theorem Rising.nary {n : Nat} {xs : Fin n → Ref sig .tc} {f : ((j : Fin n) → (xs j).ty.Contents Val) → y.ty.Contents Val}
    {hxs hy} (hk : k ≤ place y) (h₁ : ∀ j, place (xs j) < place y) (h : Rising (place y + 1) k' ops) :
    Rising k k' (StableHlo.nary (τ := τ) xs y f hxs hy :: ops) :=
  .cons ⟨rfl, nary_bufs_sub y xs f hxs hy, rfl, fun F G hr => by
    rw [nary_result, nary_result]; exact congrArg f (funext fun j => hr (xs j) (h₁ j))⟩ hk h

/-! Each kind of operation's equation. -/

variable {U : Valuation τ sig Val}

/-- The equation of an operation that writes `y` alone. -/
theorem solves_cons {op : HloOp τ sig Val} {v : y.ty.Contents Val} (hw : op.writes = {Proc.devRef .tc y})
    (hv : op.result U (Proc.devRef .tc y) = v) : Solves U (op :: ops) ↔ U (Proc.devRef .tc y) = v ∧ Solves U ops := by
  subst hv
  simp only [Solves, hw, Finset.mem_singleton, forall_eq]

/-- The equation of an operation of no operand. -/
theorem solves_nullary {v : y.ty.Contents Val} {hy} :
    Solves U (StableHlo.nullary (τ := τ) y v hy :: ops) ↔ U (Proc.devRef .tc y) = v ∧ Solves U ops :=
  solves_cons rfl (nullary_result y v hy U)

/-- The equation of an operation of one operand. -/
theorem solves_unary {f : x.ty.Contents Val → y.ty.Contents Val} {hx hy} :
    Solves U (StableHlo.unary (τ := τ) x y f hx hy :: ops) ↔ U (Proc.devRef .tc y) = f (U (Proc.devRef .tc x)) ∧ Solves U ops :=
  solves_cons rfl (unary_result x y f hx hy U)

/-- The equation of an operation of two operands. -/
theorem solves_binary {f : a.ty.Contents Val → b.ty.Contents Val → y.ty.Contents Val} {ha hb hy} :
    Solves U (StableHlo.binary (τ := τ) a b y f ha hb hy :: ops)
      ↔ U (Proc.devRef .tc y) = f (U (Proc.devRef .tc a)) (U (Proc.devRef .tc b)) ∧ Solves U ops :=
  solves_cons rfl (binary_result a b y f ha hb hy U)

/-- The equation of an operation of three operands. -/
theorem solves_ternary {f : c.ty.Contents Val → a.ty.Contents Val → b.ty.Contents Val → y.ty.Contents Val} {hc ha hb hy} :
    Solves U (StableHlo.ternary (τ := τ) c a b y f hc ha hb hy :: ops)
      ↔ U (Proc.devRef .tc y) = f (U (Proc.devRef .tc c)) (U (Proc.devRef .tc a)) (U (Proc.devRef .tc b)) ∧ Solves U ops :=
  solves_cons rfl (ternary_result c a b y f hc ha hb hy U)

/-- The equation of an operation of four operands. -/
theorem solves_quaternary
    {f : a.ty.Contents Val → b.ty.Contents Val → c.ty.Contents Val → e.ty.Contents Val → y.ty.Contents Val} {ha hb hc he hy} :
    Solves U (StableHlo.quaternary (τ := τ) a b c e y f ha hb hc he hy :: ops)
      ↔ U (Proc.devRef .tc y) = f (U (Proc.devRef .tc a)) (U (Proc.devRef .tc b)) (U (Proc.devRef .tc c)) (U (Proc.devRef .tc e))
        ∧ Solves U ops :=
  solves_cons rfl (quaternary_result a b c e y f ha hb hc he hy U)

/-- The equation of a reshape. -/
theorem solves_reshape {he hn hx hy} :
    Solves U (StableHlo.reshape (τ := τ) (Val := Val) x y he hn hx hy :: ops)
      ↔ U (Proc.devRef .tc y) = (fun i => he ▸ shapeCast y.ty.shape (U (Proc.devRef .tc x)) hn i) ∧ Solves U ops :=
  solves_cons rfl (reshape_result x y he hn hx hy U)

/-- The equation of an operation of a family of operands. -/
theorem solves_nary {n : Nat} {xs : Fin n → Ref sig .tc} {f : ((j : Fin n) → (xs j).ty.Contents Val) → y.ty.Contents Val}
    {hxs hy} :
    Solves U (StableHlo.nary (τ := τ) xs y f hxs hy :: ops)
      ↔ U (Proc.devRef .tc y) = f (fun j => U (Proc.devRef .tc (xs j))) ∧ Solves U ops :=
  solves_cons rfl (nary_result xs y f hxs hy U)

end Builders

end Cert.Straight

end
-- ==== Proof.RefParts.lean ====
/- The reference's host operations as lists, part by part: each part of `main` runs its list, the lists write at rising
   places, and so `main` runs to a state whose buffers solve the system of equations the lists spell. -/
module

public import proofs.«01_k».proof.Proof.Straight
public import proofs.«01_k».proof.Proof.Gen.ReferenceIdeal

@[expose] public section

noncomputable section
namespace Cert.ReferenceIdeal.Line

open Cert.ReferenceIdeal Cert.ReferenceIdeal.Gen Idealize.ShloMosaic Idealize.ShloMosaic.TcCoe Idealize.SL.Sem
  Idealize.ShloMosaic.StableHlo Cert.Straight

variable {F : FTy → Type} [FloatOps F]

/-- One operation is the program of the list of it alone. -/
theorem isSeq_one {op : HloOp τ sig (Elt F)} {Λ : Labels} :
    IsSeq (nD := nD) (Λ := Λ) (hlo rfl op fun _ => .ret (⟨⟩ : PUnit)) [op] := rfl

/-- The operations of a part of the program: a list the part is the program of. -/
abbrev Ops (p : Dev nD → Prog (TpuEff nD τ sig (Elt F) (Pipeline.Sig Λ₀ (Fin 0) fun p => (pcfgs (F := F) p).Adm) .tc) PUnit) :=
  {ops : List (HloOp τ sig (Elt F)) // ∀ d, IsSeq (p d) ops}

set_option maxHeartbeats 4000000

/-- Part 0 of the reference. -/
def part0 : Ops (F := F) main_part0 := by
  apply Subtype.mk
  intro d; unfold main_part0
  repeat (first | exact isSeq_one | exact IsSeq.nil | apply IsSeq.cons)

/-- Part 1 of the reference. -/
def part1 : Ops (F := F) main_part1 := by
  apply Subtype.mk
  intro d; unfold main_part1
  repeat (first | exact isSeq_one | exact IsSeq.nil | apply IsSeq.cons)

/-- Part 2 of the reference. -/
def part2 : Ops (F := F) main_part2 := by
  apply Subtype.mk
  intro d; unfold main_part2
  simp only [fn_argmin.body, fn_take_along_axis.body, fn_take_along_axis_0.body, fn_where.body, fn_where_1.body, fn_where_2.body, fn_where_3.body,
    TRef.nullary, TRef.unary, TRef.binary, TRef.ternary, TRef.quaternary, bind_assoc, pure_bind]
  repeat (first | exact isSeq_one | exact IsSeq.nil | apply IsSeq.cons)

/-- Part 3 of the reference. -/
def part3 : Ops (F := F) main_part3 := by
  apply Subtype.mk
  intro d; unfold main_part3
  repeat (first | exact isSeq_one | exact IsSeq.nil | apply IsSeq.cons)

/-- Part 4 of the reference. -/
def part4 : Ops (F := F) main_part4 := by
  apply Subtype.mk
  intro d; unfold main_part4
  repeat (first | exact isSeq_one | exact IsSeq.nil | apply IsSeq.cons)

/-- Part 5 of the reference. -/
def part5 : Ops (F := F) main_part5 := by
  apply Subtype.mk
  intro d; unfold main_part5
  simp only [fn_argmin_5.body, fn_take_along_axis_6.body, fn_take_along_axis_7.body, fn_where_10.body, fn_where_4.body, fn_where_8.body, fn_where_9.body,
    TRef.nullary, TRef.unary, TRef.binary, TRef.ternary, TRef.quaternary, bind_assoc, pure_bind]
  repeat (first | exact isSeq_one | exact IsSeq.nil | apply IsSeq.cons)

/-- Part 6 of the reference. -/
def part6 : Ops (F := F) main_part6 := by
  apply Subtype.mk
  intro d; unfold main_part6
  repeat (first | exact isSeq_one | exact IsSeq.nil | apply IsSeq.cons)

/-- Part 7 of the reference. -/
def part7 : Ops (F := F) main_part7 := by
  apply Subtype.mk
  intro d; unfold main_part7
  repeat (first | exact isSeq_one | exact IsSeq.nil | apply IsSeq.cons)

/-- Part 8 of the reference. -/
def part8 : Ops (F := F) main_part8 := by
  apply Subtype.mk
  intro d; unfold main_part8
  simp only [fn_argmin_12.body, fn_take_along_axis_13.body, fn_take_along_axis_14.body, fn_where_11.body, fn_where_15.body, fn_where_16.body, fn_where_17.body,
    TRef.nullary, TRef.unary, TRef.binary, TRef.ternary, TRef.quaternary, bind_assoc, pure_bind]
  repeat (first | exact isSeq_one | exact IsSeq.nil | apply IsSeq.cons)

/-- Part 9 of the reference. -/
def part9 : Ops (F := F) main_part9 := by
  apply Subtype.mk
  intro d; unfold main_part9
  repeat (first | exact isSeq_one | exact IsSeq.nil | apply IsSeq.cons)

/-- Part 10 of the reference. -/
def part10 : Ops (F := F) main_part10 := by
  apply Subtype.mk
  intro d; unfold main_part10
  repeat (first | exact isSeq_one | exact IsSeq.nil | apply IsSeq.cons)

/-- Part 11 of the reference. -/
def part11 : Ops (F := F) main_part11 := by
  apply Subtype.mk
  intro d; unfold main_part11
  simp only [fn_argmin_19.body, fn_take_along_axis_20.body, fn_take_along_axis_21.body, fn_where_18.body, fn_where_22.body, fn_where_23.body, fn_where_24.body,
    TRef.nullary, TRef.unary, TRef.binary, TRef.ternary, TRef.quaternary, bind_assoc, pure_bind]
  repeat (first | exact isSeq_one | exact IsSeq.nil | apply IsSeq.cons)

/-- Part 12 of the reference. -/
def part12 : Ops (F := F) main_part12 := by
  apply Subtype.mk
  intro d; unfold main_part12
  repeat (first | exact isSeq_one | exact IsSeq.nil | apply IsSeq.cons)

/-- Part 13 of the reference. -/
def part13 : Ops (F := F) main_part13 := by
  apply Subtype.mk
  intro d; unfold main_part13
  repeat (first | exact isSeq_one | exact IsSeq.nil | apply IsSeq.cons)

/-- Part 14 of the reference. -/
def part14 : Ops (F := F) main_part14 := by
  apply Subtype.mk
  intro d; unfold main_part14
  simp only [fn_argmin_26.body, fn_take_along_axis_27.body, fn_take_along_axis_28.body, fn_where_25.body, fn_where_29.body, fn_where_30.body, fn_where_31.body,
    TRef.nullary, TRef.unary, TRef.binary, TRef.ternary, TRef.quaternary, bind_assoc, pure_bind]
  repeat (first | exact isSeq_one | exact IsSeq.nil | apply IsSeq.cons)

set_option maxRecDepth 20000 in
/-- Every part writes at rising places. -/
theorem rising :
    Rising 17 77 (part0 (F := F)).1 ∧
    Rising 77 137 (part1 (F := F)).1 ∧
    Rising 137 254 (part2 (F := F)).1 ∧
    Rising 254 314 (part3 (F := F)).1 ∧
    Rising 314 374 (part4 (F := F)).1 ∧
    Rising 374 491 (part5 (F := F)).1 ∧
    Rising 491 551 (part6 (F := F)).1 ∧
    Rising 551 611 (part7 (F := F)).1 ∧
    Rising 611 728 (part8 (F := F)).1 ∧
    Rising 728 788 (part9 (F := F)).1 ∧
    Rising 788 848 (part10 (F := F)).1 ∧
    Rising 848 965 (part11 (F := F)).1 ∧
    Rising 965 1025 (part12 (F := F)).1 ∧
    Rising 1025 1085 (part13 (F := F)).1 ∧
    Rising 1085 1200 (part14 (F := F)).1 := by
  refine ⟨?_, ?_, ?_, ?_, ?_, ?_, ?_, ?_, ?_, ?_, ?_, ?_, ?_, ?_, ?_⟩
  all_goals first | unfold part0 | unfold part1 | unfold part2 | unfold part3 | unfold part4 | unfold part5 | unfold part6 | unfold part7 | unfold part8 | unfold part9 | unfold part10 | unfold part11 | unfold part12 | unfold part13 | unfold part14
  all_goals repeat' (first
    | with_reducible exact Rising.nil (by decide)
    | with_reducible refine Rising.unary (by decide) (by decide) ?_
    | with_reducible refine Rising.binary (by decide) (by decide) (by decide) ?_
    | with_reducible refine Rising.nullary (by decide) ?_
    | with_reducible refine Rising.reshape (by decide) (by decide) ?_
    | with_reducible refine Rising.nary (by decide) (by decide) ?_
    | with_reducible refine Rising.ternary (by decide) (by decide) (by decide) (by decide) ?_
    | with_reducible refine Rising.quaternary (by decide) (by decide) (by decide) (by decide) (by decide) ?_)

end Cert.ReferenceIdeal.Line
end
-- ==== Proof.RefRun.lean ====
/- The reference as one line of operations: every run of it ends with its buffers solving the equations of every part,
   with the arguments as they were. -/
module

public import proofs.«01_k».proof.Proof.RefParts

@[expose] public section

noncomputable section
namespace Cert.ReferenceIdeal.Line

open Cert.ReferenceIdeal Cert.ReferenceIdeal.Gen Idealize.ShloMosaic Idealize.ShloMosaic.TcCoe Idealize.SL.Sem
  Idealize.ShloMosaic.StableHlo Cert.Straight

variable {F : FTy → Type} [FloatOps F]

/-- All operations of the reference, in order. -/
def ops : List (HloOp τ sig (Elt F)) :=
  part0.1 ++ (part1.1 ++ (part2.1 ++ (part3.1 ++ (part4.1 ++ (part5.1 ++ (part6.1 ++ (part7.1 ++ (part8.1 ++ (part9.1 ++ (part10.1 ++ (part11.1 ++ (part12.1 ++ (part13.1 ++ (part14.1))))))))))))))

/-- The reference is the program of its operations. -/
theorem isSeq (d : Dev nD) : IsSeq (main (F := F) d) ops := by
  unfold IsSeq main ops
  simp only [seq_append]
  rw [← part0.2 d, ← part1.2 d, ← part2.2 d, ← part3.2 d, ← part4.2 d, ← part5.2 d, ← part6.2 d, ← part7.2 d, ← part8.2 d, ← part9.2 d, ← part10.2 d, ← part11.2 d, ← part12.2 d, ← part13.2 d, ← part14.2 d]

/-- The reference's operations write at rising places, after the seventeen arguments. -/
theorem rising_ops : Rising 17 1200 (ops (F := F)) := by
  obtain ⟨r0, r1, r2, r3, r4, r5, r6, r7, r8, r9, r10, r11, r12, r13, r14⟩ := rising (F := F)
  exact r0.append (r1.append (r2.append (r3.append (r4.append (r5.append (r6.append (r7.append (r8.append (r9.append (r10.append (r11.append (r12.append (r13.append r14)))))))))))))

/-- The contents of the reference's buffers after it. -/
def final (m : (ℓ : Loc nD τ sig) → Buf (Elt F) ℓ) (d : Dev nD) : Valuation τ sig (Elt F) := after ops (launchContents m d)

/-- The final contents of the reference's arguments are those it started from. -/
theorem final_arg (m : (ℓ : Loc nD τ sig) → Buf (Elt F) ℓ) (d : Dev nD) (b : Ref sig .tc) (hb : place b < 17) :
    final m d (Proc.devRef .tc b) = m ((d.tc : Thread nD τ).loc b) :=
  rising_ops.kept (launchContents m d) b hb

/-- Every run of the reference ends in its final contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = final m d (Proc.devRef .tc b) :=
  run_hlo defs main isSeq (by decide) (by decide) rising_ops.tc rising_ops.determined m ρ

/-- The reference has no semaphore, so every counter of any state of its machine is zero. -/
theorem sem_zero (s : MemSt nD τ sig (Elt F)) : s.sem = fun _ => 0 :=
  funext fun g => match g with
    | (_, .reg x) => absurd x.isLt (Nat.not_lt_zero _)
    | (_, .dma x) => absurd x.isLt (Nat.not_lt_zero _)

end Cert.ReferenceIdeal.Line
end
-- ==== Proof.Target.lean ====
/- The targets one grid point gets, in plain mathematics over the extended reals: which of the 64 boxes the point is a
   positive of, which box it is assigned (the first of smallest masked area), and the class, centerness and regression
   targets read off that box. Both programs are shown to compute these. -/
module

public import Idealize.ShloMosaic.Lib.Pointwise
public import Idealize.ShloMosaic.PureOps.Ideal.Laws

@[expose] public section

noncomputable section
namespace Cert.Target

open Idealize.ShloMosaic
open scoped Classical

/-- A grid point: its place, its level's range of box sizes and its level's radius about a box's centre. -/
structure Pt where
  x : EReal
  y : EReal
  lo : EReal
  hi : EReal
  ratio : EReal

/-- The distances from the point to the box's four sides: left, top, right, bottom. -/
def off (P : Pt) (g : Fin 4 → EReal) : Fin 4 → EReal := ![P.x - g 0, P.y - g 1, g 2 - P.x, g 3 - P.y]

/-- The smallest of four. -/
def low (d : Fin 4 → EReal) : EReal := min (min (d 0) (d 1)) (min (d 2) (d 3))

/-- The largest of four. -/
def high (d : Fin 4 → EReal) : EReal := max (max (d 0) (d 1)) (max (d 2) (d 3))

/-- The middle of two. -/
def mid (a b : EReal) : EReal := Ideal.div (a + b) (Ideal.ofBits .f32 0x40000000#32)

/-- The larger of the two coordinates' distances from the point to the box's centre. -/
def far (P : Pt) (g : Fin 4 → EReal) : EReal :=
  max (max (P.x - mid (g 0) (g 2)) (mid (g 0) (g 2) - P.x)) (max (P.y - mid (g 1) (g 3)) (mid (g 1) (g 3) - P.y))

/-- The point is inside the box, the box's size is in the level's range, and the point is near the box's centre. -/
def Pos (P : Pt) (g : Fin 4 → EReal) : Prop :=
  (0 < low (off P g) ∧ P.lo < high (off P g) ∧ high (off P g) ≤ P.hi) ∧ far P g < P.ratio

/-- The box's area. -/
def area (P : Pt) (g : Fin 4 → EReal) : EReal := (off P g 0 + off P g 2) * (off P g 1 + off P g 3)

/-- The area of a positive box, a large constant of any other. -/
def cost (P : Pt) (g : Fin 4 → EReal) : EReal := if Pos P g then area P g else Ideal.ofBits .f32 0x4CBEBC20#32

/-- `s` is the first index of the smallest entry. -/
def First (A : Fin 64 → EReal) (s : Fin 64) : Prop := (∀ k, A s ≤ A k) ∧ ∀ k, k < s → A s < A k

/-- There is one such index only. -/
theorem First.unique {A : Fin 64 → EReal} {s t : Fin 64} (hs : First A s) (ht : First A t) : s = t := by
  rcases lt_trichotomy s t with h | h | h
  · exact absurd (hs.1 t) (not_le.mpr (ht.2 s h))
  · exact h
  · exact absurd (ht.1 s) (not_le.mpr (hs.2 t h))

/-- There is such an index. -/
theorem exists_first (A : Fin 64 → EReal) : ∃ s, First A s := by
  obtain ⟨m, hm⟩ := Finite.exists_min A
  obtain ⟨s, hs, hmin⟩ := Set.exists_min_image {k | A k = A m} id (Set.toFinite _) ⟨m, rfl⟩
  refine ⟨s, fun k => hs.le.trans (hm k), fun k hk => ?_⟩
  rw [show A s = A m from hs]
  refine lt_of_le_of_ne (hm k) fun h => ?_
  exact absurd (hmin k h.symm) (not_le.mpr hk)

/-- Some box has the point as a positive. -/
def Any (P : Pt) (G : Fin 64 → Fin 4 → EReal) : Prop := ∃ m, Pos P (G m)

/-- The centerness of a point with the given distances. -/
def centre (d : Fin 4 → EReal) : EReal :=
  Ideal.div (min (d 0) (d 2) * min (d 1) (d 3)) (max (d 0) (d 2) * max (d 1) (d 3) + Ideal.ofBits .f32 0x2EDBE6FF#32)

/-- The class target, of a point assigned the box `s`. -/
def cls (P : Pt) (G : Fin 64 → Fin 4 → EReal) (l : Fin 64 → BitVec 32) (s : Fin 64) : BitVec 32 := if Any P G then l s else 0#32

/-- The centerness target, of a point assigned the box `s`. -/
def cen (P : Pt) (G : Fin 64 → Fin 4 → EReal) (s : Fin 64) : EReal :=
  if Any P G then Ideal.sqrt (centre (off P (G s))) else Ideal.ofBits .f32 0xBF800000#32

/-- The regression target's four entries, of a point assigned the box `s`. -/
def reg (P : Pt) (G : Fin 64 → Fin 4 → EReal) (s : Fin 64) (c : Fin 4) : EReal :=
  if Any P G then off P (G s) c else Ideal.ofBits .f32 0xBF800000#32

/-! ### Words that stand for truth values, and sums and folds of them -/

/-- The truth word of a conjunction. -/
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- A truth word is one exactly when its proposition holds. -/
theorem ofBool_eq_one (p : Prop) [Decidable p] : BitVec.ofBool (decide p) = 1#1 ↔ p := by
  by_cases hp : p <;> simp [hp]

/-- A selection by a truth word. -/
theorem select_ofBool {α : Type} (p : Prop) [Decidable p] (a b : α) :
    Scalar.select (BitVec.ofBool (decide p)) a b = if p then a else b := by
  by_cases hp : p <;> simp [hp, Scalar.select]

/-- A truth word widened and read as a number is one or zero. -/
theorem sitofp_ofBool (p : Prop) [Decidable p] :
    (FloatOps.sitofp .f32 (BitVec.setWidth 32 (BitVec.ofBool (decide p))) : Ideal .f32) = if p then (1 : EReal) else 0 := by
  by_cases hp : p
  · simp only [hp, decide_true, if_true]
    show (((1 : ℤ) : ℝ) : EReal) = 1
    norm_num
  · simp only [hp, decide_false, if_false]
    show (((0 : ℤ) : ℝ) : EReal) = 0
    norm_num

/-- A sum weighted by the indicator of one index is the entry there. -/
theorem sum_onehot (d : Fin 64 → EReal) (s : Fin 64) : (∑ m, d m * (if m = s then (1 : EReal) else 0)) = d s := by
  simp [mul_ite]

/-- A count of indicators is at least one exactly when one of them holds. -/
theorem one_le_count (p : Fin 64 → Prop) : ((1 : EReal) ≤ ∑ m, if p m then (1 : EReal) else 0) ↔ ∃ m, p m := by
  constructor
  · intro h
    by_contra hn
    push Not at hn
    simp [hn] at h
    exact absurd h (by norm_num)
  · rintro ⟨m, hm⟩
    have h := Finset.single_le_sum (f := fun m => if p m then (1 : EReal) else 0) (s := Finset.univ)
      (fun i _ => by by_cases hi : p i <;> simp [hi]) (Finset.mem_univ m)
    simpa [hm] using h

/-- A fold of `min` whose first value is no smaller than one of the entries is the smallest entry. -/
theorem fold_min_eq (A : Fin 64 → EReal) (s : Fin 64) (h : ∀ k, A s ≤ A k) : Finset.univ.fold min ⊤ A = A s := by
  refine le_antisymm ?_ ?_
  · exact (Finset.fold_min_le _).mpr (.inr ⟨s, Finset.mem_univ s, le_rfl⟩)
  · exact (Finset.le_fold_min _).mpr ⟨le_top, fun k _ => h k⟩

/-- A signed-minimum fold is an entry that no entry, nor the first value, is below. -/
theorem fold_minsi_eq (b : BitVec 32) (f : Fin 64 → BitVec 32) (s : Fin 64) (hb : (f s).toInt ≤ b.toInt)
    (h : ∀ k, (f s).toInt ≤ (f k).toInt) : Finset.univ.fold IntOp.minsi b f = f s := by
  have hm : ∀ u v : BitVec 32, (IntOp.minsi u v).toInt = min u.toInt v.toInt := by
    intro u v
    unfold IntOp.minsi
    simp only [BitVec.slt_iff_toInt_lt]
    split <;> omega
  have hf : ∀ S : Finset (Fin 64), (S.fold IntOp.minsi b f).toInt = S.fold min b.toInt fun k => (f k).toInt := by
    intro S
    induction S using Finset.induction_on with
    | empty => rfl
    | insert a S ha ih => rw [Finset.fold_insert ha, Finset.fold_insert ha, hm, ih]
  refine BitVec.eq_of_toInt_eq ?_
  rw [hf]
  refine le_antisymm ?_ ?_
  · exact (Finset.fold_min_le _).mpr (.inr ⟨s, Finset.mem_univ s, le_rfl⟩)
  · exact (Finset.le_fold_min _).mpr ⟨hb, fun k _ => h k⟩

end Cert.Target
end
-- ==== Proof.Shapes.lean ====
/- The reference's reshapes at a level of any size, and its folds over a box's four sides and over the boxes: what each
   holds at an index. -/
module

public import proofs.«01_k».proof.Proof.Target
public import Idealize.ShloMosaic.Lib.Pointwise.IndexVar
public import Idealize.ShloMosaic.Lib.Pipeline.Value
public import Idealize.ShloMosaic.Lib.ReduceAll

@[expose] public section

noncomputable section
namespace Cert.Level

open Cert.Target Idealize.ShloMosaic
open scoped Classical

variable {n hw : Nat} {α : Type}

/-- A square grid read in order: position `p` is row `p / n`, column `p % n`. -/
theorem cast_grid (hn : 0 < n) (hsq : hw = n * n) (x : (⟨2, ![n, n]⟩ : Shape).Idx → α)
    {h : (⟨2, ![n, n]⟩ : Shape).ShapeCasts ⟨1, ![hw]⟩} (p : Fin hw) :
    shapeCast ⟨1, ![hw]⟩ x h (ix1 p)
      = x (ix2 ⟨p / n, Nat.div_lt_of_lt_mul (hsq ▸ p.isLt)⟩ ⟨p % n, Nat.mod_lt _ hn⟩) := by
  refine shapeCast_apply x h _ _ ?_
  rw [Shape.rowMajor_val_one, Shape.rowMajor_val_two]
  show p.val / n * n + p.val % n = p.val
  exact Nat.div_add_mod' _ _

/-- Dropping the last axis of four, of size one. -/
theorem cast_431 (x : (⟨4, ![8, hw, 64, 1]⟩ : Shape).Idx → α)
    {h : (⟨4, ![8, hw, 64, 1]⟩ : Shape).ShapeCasts ⟨3, ![8, hw, 64]⟩} (b : Fin 8) (p : Fin hw) (k : Fin 64) :
    shapeCast ⟨3, ![8, hw, 64]⟩ x h (ix3 b p k) = x (ix4 b p k 0) := by
  refine shapeCast_apply x h _ _ ?_
  rw [Shape.rowMajor_val_three, Shape.rowMajor_val_four]
  show ((b.val * hw + p.val) * 64 + k.val) * 1 + 0 = (b.val * hw + p.val) * 64 + k.val
  omega

/-- Dropping the third axis of four, of size one. -/
theorem cast_434 (x : (⟨4, ![8, hw, 1, 4]⟩ : Shape).Idx → α)
    {h : (⟨4, ![8, hw, 1, 4]⟩ : Shape).ShapeCasts ⟨3, ![8, hw, 4]⟩} (b : Fin 8) (p : Fin hw) (c : Fin 4) :
    shapeCast ⟨3, ![8, hw, 4]⟩ x h (ix3 b p c) = x (ix4 b p 0 c) := by
  refine shapeCast_apply x h _ _ ?_
  rw [Shape.rowMajor_val_three, Shape.rowMajor_val_four]
  show ((b.val * hw + p.val) * 1 + 0) * 4 + c.val = (b.val * hw + p.val) * 4 + c.val
  omega

/-- Dropping the last axis of three, of size one. -/
theorem cast_32 (x : (⟨3, ![8, hw, 1]⟩ : Shape).Idx → α)
    {h : (⟨3, ![8, hw, 1]⟩ : Shape).ShapeCasts ⟨2, ![8, hw]⟩} (b : Fin 8) (p : Fin hw) :
    shapeCast ⟨2, ![8, hw]⟩ x h (ix2 b p) = x (ix3 b p 0) := by
  refine shapeCast_apply x h _ _ ?_
  rw [Shape.rowMajor_val_two, Shape.rowMajor_val_three]
  show (b.val * hw + p.val) * 1 + 0 = b.val * hw + p.val
  omega

/-- Adding a last axis of size one to four axes. -/
theorem cast_45 (x : (⟨4, ![8, hw, 1, 4]⟩ : Shape).Idx → α)
    {h : (⟨4, ![8, hw, 1, 4]⟩ : Shape).ShapeCasts ⟨5, ![8, hw, 1, 4, 1]⟩} (b : Fin 8) (p : Fin hw) (c : Fin 4) :
    shapeCast ⟨5, ![8, hw, 1, 4, 1]⟩ x h (ix5 b p 0 c 0) = x (ix4 b p 0 c) := by
  refine shapeCast_apply x h _ _ ?_
  rw [Shape.rowMajor_val_four, Shape.rowMajor_val_five]
  show ((b.val * hw + p.val) * 1 + 0) * 4 + c.val = (((b.val * hw + p.val) * 1 + 0) * 4 + c.val) * 1 + 0
  omega

/-- Adding a last axis of size one to three axes. -/
theorem cast_34 (x : (⟨3, ![8, hw, 1]⟩ : Shape).Idx → α)
    {h : (⟨3, ![8, hw, 1]⟩ : Shape).ShapeCasts ⟨4, ![8, hw, 1, 1]⟩} (b : Fin 8) (p : Fin hw) :
    shapeCast ⟨4, ![8, hw, 1, 1]⟩ x h (ix4 b p 0 0) = x (ix3 b p 0) := by
  refine shapeCast_apply x h _ _ ?_
  rw [Shape.rowMajor_val_three, Shape.rowMajor_val_four]
  show (b.val * hw + p.val) * 1 + 0 = ((b.val * hw + p.val) * 1 + 0) * 1 + 0
  omega

/-- The last axis of three dropped from the boxes. -/
theorem cast_box (x : (⟨3, ![8, 64, 1]⟩ : Shape).Idx → α)
    {h : (⟨3, ![8, 64, 1]⟩ : Shape).ShapeCasts ⟨2, ![8, 64]⟩} (b : Fin 8) (k : Fin 64) :
    shapeCast ⟨2, ![8, 64]⟩ x h (ix2 b k) = x (ix3 b k 0) := cast_32 x b k

/-- The fold of the four sides' distances by the smaller. -/
theorem reduce_low (x : FVec Ideal ⟨4, ![8, hw, 64, 4]⟩ .f32)
    {h : (⟨4, ![8, hw, 64, 4]⟩ : Shape).ReducesTo [3] ⟨3, ![8, hw, 64]⟩} {hu : 0 < (⟨0, ![]⟩ : Shape).numel}
    (b : Fin 8) (p : Fin hw) (k : Fin 64) :
    Host.reduce (FloatOps.minimumf (F := Ideal) (φ := .f32)) x (constant ⟨0, ![]⟩ .f32 0x7F800000#32) h hu (ix3 b p k)
      = low fun c => x (ix4 b p k c) := by
  have htop : Ideal.ofBits .f32 0x7F800000#32 = ⊤ := by simp [Ideal.ofBits, Ideal.ieee]
  pointwise
  rw [htop, show (Finset.univ : Finset (Fin 4)) = {0, 1, 2, 3} from by decide, Finset.fold_insert (by decide),
    Finset.fold_insert (by decide), Finset.fold_insert (by decide), Finset.fold_singleton]
  simp [low, min_assoc]

/-- The fold of four entries by the larger. -/
theorem reduce_high (x : FVec Ideal ⟨4, ![8, hw, 64, 4]⟩ .f32)
    {h : (⟨4, ![8, hw, 64, 4]⟩ : Shape).ReducesTo [3] ⟨3, ![8, hw, 64]⟩} {hu : 0 < (⟨0, ![]⟩ : Shape).numel}
    (b : Fin 8) (p : Fin hw) (k : Fin 64) :
    Host.reduce (FloatOps.maximumf (F := Ideal) (φ := .f32)) x (constant ⟨0, ![]⟩ .f32 0xFF800000#32) h hu (ix3 b p k)
      = high fun c => x (ix4 b p k c) := by
  have hbot : Ideal.ofBits .f32 0xFF800000#32 = ⊥ := by simp [Ideal.ofBits, Ideal.ieee]
  pointwise
  rw [hbot, show (Finset.univ : Finset (Fin 4)) = {0, 1, 2, 3} from by decide, Finset.fold_insert (by decide),
    Finset.fold_insert (by decide), Finset.fold_insert (by decide), Finset.fold_singleton]
  simp [high, max_assoc]

/-- The count of a mask's ones, compared with one. -/
theorem count_at (m : IVec ⟨3, ![8, hw, 64]⟩ 1) (P : Fin 64 → Prop)
    {h : (⟨3, ![8, hw, 64]⟩ : Shape).ReducesTo [2] ⟨2, ![8, hw]⟩} {hu : 0 < (⟨0, ![]⟩ : Shape).numel} {h1 : 1 < 32}
    (b : Fin 8) (p : Fin hw) (hm : ∀ k, m (ix3 b p k) = BitVec.ofBool (decide (P k))) :
    IntOp.cmpi .sge (Host.reduce IntOp.addi (extui 32 m h1) (constantI ⟨0, ![]⟩ 32 0#32) h hu (ix2 b p)) 1#32
      = BitVec.ofBool (decide (∃ k, P k)) := by
  pointwise
  simp only [hm]
  have hs : ∀ S : Finset (Fin 64), (S.fold IntOp.addi 0#32 fun k => BitVec.setWidth 32 (BitVec.ofBool (decide (P k)))).toNat
      = (S.filter P).card := by
    intro S
    induction S using Finset.induction_on with
    | empty => rfl
    | insert a S ha ih =>
      rw [Finset.fold_insert ha, Finset.filter_insert]
      have hc : (S.filter P).card ≤ 64 := (Finset.card_le_univ _).trans (by simp)
      have hadd : ∀ u v : BitVec 32, (IntOp.addi u v).toNat = (u.toNat + v.toNat) % 2 ^ 32 := BitVec.toNat_add
      rw [hadd, ih]
      by_cases hp : P a
      · rw [if_pos hp, Finset.card_insert_of_notMem (by simp [ha])]
        simp [hp]
        omega
      · rw [if_neg hp]
        simp [hp]
        omega
  have hu := hs Finset.univ
  have hc : (Finset.univ.filter P).card ≤ 64 := (Finset.card_le_univ _).trans (by simp)
  generalize Finset.fold IntOp.addi 0#32 (fun k => BitVec.setWidth 32 (BitVec.ofBool (decide (P k)))) Finset.univ = v at hu
  unfold IntOp.cmpi
  refine congrArg BitVec.ofBool ?_
  show BitVec.sle 1#32 v = _
  rw [BitVec.sle_eq_decide]
  refine decide_eq_decide.mpr ?_
  rw [BitVec.toInt_eq_toNat_of_lt (x := v) (by omega), hu]
  have : (1#32 : BitVec 32).toInt = 1 := by decide
  rw [this]
  constructor
  · intro h
    obtain ⟨k, hk⟩ := Finset.card_pos.mp (by omega : 0 < (Finset.univ.filter P).card)
    exact ⟨k, (Finset.mem_filter.mp hk).2⟩
  · rintro ⟨k, hk⟩
    have : 0 < (Finset.univ.filter P).card := Finset.card_pos.mpr ⟨k, by simp [hk]⟩
    omega

end Cert.Level
end
-- ==== Proof.Argmin.lean ====
/- The reference's argmin over the extended reals: the first index of the smallest entry. -/
module

public import proofs.«01_k».proof.Proof.Target
public import proofs.«01_k».proof.ReferenceIdeal
public import Idealize.ShloMosaic.Lib.Pointwise.IndexVar

@[expose] public section

noncomputable section
namespace Cert.Level

open Cert.Target Idealize.ShloMosaic
open scoped Classical

/-- One pair comes before another: a smaller value, or the same value and no larger an index. -/
def Before (a b : EReal × BitVec 32) : Prop := a.1 < b.1 ∨ a.1 = b.1 ∧ a.2.toInt ≤ b.2.toInt

/-- Every pair comes before itself. -/
theorem Before.refl (a : EReal × BitVec 32) : Before a a := .inr ⟨rfl, le_rfl⟩

/-- Coming before is transitive. -/
theorem Before.trans {a b c : EReal × BitVec 32} (h : Before a b) (h' : Before b c) : Before a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The reference's reducer keeps the earlier of two pairs. -/
theorem reducer_spec (a b : EReal × BitVec 32) :
    (Cert.ReferenceIdeal.reducer_argmin_f32_i32 (F := Ideal) a b = a ∨ Cert.ReferenceIdeal.reducer_argmin_f32_i32 (F := Ideal) a b = b)
      ∧ Before (Cert.ReferenceIdeal.reducer_argmin_f32_i32 (F := Ideal) a b) a
      ∧ Before (Cert.ReferenceIdeal.reducer_argmin_f32_i32 (F := Ideal) a b) b := by
  obtain ⟨av, ai⟩ := a
  obtain ⟨bv, bi⟩ := b
  have hlt : FloatOps.cmpf (F := Ideal) (φ := .f32) .olt av bv = BitVec.ofBool (decide (av < bv)) := rfl
  have hne : FloatOps.cmpf (F := Ideal) (φ := .f32) .une av av = BitVec.ofBool (decide (av ≠ av)) := rfl
  have heq : FloatOps.cmpf (F := Ideal) (φ := .f32) .oeq av bv = BitVec.ofBool (decide (av = bv)) := rfl
  have hs : IntOp.cmpi .slt ai bi = BitVec.ofBool (decide (ai.toInt < bi.toInt)) := by
    unfold IntOp.cmpi
    exact congrArg BitVec.ofBool (by rw [BitVec.slt_eq_decide])
  unfold Cert.ReferenceIdeal.reducer_argmin_f32_i32
  simp only [hlt, hne, heq, hs]
  unfold Before
  rcases lt_trichotomy av bv with h | h | h
  · simp [h, h.ne, h.le, IntOp.ori, IntOp.andi, Scalar.select]
  · subst h
    by_cases hi : ai.toInt < bi.toInt
    · simp [hi, hi.le, IntOp.ori, IntOp.andi, Scalar.select]
    · simp [hi, not_lt.1 hi, IntOp.ori, IntOp.andi, Scalar.select]
  · simp [h, h.ne', not_lt.2 h.le, IntOp.ori, IntOp.andi, Scalar.select]

/-- A fold of the reducer is one of the pairs folded, and comes before all of them. -/
theorem fold_spec (l : List (EReal × BitVec 32)) : ∀ a : EReal × BitVec 32,
    (l.foldl (Cert.ReferenceIdeal.reducer_argmin_f32_i32 (F := Ideal)) a = a
      ∨ l.foldl (Cert.ReferenceIdeal.reducer_argmin_f32_i32 (F := Ideal)) a ∈ l)
      ∧ Before (l.foldl (Cert.ReferenceIdeal.reducer_argmin_f32_i32 (F := Ideal)) a) a
      ∧ ∀ q ∈ l, Before (l.foldl (Cert.ReferenceIdeal.reducer_argmin_f32_i32 (F := Ideal)) a) q := by
  induction l with
  | nil => exact fun a => ⟨.inl rfl, .refl a, fun q hq => absurd hq (List.not_mem_nil)⟩
  | cons x l ih =>
    intro a
    obtain ⟨hm, ha, hx⟩ := reducer_spec a x
    obtain ⟨hm', ha', hl⟩ := ih (Cert.ReferenceIdeal.reducer_argmin_f32_i32 (F := Ideal) a x)
    rw [List.foldl_cons]
    refine ⟨?_, ha'.trans ha, fun q hq => ?_⟩
    · rcases hm' with h | h
      · rw [h]
        rcases hm with h' | h'
        · exact .inl h'
        · exact .inr (by rw [h']; exact List.mem_cons_self)
      · exact .inr (List.mem_cons_of_mem _ h)
    · rcases List.mem_cons.1 hq with rfl | hq
      · exact ha'.trans hx
      · exact hl q hq

/-- The reference's argmin, at a point of an image: the word of the first index of the smallest entry. -/
theorem argmin_at {hw : Nat} (A : FVec Ideal ⟨3, ![8, hw, 64]⟩ .f32)
    {h : (⟨3, ![8, hw, 64]⟩ : Shape).ReducesTo [2] ⟨2, ![8, hw]⟩} {hu : 0 < (⟨0, ![]⟩ : Shape).numel} (b : Fin 8) (p : Fin hw) :
    ∃ s : Fin 64, First (fun k => A (ix3 b p k)) s ∧
      (Host.argReduce (Cert.ReferenceIdeal.reducer_argmin_f32_i32 (F := Ideal)) A (iotaInDim ⟨3, ![8, hw, 64]⟩ 32 2)
        (constant ⟨0, ![]⟩ .f32 0x7F800000#32) (constantI ⟨0, ![]⟩ 32 0#32) h hu (ix2 b p)).2 = BitVec.ofNat 32 s := by
  rw [Ideal.argReduce_eq_reduce2, Host.reduce2_eq_foldl_fiber]
  have hw32 : ∀ k : Fin 64, (BitVec.ofNat 32 k).toInt = k := fun k => by
    rw [BitVec.toInt_eq_toNat_of_lt] <;> simp <;> omega
  have hmem : ∀ q : EReal × BitVec 32,
      q ∈ Host.argReduceFiber (A : _ → EReal) (iotaInDim ⟨3, ![8, hw, 64]⟩ 32 2) h (ix2 b p)
        ↔ ∃ k : Fin 64, q = (A (ix3 b p k), BitVec.ofNat 32 k) := by
    intro q
    unfold Host.argReduceFiber
    simp only [List.mem_map, List.mem_filter, List.mem_finRange, true_and, decide_eq_true_eq]
    constructor
    · rintro ⟨n, hn, rfl⟩
      generalize (⟨3, ![8, hw, 64]⟩ : Shape).rowMajor.symm n = i at hn ⊢
      refine ⟨i 2, ?_⟩
      have hi : i = ix3 b p (i 2) := by
        funext a
        fin_cases a
        · exact congrFun hn 0
        · exact congrFun hn 1
        · rfl
      rw [hi]
      rfl
    · rintro ⟨k, rfl⟩
      refine ⟨(⟨3, ![8, hw, 64]⟩ : Shape).rowMajor (ix3 b p k), ?_, ?_⟩
      · rw [Equiv.symm_apply_apply]
        funext a
        fin_cases a <;> rfl
      · rw [Equiv.symm_apply_apply]
        rfl
  obtain ⟨hin, hinit, hall⟩ := fold_spec (Host.argReduceFiber (A : _ → EReal) (iotaInDim ⟨3, ![8, hw, 64]⟩ 32 2) h (ix2 b p))
    (Ideal.ofBits .f32 0x7F800000#32, 0#32)
  have htop : Ideal.ofBits .f32 0x7F800000#32 = ⊤ := by simp [Ideal.ofBits, Ideal.ieee]
  have key : ∀ r : EReal × BitVec 32,
      (r = (Ideal.ofBits .f32 0x7F800000#32, 0#32) ∨ r ∈ Host.argReduceFiber (A : _ → EReal) (iotaInDim ⟨3, ![8, hw, 64]⟩ 32 2) h (ix2 b p)) →
      (∀ q ∈ Host.argReduceFiber (A : _ → EReal) (iotaInDim ⟨3, ![8, hw, 64]⟩ 32 2) h (ix2 b p), Before r q) →
      ∃ s : Fin 64, First (fun k => A (ix3 b p k)) s ∧ r.2 = BitVec.ofNat 32 s := by
    intro r hr hb
    have hk : ∀ k : Fin 64, Before r (A (ix3 b p k), BitVec.ofNat 32 k) := fun k => hb _ ((hmem _).2 ⟨k, rfl⟩)
    rcases hr with rfl | hr
    · refine ⟨0, ⟨fun k => ?_, fun k hk0 => absurd hk0 (by omega)⟩, rfl⟩
      rcases hk k with h' | ⟨h', -⟩
      · exact absurd (htop ▸ h') not_top_lt
      · exact le_top.trans (le_of_eq (htop.symm.trans h'))
    · obtain ⟨s, rfl⟩ := (hmem r).1 hr
      refine ⟨s, ⟨fun k => ?_, fun k hks => ?_⟩, rfl⟩
      · rcases hk k with h' | ⟨h', -⟩
        · exact h'.le
        · exact h'.le
      · rcases hk k with h' | ⟨-, h'⟩
        · exact h'
        · exfalso
          simp only [hw32] at h'
          have : k.val < s.val := hks
          omega
  exact key _ hin hall

end Cert.Level
end
-- ==== Proof.Take.lean ====
/- The reference's two reads along the axis of the boxes, at an index that is in range: the entry there. -/
module

public import Idealize.ShloMosaic.Lib.Pointwise.IndexVar
public import Idealize.ShloMosaic.Lib.ReduceAll
public import Idealize.ShloMosaic.Lib.Pipeline.Value
public import Idealize.ShloMosaic.PureOps.Ideal.Laws

@[expose] public section

noncomputable section
namespace Cert.Level

open Idealize.ShloMosaic

variable {hw : Nat}

/-- A gather along the third axis of four reads the operand at the start index. -/
theorem gather4_at {α : Type}
    {wf : GatherDims.WF ⟨4, ![8, hw, 64, 4]⟩ ⟨5, ![8, hw, 1, 4, 1]⟩ ⟨4, ![8, hw, 1, 4]⟩ [] [2] [0, 1, 3] [2] [0, 1, 3] 4 ![1, 1, 1, 1]}
    (x : (⟨4, ![8, hw, 64, 4]⟩ : Shape).Idx → α) (idx : IVec ⟨5, ![8, hw, 1, 4, 1]⟩ 32)
    (b : Fin 8) (p : Fin hw) (c : Fin 4) (s : Fin 64) (hs : idx (ix5 b p 0 c 0) = BitVec.ofNat 32 s) :
    Host.gather (⟨[], [2], [0, 1, 3], [0, 1, 3], [2], 4, ![1, 1, 1, 1], wf⟩ : GatherDims _ _ _) x idx (ix4 b p 0 c) = x (ix4 b p s c) := by
  unfold Host.gather
  refine congrArg x ?_
  funext a
  refine Fin.ext ?_
  have hv : (idx (ix5 b p 0 c 0)).toInt = s := by
    rw [hs, BitVec.toInt_eq_toNat_of_lt] <;> simp <;> omega
  fin_cases a
  · show 0 + b.val + 0 = b.val; omega
  · show 0 + p.val + 0 = p.val; omega
  · have h0 : ∀ i, i = ix5 b p 0 c 0 → min (idx i).toInt.toNat 63 + 0 + 0 = s.val := by
      rintro i rfl
      rw [hv]; omega
    refine h0 _ ?_
    funext a
    fin_cases a <;> rfl
  · show 0 + c.val + 0 = c.val; omega

/-- A gather along the last axis of three reads the operand at the start index. -/
theorem gather3_at {α : Type}
    {wf : GatherDims.WF ⟨3, ![8, hw, 64]⟩ ⟨4, ![8, hw, 1, 1]⟩ ⟨3, ![8, hw, 1]⟩ [] [2] [0, 1] [2] [0, 1] 3 ![1, 1, 1]}
    (x : (⟨3, ![8, hw, 64]⟩ : Shape).Idx → α) (idx : IVec ⟨4, ![8, hw, 1, 1]⟩ 32)
    (b : Fin 8) (p : Fin hw) (s : Fin 64) (hs : idx (ix4 b p 0 0) = BitVec.ofNat 32 s) :
    Host.gather (⟨[], [2], [0, 1], [0, 1], [2], 3, ![1, 1, 1], wf⟩ : GatherDims _ _ _) x idx (ix3 b p 0) = x (ix3 b p s) := by
  unfold Host.gather
  refine congrArg x ?_
  funext a
  refine Fin.ext ?_
  have hv : (idx (ix4 b p 0 0)).toInt = s := by
    rw [hs, BitVec.toInt_eq_toNat_of_lt] <;> simp <;> omega
  fin_cases a
  · show 0 + b.val + 0 = b.val; omega
  · show 0 + p.val + 0 = p.val; omega
  · have h0 : ∀ i, i = ix4 b p 0 0 → min (idx i).toInt.toNat 63 + 0 + 0 = s.val := by
      rintro i rfl
      rw [hv]; omega
    refine h0 _ ?_
    funext a
    fin_cases a <;> rfl

end Cert.Level
end
-- ==== Proof.Level.lean ====
/- One level of the reference, at a level of any size: what each stage of its program computes at a grid point and a box,
   from the equations that its operations set up, one equation to an operation. -/
module

public import proofs.«01_k».proof.Proof.Shapes
public import proofs.«01_k».proof.Proof.Argmin
public import proofs.«01_k».proof.Proof.Take

@[expose] public section

set_option maxHeartbeats 2000000
noncomputable section
namespace Cert.Level

open Cert.Target Idealize.ShloMosaic
open scoped Classical

variable {n hw : Nat}

/-- The place of a grid's row or column: its number times the stride, and half a stride. -/
def place (S H : BitVec 32) (i : Nat) : EReal :=
  (FloatOps.sitofp .f32 (BitVec.ofNat 32 i) : Ideal .f32) * Ideal.ofBits .f32 S + Ideal.ofBits .f32 H

/-- The grid's columns and rows, read along its points in order. -/
theorem places (h1 : n ≠ 1) (hn : 0 < n) (hsq : hw = n * n) {S H : BitVec 32}
    {a0 a1 a2 a3 a4 a5 a6 a7 a8 a9 : FVec Ideal ⟨1, ![n]⟩ .f32} {cst cst_0 cst_1 cst_2 : FVec Ideal ⟨0, ![]⟩ .f32}
    {a10 a11 : FVec Ideal ⟨2, ![n, n]⟩ .f32} {a12 a13 : FVec Ideal ⟨1, ![hw]⟩ .f32}
    {f0 : (⟨0, ![]⟩ : Shape).BroadcastsInDim ⟨1, ![n]⟩ ![]} {f1 : (⟨1, ![n]⟩ : Shape).BroadcastsInDim ⟨2, ![n, n]⟩ ![0]}
    {f2 : (⟨1, ![n]⟩ : Shape).BroadcastsInDim ⟨2, ![n, n]⟩ ![1]} {f3 : (⟨2, ![n, n]⟩ : Shape).ShapeCasts ⟨1, ![hw]⟩}
    (ea0 : a0 = sitofp .f32 (iotaInDim ⟨1, ![n]⟩ 32 0))
    (ecst : cst = constant ⟨0, ![]⟩ .f32 S)
    (ea1 : a1 = broadcastInDim ⟨1, ![n]⟩ ![] f0 cst)
    (ea2 : a2 = mulf a0 a1)
    (ecst_0 : cst_0 = constant ⟨0, ![]⟩ .f32 H)
    (ea3 : a3 = broadcastInDim ⟨1, ![n]⟩ ![] f0 cst_0)
    (ea4 : a4 = addf a2 a3)
    (ea5 : a5 = sitofp .f32 (iotaInDim ⟨1, ![n]⟩ 32 0))
    (ecst_1 : cst_1 = constant ⟨0, ![]⟩ .f32 S)
    (ea6 : a6 = broadcastInDim ⟨1, ![n]⟩ ![] f0 cst_1)
    (ea7 : a7 = mulf a5 a6)
    (ecst_2 : cst_2 = constant ⟨0, ![]⟩ .f32 H)
    (ea8 : a8 = broadcastInDim ⟨1, ![n]⟩ ![] f0 cst_2)
    (ea9 : a9 = addf a7 a8)
    (ea10 : a10 = broadcastInDim ⟨2, ![n, n]⟩ ![0] f1 a9)
    (ea11 : a11 = broadcastInDim ⟨2, ![n, n]⟩ ![1] f2 a4)
    (ea12 : a12 = shapeCast ⟨1, ![hw]⟩ a11 f3)
    (ea13 : a13 = shapeCast ⟨1, ![hw]⟩ a10 f3) :
    (∀ p, a12 (ix1 p) = place S H (p % n)) ∧ ∀ p, a13 (ix1 p) = place S H (p / n) := by
  constructor
  · intro p
    rw [ea12, cast_grid hn hsq]
    pointwise [ea11, ea4, ea2, ea3, ea0, ea1, ecst, ecst_0, place]
    simp [h1]
  · intro p
    rw [ea13, cast_grid hn hsq]
    pointwise [ea10, ea9, ea7, ea8, ea5, ea6, ecst_1, ecst_2, place]
    simp [h1]

/-- The four distances from a point to a box's sides. -/
theorem distances (h1 : hw ≠ 1) {g : FVec Ideal ⟨3, ![8, 64, 4]⟩ .f32}
    {a12 a13 : FVec Ideal ⟨1, ![hw]⟩ .f32} {a14 a21 a31 a38 : FVec Ideal ⟨3, ![1, hw, 1]⟩ .f32}
    {a15 a22 a28 a35 : FVec Ideal ⟨3, ![8, 64, 1]⟩ .f32} {a16 a23 a29 a36 : FVec Ideal ⟨2, ![8, 64]⟩ .f32}
    {a17 a24 a30 a37 : FVec Ideal ⟨3, ![8, 1, 64]⟩ .f32}
    {a18 a19 a20 a25 a26 a27 a32 a33 a34 a39 a40 a41 : FVec Ideal ⟨3, ![8, hw, 64]⟩ .f32}
    {a42 a43 a44 a45 : FVec Ideal ⟨4, ![8, hw, 64, 1]⟩ .f32} {a46 : FVec Ideal ⟨4, ![8, hw, 64, 4]⟩ .f32}
    {f4 : (⟨1, ![hw]⟩ : Shape).BroadcastsInDim ⟨3, ![1, hw, 1]⟩ ![1]}
    {f5 : (⟨3, ![8, 64, 4]⟩ : Shape).Slices ![0, 0, 0] ⟨3, ![8, 64, 1]⟩}
    {f6 : (⟨3, ![8, 64, 1]⟩ : Shape).ShapeCasts ⟨2, ![8, 64]⟩}
    {f7 : (⟨2, ![8, 64]⟩ : Shape).BroadcastsInDim ⟨3, ![8, 1, 64]⟩ ![0, 2]}
    {f8 : (⟨3, ![1, hw, 1]⟩ : Shape).BroadcastsInDim ⟨3, ![8, hw, 64]⟩ ![0, 1, 2]}
    {f9 : (⟨3, ![8, 1, 64]⟩ : Shape).BroadcastsInDim ⟨3, ![8, hw, 64]⟩ ![0, 1, 2]}
    {f10 : (⟨3, ![8, 64, 4]⟩ : Shape).Slices ![0, 0, 1] ⟨3, ![8, 64, 1]⟩}
    {f11 : (⟨3, ![8, 64, 4]⟩ : Shape).Slices ![0, 0, 2] ⟨3, ![8, 64, 1]⟩}
    {f12 : (⟨3, ![8, 64, 4]⟩ : Shape).Slices ![0, 0, 3] ⟨3, ![8, 64, 1]⟩}
    {f13 : (⟨3, ![8, hw, 64]⟩ : Shape).BroadcastsInDim ⟨4, ![8, hw, 64, 1]⟩ ![0, 1, 2]}
    {f14 : Shape.Concatenates [⟨4, ![8, hw, 64, 1]⟩, ⟨4, ![8, hw, 64, 1]⟩, ⟨4, ![8, hw, 64, 1]⟩, ⟨4, ![8, hw, 64, 1]⟩] ⟨4, ![8, hw, 64, 4]⟩ 3}
    (ea14 : a14 = broadcastInDim ⟨3, ![1, hw, 1]⟩ ![1] f4 a12)
    (ea15 : a15 = extractStridedSlice ⟨3, ![8, 64, 1]⟩ ![0, 0, 0] g f5)
    (ea16 : a16 = shapeCast ⟨2, ![8, 64]⟩ a15 f6)
    (ea17 : a17 = broadcastInDim ⟨3, ![8, 1, 64]⟩ ![0, 2] f7 a16)
    (ea18 : a18 = broadcastInDim ⟨3, ![8, hw, 64]⟩ ![0, 1, 2] f8 a14)
    (ea19 : a19 = broadcastInDim ⟨3, ![8, hw, 64]⟩ ![0, 1, 2] f9 a17)
    (ea20 : a20 = subf a18 a19)
    (ea21 : a21 = broadcastInDim ⟨3, ![1, hw, 1]⟩ ![1] f4 a13)
    (ea22 : a22 = extractStridedSlice ⟨3, ![8, 64, 1]⟩ ![0, 0, 1] g f10)
    (ea23 : a23 = shapeCast ⟨2, ![8, 64]⟩ a22 f6)
    (ea24 : a24 = broadcastInDim ⟨3, ![8, 1, 64]⟩ ![0, 2] f7 a23)
    (ea25 : a25 = broadcastInDim ⟨3, ![8, hw, 64]⟩ ![0, 1, 2] f8 a21)
    (ea26 : a26 = broadcastInDim ⟨3, ![8, hw, 64]⟩ ![0, 1, 2] f9 a24)
    (ea27 : a27 = subf a25 a26)
    (ea28 : a28 = extractStridedSlice ⟨3, ![8, 64, 1]⟩ ![0, 0, 2] g f11)
    (ea29 : a29 = shapeCast ⟨2, ![8, 64]⟩ a28 f6)
    (ea30 : a30 = broadcastInDim ⟨3, ![8, 1, 64]⟩ ![0, 2] f7 a29)
    (ea31 : a31 = broadcastInDim ⟨3, ![1, hw, 1]⟩ ![1] f4 a12)
    (ea32 : a32 = broadcastInDim ⟨3, ![8, hw, 64]⟩ ![0, 1, 2] f9 a30)
    (ea33 : a33 = broadcastInDim ⟨3, ![8, hw, 64]⟩ ![0, 1, 2] f8 a31)
    (ea34 : a34 = subf a32 a33)
    (ea35 : a35 = extractStridedSlice ⟨3, ![8, 64, 1]⟩ ![0, 0, 3] g f12)
    (ea36 : a36 = shapeCast ⟨2, ![8, 64]⟩ a35 f6)
    (ea37 : a37 = broadcastInDim ⟨3, ![8, 1, 64]⟩ ![0, 2] f7 a36)
    (ea38 : a38 = broadcastInDim ⟨3, ![1, hw, 1]⟩ ![1] f4 a13)
    (ea39 : a39 = broadcastInDim ⟨3, ![8, hw, 64]⟩ ![0, 1, 2] f9 a37)
    (ea40 : a40 = broadcastInDim ⟨3, ![8, hw, 64]⟩ ![0, 1, 2] f8 a38)
    (ea41 : a41 = subf a39 a40)
    (ea42 : a42 = broadcastInDim ⟨4, ![8, hw, 64, 1]⟩ ![0, 1, 2] f13 a20)
    (ea43 : a43 = broadcastInDim ⟨4, ![8, hw, 64, 1]⟩ ![0, 1, 2] f13 a27)
    (ea44 : a44 = broadcastInDim ⟨4, ![8, hw, 64, 1]⟩ ![0, 1, 2] f13 a34)
    (ea45 : a45 = broadcastInDim ⟨4, ![8, hw, 64, 1]⟩ ![0, 1, 2] f13 a41)
    (ea46 : a46 = concatenate ⟨4, ![8, hw, 64, 4]⟩ 3 [⟨⟨4, ![8, hw, 64, 1]⟩, a42⟩, ⟨⟨4, ![8, hw, 64, 1]⟩, a43⟩, ⟨⟨4, ![8, hw, 64, 1]⟩, a44⟩, ⟨⟨4, ![8, hw, 64, 1]⟩, a45⟩] f14)
    (b : Fin 8) (p : Fin hw) (k : Fin 64) (c : Fin 4) :
    a46 (ix4 b p k c) = (![a12 (ix1 p) - g (ix3 b k 0), a13 (ix1 p) - g (ix3 b k 1), g (ix3 b k 2) - a12 (ix1 p),
      g (ix3 b k 3) - a13 (ix1 p)] : Fin 4 → EReal) c := by
  have d0 : a20 (ix3 b p k) = a12 (ix1 p) - g (ix3 b k 0) := by
    pointwise [ea20, ea18, ea14, ea19, ea17, ea16, ea15]
    simp [h1]
  have d1 : a27 (ix3 b p k) = a13 (ix1 p) - g (ix3 b k 1) := by
    pointwise [ea27, ea25, ea21, ea26, ea24, ea23, ea22]
    simp [h1]
  have d2 : a34 (ix3 b p k) = g (ix3 b k 2) - a12 (ix1 p) := by
    pointwise [ea34, ea33, ea31, ea32, ea30, ea29, ea28]
    simp [h1]
  have d3 : a41 (ix3 b p k) = g (ix3 b k 3) - a13 (ix1 p) := by
    pointwise [ea41, ea40, ea38, ea39, ea37, ea36, ea35]
    simp [h1]
  fin_cases c
  · pointwise [ea46, ea42]
    simp [h1, d0]
  · pointwise [ea46, ea43]
    simp [h1, d1]
  · pointwise [ea46, ea44]
    simp [h1, d2]
  · pointwise [ea46, ea45]
    simp [h1, d3]

/-- The boxes' areas. -/
theorem areas     {a46 : FVec Ideal ⟨4, ![8, hw, 64, 4]⟩ .f32} {a47 a49 a52 a54 : FVec Ideal ⟨4, ![8, hw, 64, 1]⟩ .f32}
    {a48 a50 a51 a53 a55 a56 a57 : FVec Ideal ⟨3, ![8, hw, 64]⟩ .f32}
    {f15 : (⟨4, ![8, hw, 64, 4]⟩ : Shape).Slices ![0, 0, 0, 0] ⟨4, ![8, hw, 64, 1]⟩}
    {f16 : (⟨4, ![8, hw, 64, 1]⟩ : Shape).ShapeCasts ⟨3, ![8, hw, 64]⟩}
    {f17 : (⟨4, ![8, hw, 64, 4]⟩ : Shape).Slices ![0, 0, 0, 2] ⟨4, ![8, hw, 64, 1]⟩}
    {f18 : (⟨4, ![8, hw, 64, 4]⟩ : Shape).Slices ![0, 0, 0, 1] ⟨4, ![8, hw, 64, 1]⟩}
    {f19 : (⟨4, ![8, hw, 64, 4]⟩ : Shape).Slices ![0, 0, 0, 3] ⟨4, ![8, hw, 64, 1]⟩}
    (ea47 : a47 = extractStridedSlice ⟨4, ![8, hw, 64, 1]⟩ ![0, 0, 0, 0] a46 f15)
    (ea48 : a48 = shapeCast ⟨3, ![8, hw, 64]⟩ a47 f16)
    (ea49 : a49 = extractStridedSlice ⟨4, ![8, hw, 64, 1]⟩ ![0, 0, 0, 2] a46 f17)
    (ea50 : a50 = shapeCast ⟨3, ![8, hw, 64]⟩ a49 f16)
    (ea51 : a51 = addf a48 a50)
    (ea52 : a52 = extractStridedSlice ⟨4, ![8, hw, 64, 1]⟩ ![0, 0, 0, 1] a46 f18)
    (ea53 : a53 = shapeCast ⟨3, ![8, hw, 64]⟩ a52 f16)
    (ea54 : a54 = extractStridedSlice ⟨4, ![8, hw, 64, 1]⟩ ![0, 0, 0, 3] a46 f19)
    (ea55 : a55 = shapeCast ⟨3, ![8, hw, 64]⟩ a54 f16)
    (ea56 : a56 = addf a53 a55)
    (ea57 : a57 = mulf a51 a56)
    (b : Fin 8) (p : Fin hw) (k : Fin 64) :
    a57 (ix3 b p k) = ((a46 (ix4 b p k 0) + a46 (ix4 b p k 2)) * (a46 (ix4 b p k 1) + a46 (ix4 b p k 3)) : EReal) := by
  have d0 : a48 (ix3 b p k) = a46 (ix4 b p k 0) := by
    rw [ea48, cast_431]
    pointwise [ea47]
  have d1 : a50 (ix3 b p k) = a46 (ix4 b p k 2) := by
    rw [ea50, cast_431]
    pointwise [ea49]
  have d2 : a53 (ix3 b p k) = a46 (ix4 b p k 1) := by
    rw [ea53, cast_431]
    pointwise [ea52]
  have d3 : a55 (ix3 b p k) = a46 (ix4 b p k 3) := by
    rw [ea55, cast_431]
    pointwise [ea54]
  rw [← d0, ← d1, ← d2, ← d3, ea57, ea51, ea56]
  rfl

/-- The point is inside the box. -/
theorem inside     {a46 : FVec Ideal ⟨4, ![8, hw, 64, 4]⟩ .f32} {cst_3 cst_5 : FVec Ideal ⟨0, ![]⟩ .f32}
    {a58 a60 : FVec Ideal ⟨3, ![8, hw, 64]⟩ .f32} {a61 : IVec ⟨3, ![8, hw, 64]⟩ 1}
    {f20 : (⟨4, ![8, hw, 64, 4]⟩ : Shape).ReducesTo [3] ⟨3, ![8, hw, 64]⟩} {f21 : 0 < (⟨0, ![]⟩ : Shape).numel}
    {f22 : (⟨0, ![]⟩ : Shape).BroadcastsInDim ⟨3, ![8, hw, 64]⟩ ![]}
    (ecst_3 : cst_3 = constant ⟨0, ![]⟩ .f32 0x7F800000#32)
    (ea58 : a58 = Host.reduce (FloatOps.minimumf (F := Ideal) (φ := .f32)) a46 cst_3 f20 f21)
    (ecst_5 : cst_5 = constant ⟨0, ![]⟩ .f32 0x00000000#32)
    (ea60 : a60 = broadcastInDim ⟨3, ![8, hw, 64]⟩ ![] f22 cst_5)
    (ea61 : a61 = cmpf .ogt a58 a60)
    (b : Fin 8) (p : Fin hw) (k : Fin 64) :
    a61 (ix3 b p k) = BitVec.ofBool (decide (0 < low fun c => a46 (ix4 b p k c))) := by
  have d : a58 (ix3 b p k) = low fun c => a46 (ix4 b p k c) := by
    rw [ea58, ecst_3, reduce_low]
  have z : a60 (ix3 b p k) = 0 := by
    pointwise [ea60, ecst_5]
  rw [ea61]
  show FloatOps.cmpf (F := Ideal) (φ := .f32) .ogt (a58 (ix3 b p k)) (a60 (ix3 b p k)) = _
  rw [d, z]
  rfl

/-- The box's size is in the level's range. -/
theorem sized {lo hi : BitVec 32}     {a46 : FVec Ideal ⟨4, ![8, hw, 64, 4]⟩ .f32} {cst_4 cst_6 cst_7 : FVec Ideal ⟨0, ![]⟩ .f32}
    {a59 a62 a64 : FVec Ideal ⟨3, ![8, hw, 64]⟩ .f32} {a63 a65 a66 : IVec ⟨3, ![8, hw, 64]⟩ 1}
    {f20 : (⟨4, ![8, hw, 64, 4]⟩ : Shape).ReducesTo [3] ⟨3, ![8, hw, 64]⟩} {f21 : 0 < (⟨0, ![]⟩ : Shape).numel}
    {f22 : (⟨0, ![]⟩ : Shape).BroadcastsInDim ⟨3, ![8, hw, 64]⟩ ![]}
    (ecst_4 : cst_4 = constant ⟨0, ![]⟩ .f32 0xFF800000#32)
    (ea59 : a59 = Host.reduce (FloatOps.maximumf (F := Ideal) (φ := .f32)) a46 cst_4 f20 f21)
    (ecst_6 : cst_6 = constant ⟨0, ![]⟩ .f32 lo)
    (ea62 : a62 = broadcastInDim ⟨3, ![8, hw, 64]⟩ ![] f22 cst_6)
    (ea63 : a63 = cmpf .ogt a59 a62)
    (ecst_7 : cst_7 = constant ⟨0, ![]⟩ .f32 hi)
    (ea64 : a64 = broadcastInDim ⟨3, ![8, hw, 64]⟩ ![] f22 cst_7)
    (ea65 : a65 = cmpf .ole a59 a64)
    (ea66 : a66 = andi a63 a65)
    (b : Fin 8) (p : Fin hw) (k : Fin 64) :
    a66 (ix3 b p k) = BitVec.ofBool (decide ((Ideal.ofBits .f32 lo < high fun c => a46 (ix4 b p k c))
      ∧ (high fun c => a46 (ix4 b p k c)) ≤ Ideal.ofBits .f32 hi)) := by
  have d : a59 (ix3 b p k) = high fun c => a46 (ix4 b p k c) := by
    rw [ea59, ecst_4, reduce_high]
  have z : a62 (ix3 b p k) = Ideal.ofBits .f32 lo := by
    pointwise [ea62, ecst_6]
  have y : a64 (ix3 b p k) = Ideal.ofBits .f32 hi := by
    pointwise [ea64, ecst_7]
  rw [ea66, ea63, ea65]
  show IntOp.andi (FloatOps.cmpf (F := Ideal) (φ := .f32) .ogt (a59 (ix3 b p k)) (a62 (ix3 b p k)))
    (FloatOps.cmpf (F := Ideal) (φ := .f32) .ole (a59 (ix3 b p k)) (a64 (ix3 b p k))) = _
  rw [d, z, y, ← andi_ofBool]
  rfl

/-- The point is near the box's centre. -/
theorem near (h1 : hw ≠ 1) {ratio : BitVec 32} {g : FVec Ideal ⟨3, ![8, 64, 4]⟩ .f32}
    {a12 a13 : FVec Ideal ⟨1, ![hw]⟩ .f32} {a67 a69 a74 a76 : FVec Ideal ⟨3, ![8, 64, 1]⟩ .f32}
    {a68 a70 a71 a72 a73 a75 a77 a78 a79 a80 : FVec Ideal ⟨2, ![8, 64]⟩ .f32}
    {cst_8 cst_9 cst_10 cst_11 : FVec Ideal ⟨0, ![]⟩ .f32} {a81 a86 a92 a97 : FVec Ideal ⟨3, ![1, hw, 1]⟩ .f32}
    {a82 a87 a91 a96 : FVec Ideal ⟨3, ![8, 1, 64]⟩ .f32}
    {a83 a84 a85 a88 a89 a90 a93 a94 a95 a98 a99 a100 a106 a107 : FVec Ideal ⟨3, ![8, hw, 64]⟩ .f32}
    {a101 a102 a103 a104 : FVec Ideal ⟨4, ![8, hw, 64, 1]⟩ .f32} {a105 : FVec Ideal ⟨4, ![8, hw, 64, 4]⟩ .f32}
    {a108 : IVec ⟨3, ![8, hw, 64]⟩ 1}
    {f5 : (⟨3, ![8, 64, 4]⟩ : Shape).Slices ![0, 0, 0] ⟨3, ![8, 64, 1]⟩}
    {f6 : (⟨3, ![8, 64, 1]⟩ : Shape).ShapeCasts ⟨2, ![8, 64]⟩}
    {f11 : (⟨3, ![8, 64, 4]⟩ : Shape).Slices ![0, 0, 2] ⟨3, ![8, 64, 1]⟩}
    {f23 : (⟨0, ![]⟩ : Shape).BroadcastsInDim ⟨2, ![8, 64]⟩ ![]}
    {f10 : (⟨3, ![8, 64, 4]⟩ : Shape).Slices ![0, 0, 1] ⟨3, ![8, 64, 1]⟩}
    {f12 : (⟨3, ![8, 64, 4]⟩ : Shape).Slices ![0, 0, 3] ⟨3, ![8, 64, 1]⟩}
    {f4 : (⟨1, ![hw]⟩ : Shape).BroadcastsInDim ⟨3, ![1, hw, 1]⟩ ![1]}
    {f7 : (⟨2, ![8, 64]⟩ : Shape).BroadcastsInDim ⟨3, ![8, 1, 64]⟩ ![0, 2]}
    {f8 : (⟨3, ![1, hw, 1]⟩ : Shape).BroadcastsInDim ⟨3, ![8, hw, 64]⟩ ![0, 1, 2]}
    {f9 : (⟨3, ![8, 1, 64]⟩ : Shape).BroadcastsInDim ⟨3, ![8, hw, 64]⟩ ![0, 1, 2]}
    {f13 : (⟨3, ![8, hw, 64]⟩ : Shape).BroadcastsInDim ⟨4, ![8, hw, 64, 1]⟩ ![0, 1, 2]}
    {f14 : Shape.Concatenates [⟨4, ![8, hw, 64, 1]⟩, ⟨4, ![8, hw, 64, 1]⟩, ⟨4, ![8, hw, 64, 1]⟩, ⟨4, ![8, hw, 64, 1]⟩] ⟨4, ![8, hw, 64, 4]⟩ 3}
    {f20 : (⟨4, ![8, hw, 64, 4]⟩ : Shape).ReducesTo [3] ⟨3, ![8, hw, 64]⟩} {f21 : 0 < (⟨0, ![]⟩ : Shape).numel}
    {f22 : (⟨0, ![]⟩ : Shape).BroadcastsInDim ⟨3, ![8, hw, 64]⟩ ![]}
    (ea67 : a67 = extractStridedSlice ⟨3, ![8, 64, 1]⟩ ![0, 0, 0] g f5)
    (ea68 : a68 = shapeCast ⟨2, ![8, 64]⟩ a67 f6)
    (ea69 : a69 = extractStridedSlice ⟨3, ![8, 64, 1]⟩ ![0, 0, 2] g f11)
    (ea70 : a70 = shapeCast ⟨2, ![8, 64]⟩ a69 f6)
    (ea71 : a71 = addf a68 a70)
    (ecst_8 : cst_8 = constant ⟨0, ![]⟩ .f32 0x40000000#32)
    (ea72 : a72 = broadcastInDim ⟨2, ![8, 64]⟩ ![] f23 cst_8)
    (ea73 : a73 = Host.divf a71 a72)
    (ea74 : a74 = extractStridedSlice ⟨3, ![8, 64, 1]⟩ ![0, 0, 1] g f10)
    (ea75 : a75 = shapeCast ⟨2, ![8, 64]⟩ a74 f6)
    (ea76 : a76 = extractStridedSlice ⟨3, ![8, 64, 1]⟩ ![0, 0, 3] g f12)
    (ea77 : a77 = shapeCast ⟨2, ![8, 64]⟩ a76 f6)
    (ea78 : a78 = addf a75 a77)
    (ecst_9 : cst_9 = constant ⟨0, ![]⟩ .f32 0x40000000#32)
    (ea79 : a79 = broadcastInDim ⟨2, ![8, 64]⟩ ![] f23 cst_9)
    (ea80 : a80 = Host.divf a78 a79)
    (ea81 : a81 = broadcastInDim ⟨3, ![1, hw, 1]⟩ ![1] f4 a12)
    (ea82 : a82 = broadcastInDim ⟨3, ![8, 1, 64]⟩ ![0, 2] f7 a73)
    (ea83 : a83 = broadcastInDim ⟨3, ![8, hw, 64]⟩ ![0, 1, 2] f8 a81)
    (ea84 : a84 = broadcastInDim ⟨3, ![8, hw, 64]⟩ ![0, 1, 2] f9 a82)
    (ea85 : a85 = subf a83 a84)
    (ea86 : a86 = broadcastInDim ⟨3, ![1, hw, 1]⟩ ![1] f4 a13)
    (ea87 : a87 = broadcastInDim ⟨3, ![8, 1, 64]⟩ ![0, 2] f7 a80)
    (ea88 : a88 = broadcastInDim ⟨3, ![8, hw, 64]⟩ ![0, 1, 2] f8 a86)
    (ea89 : a89 = broadcastInDim ⟨3, ![8, hw, 64]⟩ ![0, 1, 2] f9 a87)
    (ea90 : a90 = subf a88 a89)
    (ea91 : a91 = broadcastInDim ⟨3, ![8, 1, 64]⟩ ![0, 2] f7 a73)
    (ea92 : a92 = broadcastInDim ⟨3, ![1, hw, 1]⟩ ![1] f4 a12)
    (ea93 : a93 = broadcastInDim ⟨3, ![8, hw, 64]⟩ ![0, 1, 2] f9 a91)
    (ea94 : a94 = broadcastInDim ⟨3, ![8, hw, 64]⟩ ![0, 1, 2] f8 a92)
    (ea95 : a95 = subf a93 a94)
    (ea96 : a96 = broadcastInDim ⟨3, ![8, 1, 64]⟩ ![0, 2] f7 a80)
    (ea97 : a97 = broadcastInDim ⟨3, ![1, hw, 1]⟩ ![1] f4 a13)
    (ea98 : a98 = broadcastInDim ⟨3, ![8, hw, 64]⟩ ![0, 1, 2] f9 a96)
    (ea99 : a99 = broadcastInDim ⟨3, ![8, hw, 64]⟩ ![0, 1, 2] f8 a97)
    (ea100 : a100 = subf a98 a99)
    (ea101 : a101 = broadcastInDim ⟨4, ![8, hw, 64, 1]⟩ ![0, 1, 2] f13 a85)
    (ea102 : a102 = broadcastInDim ⟨4, ![8, hw, 64, 1]⟩ ![0, 1, 2] f13 a90)
    (ea103 : a103 = broadcastInDim ⟨4, ![8, hw, 64, 1]⟩ ![0, 1, 2] f13 a95)
    (ea104 : a104 = broadcastInDim ⟨4, ![8, hw, 64, 1]⟩ ![0, 1, 2] f13 a100)
    (ea105 : a105 = concatenate ⟨4, ![8, hw, 64, 4]⟩ 3 [⟨⟨4, ![8, hw, 64, 1]⟩, a101⟩, ⟨⟨4, ![8, hw, 64, 1]⟩, a102⟩, ⟨⟨4, ![8, hw, 64, 1]⟩, a103⟩, ⟨⟨4, ![8, hw, 64, 1]⟩, a104⟩] f14)
    (ecst_10 : cst_10 = constant ⟨0, ![]⟩ .f32 0xFF800000#32)
    (ea106 : a106 = Host.reduce (FloatOps.maximumf (F := Ideal) (φ := .f32)) a105 cst_10 f20 f21)
    (ecst_11 : cst_11 = constant ⟨0, ![]⟩ .f32 ratio)
    (ea107 : a107 = broadcastInDim ⟨3, ![8, hw, 64]⟩ ![] f22 cst_11)
    (ea108 : a108 = cmpf .olt a106 a107)
    (b : Fin 8) (p : Fin hw) (k : Fin 64) :
    a108 (ix3 b p k) = BitVec.ofBool (decide (max
      (max (a12 (ix1 p) - mid (g (ix3 b k 0)) (g (ix3 b k 2))) (mid (g (ix3 b k 0)) (g (ix3 b k 2)) - a12 (ix1 p)))
      (max (a13 (ix1 p) - mid (g (ix3 b k 1)) (g (ix3 b k 3))) (mid (g (ix3 b k 1)) (g (ix3 b k 3)) - a13 (ix1 p)))
        < Ideal.ofBits .f32 ratio)) := by
  have mx : a73 (ix2 b k) = mid (g (ix3 b k 0)) (g (ix3 b k 2)) := by
    have u : a68 (ix2 b k) = g (ix3 b k 0) := by
      pointwise [ea68, ea67]
    have v : a70 (ix2 b k) = g (ix3 b k 2) := by
      pointwise [ea70, ea69]
    have w : a72 (ix2 b k) = Ideal.ofBits .f32 0x40000000#32 := by
      pointwise [ea72, ecst_8]
    rw [ea73, ea71]
    show Ideal.div (a68 (ix2 b k) + a70 (ix2 b k)) (a72 (ix2 b k)) = _
    rw [u, v, w]
    rfl
  have my : a80 (ix2 b k) = mid (g (ix3 b k 1)) (g (ix3 b k 3)) := by
    have u : a75 (ix2 b k) = g (ix3 b k 1) := by
      pointwise [ea75, ea74]
    have v : a77 (ix2 b k) = g (ix3 b k 3) := by
      pointwise [ea77, ea76]
    have w : a79 (ix2 b k) = Ideal.ofBits .f32 0x40000000#32 := by
      pointwise [ea79, ecst_9]
    rw [ea80, ea78]
    show Ideal.div (a75 (ix2 b k) + a77 (ix2 b k)) (a79 (ix2 b k)) = _
    rw [u, v, w]
    rfl
  have d0 : a85 (ix3 b p k) = a12 (ix1 p) - a73 (ix2 b k) := by
    pointwise [ea85, ea83, ea81, ea84, ea82]
    simp [h1]
  have d1 : a90 (ix3 b p k) = a13 (ix1 p) - a80 (ix2 b k) := by
    pointwise [ea90, ea88, ea86, ea89, ea87]
    simp [h1]
  have d2 : a95 (ix3 b p k) = a73 (ix2 b k) - a12 (ix1 p) := by
    pointwise [ea95, ea94, ea92, ea93, ea91]
    simp [h1]
  have d3 : a100 (ix3 b p k) = a80 (ix2 b k) - a13 (ix1 p) := by
    pointwise [ea100, ea99, ea97, ea98, ea96]
    simp [h1]
  have c0 : a105 (ix4 b p k 0) = a85 (ix3 b p k) := by
    pointwise [ea105, ea101]
    simp [h1]
  have c1 : a105 (ix4 b p k 1) = a90 (ix3 b p k) := by
    pointwise [ea105, ea102]
    simp [h1]
  have c2 : a105 (ix4 b p k 2) = a95 (ix3 b p k) := by
    pointwise [ea105, ea103]
    simp [h1]
  have c3 : a105 (ix4 b p k 3) = a100 (ix3 b p k) := by
    pointwise [ea105, ea104]
    simp [h1]
  have z : a107 (ix3 b p k) = Ideal.ofBits .f32 ratio := by
    pointwise [ea107, ecst_11]
  rw [ea108]
  show FloatOps.cmpf (F := Ideal) (φ := .f32) .olt (a106 (ix3 b p k)) (a107 (ix3 b p k)) = _
  rw [z, ea106, ecst_10, reduce_high]
  unfold high
  beta_reduce
  rw [c0, c1, c2, c3, d0, d1, d2, d3, mx, my]
  rw [max_max_max_comm]
  rfl

/-- The masked areas. -/
theorem costs     {a57 u0_v1 a111 : FVec Ideal ⟨3, ![8, hw, 64]⟩ .f32} {a110 : IVec ⟨3, ![8, hw, 64]⟩ 1}
    {cst_12 u0_v0 : FVec Ideal ⟨0, ![]⟩ .f32}
    {f22 : (⟨0, ![]⟩ : Shape).BroadcastsInDim ⟨3, ![8, hw, 64]⟩ ![]}
    (ecst_12 : cst_12 = constant ⟨0, ![]⟩ .f32 0x4CBEBC20#32)
    (eu0_v0 : u0_v0 = cst_12)
    (eu0_v1 : u0_v1 = broadcastInDim ⟨3, ![8, hw, 64]⟩ ![] f22 u0_v0)
    (ea111 : a111 = select a110 a57 u0_v1)
    (b : Fin 8) (p : Fin hw) (k : Fin 64) {Q : Prop} (hq : a110 (ix3 b p k) = BitVec.ofBool (decide Q)) :
    a111 (ix3 b p k) = if Q then a57 (ix3 b p k) else Ideal.ofBits .f32 0x4CBEBC20#32 := by
  have z : u0_v1 (ix3 b p k) = Ideal.ofBits .f32 0x4CBEBC20#32 := by
    rw [eu0_v0] at eu0_v1
    pointwise [eu0_v1, ecst_12]
  rw [ea111]
  show Scalar.select (a110 (ix3 b p k)) (a57 (ix3 b p k)) (u0_v1 (ix3 b p k)) = _
  rw [hq, z, select_ofBool]

/-- The first index of the smallest. -/
theorem least     {a111 : FVec Ideal ⟨3, ![8, hw, 64]⟩ .f32} {u1_v0 : IVec ⟨3, ![8, hw, 64]⟩ 32} {u1_cst : FVec Ideal ⟨0, ![]⟩ .f32}
    {u1_c : IVec ⟨0, ![]⟩ 32} {a112 : IVec ⟨2, ![8, hw]⟩ 32}
    {f24 : (⟨3, ![8, hw, 64]⟩ : Shape).ReducesTo [2] ⟨2, ![8, hw]⟩} {f21 : 0 < (⟨0, ![]⟩ : Shape).numel}
    (eu1_v0 : u1_v0 = iotaInDim ⟨3, ![8, hw, 64]⟩ 32 2)
    (eu1_cst : u1_cst = constant ⟨0, ![]⟩ .f32 0x7F800000#32)
    (eu1_c : u1_c = constantI ⟨0, ![]⟩ 32 0#32)
    (ea112 : a112 = fun j => (Host.argReduce (Cert.ReferenceIdeal.reducer_argmin_f32_i32 (F := Ideal)) a111 u1_v0 u1_cst u1_c f24 f21 j).2)
    (b : Fin 8) (p : Fin hw) : ∃ s : Fin 64, First (fun k => a111 (ix3 b p k)) s ∧ a112 (ix2 b p) = BitVec.ofNat 32 s := by
  obtain ⟨s, hs, h⟩ := argmin_at a111 (h := f24) (hu := f21) b p
  refine ⟨s, hs, ?_⟩
  rw [ea112, eu1_v0, eu1_cst, eu1_c]
  exact h

/-- A box's number is not negative. -/
theorem not_neg (s : Fin 64) : IntOp.cmpi .slt (BitVec.ofNat 32 s) 0#32 = 0#1 := by
  revert s; decide

/-- A box's number is in range. -/
theorem in_range (s : Fin 64) :
    IntOp.andi (IntOp.cmpi .sge (BitVec.ofNat 32 s) 0#32) (IntOp.cmpi .sle (BitVec.ofNat 32 s) 63#32) = 1#1 := by
  revert s; decide

/-- The distances to the assigned box. -/
theorem take_box (h1 : hw ≠ 1)     {a46 : FVec Ideal ⟨4, ![8, hw, 64, 4]⟩ .f32} {a112 : IVec ⟨2, ![8, hw]⟩ 32} {a113 : IVec ⟨4, ![8, hw, 1, 1]⟩ 32}
    {a114 u2_v0 u2_v2 u2_v3 u2_v4 : IVec ⟨4, ![8, hw, 1, 4]⟩ 32} {u2_c u2_c_0 u2_c_2 : IVec ⟨0, ![]⟩ 32}
    {u2_v1 u2_v12 : IVec ⟨4, ![8, hw, 1, 4]⟩ 1} {u2_v5 u2_v6 u2_v9 : IVec ⟨5, ![8, hw, 1, 4, 1]⟩ 32}
    {u2_c_1 : IVec ⟨1, ![1]⟩ 32} {u2_v7 u2_v10 u2_v11 : IVec ⟨5, ![8, hw, 1, 4, 1]⟩ 1}
    {u2_v8 : IVec ⟨5, ![1, 1, 1, 1, 1]⟩ 32} {u2_c_3 : IVec ⟨0, ![]⟩ 1}
    {u2_v13 u2_v14 a115 : FVec Ideal ⟨4, ![8, hw, 1, 4]⟩ .f32} {u2_cst : FVec Ideal ⟨0, ![]⟩ .f32}
    {a116 : FVec Ideal ⟨3, ![8, hw, 4]⟩ .f32}
    {f25 : (⟨2, ![8, hw]⟩ : Shape).BroadcastsInDim ⟨4, ![8, hw, 1, 1]⟩ ![0, 1]}
    {f26 : (⟨4, ![8, hw, 1, 1]⟩ : Shape).BroadcastsInDim ⟨4, ![8, hw, 1, 4]⟩ ![0, 1, 2, 3]}
    {f27 : (⟨0, ![]⟩ : Shape).BroadcastsInDim ⟨4, ![8, hw, 1, 4]⟩ ![]}
    {f28 : (⟨4, ![8, hw, 1, 4]⟩ : Shape).ShapeCasts ⟨5, ![8, hw, 1, 4, 1]⟩}
    {f29 : (⟨0, ![]⟩ : Shape).BroadcastsInDim ⟨5, ![8, hw, 1, 4, 1]⟩ ![]}
    {f30 : (⟨1, ![1]⟩ : Shape).BroadcastsInDim ⟨5, ![1, 1, 1, 1, 1]⟩ ![4]}
    {f31 : (⟨5, ![1, 1, 1, 1, 1]⟩ : Shape).BroadcastsInDim ⟨5, ![8, hw, 1, 4, 1]⟩ ![0, 1, 2, 3, 4]}
    {f32 : (⟨5, ![8, hw, 1, 4, 1]⟩ : Shape).ReducesTo [4] ⟨4, ![8, hw, 1, 4]⟩} {f21 : 0 < (⟨0, ![]⟩ : Shape).numel}
    {f33 : GatherDims.WF ⟨4, ![8, hw, 64, 4]⟩ ⟨5, ![8, hw, 1, 4, 1]⟩ ⟨4, ![8, hw, 1, 4]⟩ [] [2] [0, 1, 3] [2] [0, 1, 3] 4 ![1, 1, 1, 1]}
    {f34 : (⟨4, ![8, hw, 1, 4]⟩ : Shape).ShapeCasts ⟨3, ![8, hw, 4]⟩}
    (ea113 : a113 = broadcastInDim ⟨4, ![8, hw, 1, 1]⟩ ![0, 1] f25 a112)
    (ea114 : a114 = broadcastInDim ⟨4, ![8, hw, 1, 4]⟩ ![0, 1, 2, 3] f26 a113)
    (eu2_c : u2_c = constantI ⟨0, ![]⟩ 32 0#32)
    (eu2_v0 : u2_v0 = broadcastInDim ⟨4, ![8, hw, 1, 4]⟩ ![] f27 u2_c)
    (eu2_v1 : u2_v1 = cmpi .slt a114 u2_v0)
    (eu2_c_0 : u2_c_0 = constantI ⟨0, ![]⟩ 32 64#32)
    (eu2_v2 : u2_v2 = broadcastInDim ⟨4, ![8, hw, 1, 4]⟩ ![] f27 u2_c_0)
    (eu2_v3 : u2_v3 = addi a114 u2_v2)
    (eu2_v4 : u2_v4 = select u2_v1 u2_v3 a114)
    (eu2_v5 : u2_v5 = shapeCast ⟨5, ![8, hw, 1, 4, 1]⟩ u2_v4 f28)
    (eu2_c_1 : u2_c_1 = constantI ⟨1, ![1]⟩ 32 63#32)
    (eu2_c_2 : u2_c_2 = constantI ⟨0, ![]⟩ 32 0#32)
    (eu2_v6 : u2_v6 = broadcastInDim ⟨5, ![8, hw, 1, 4, 1]⟩ ![] f29 u2_c_2)
    (eu2_v7 : u2_v7 = cmpi .sge u2_v5 u2_v6)
    (eu2_v8 : u2_v8 = broadcastInDim ⟨5, ![1, 1, 1, 1, 1]⟩ ![4] f30 u2_c_1)
    (eu2_v9 : u2_v9 = broadcastInDim ⟨5, ![8, hw, 1, 4, 1]⟩ ![0, 1, 2, 3, 4] f31 u2_v8)
    (eu2_v10 : u2_v10 = cmpi .sle u2_v5 u2_v9)
    (eu2_v11 : u2_v11 = andi u2_v7 u2_v10)
    (eu2_c_3 : u2_c_3 = constantI ⟨0, ![]⟩ 1 1#1)
    (eu2_v12 : u2_v12 = Host.reduce IntOp.andi u2_v11 u2_c_3 f32 f21)
    (eu2_v13 : u2_v13 = Host.gather (⟨[], [2], [0, 1, 3], [0, 1, 3], [2], 4, ![1, 1, 1, 1], f33⟩ : GatherDims _ _ _) a46 u2_v5)
    (eu2_cst : u2_cst = constant ⟨0, ![]⟩ .f32 0x7FC00000#32)
    (eu2_v14 : u2_v14 = broadcastInDim ⟨4, ![8, hw, 1, 4]⟩ ![] f27 u2_cst)
    (ea115 : a115 = select u2_v12 u2_v13 u2_v14)
    (ea116 : a116 = shapeCast ⟨3, ![8, hw, 4]⟩ a115 f34)
    (hs : ∀ b p, ∃ s : Fin 64, a112 (ix2 b p) = BitVec.ofNat 32 s)
    (b : Fin 8) (p : Fin hw) (c : Fin 4) (s : Fin 64) (h : a112 (ix2 b p) = BitVec.ofNat 32 s) :
    a116 (ix3 b p c) = a46 (ix4 b p s c) := by
  have i4 : ∀ b p c, u2_v4 (ix4 b p 0 c) = a112 (ix2 b p) := by
    intro b p c
    obtain ⟨s, hs⟩ := hs b p
    have e : a114 (ix4 b p 0 c) = a112 (ix2 b p) := by
      pointwise [ea114, ea113]
      simp [h1]
    have z : u2_v0 (ix4 b p 0 c) = 0#32 := by
      pointwise [eu2_v0, eu2_c]
    rw [eu2_v4, eu2_v1]
    show Scalar.select (IntOp.cmpi .slt (a114 (ix4 b p 0 c)) (u2_v0 (ix4 b p 0 c))) _ (a114 (ix4 b p 0 c)) = _
    rw [e, z, hs, not_neg]
    rfl
  have i5 : ∀ b p c, u2_v5 (ix5 b p 0 c 0) = a112 (ix2 b p) := by
    intro b p c
    rw [eu2_v5, cast_45, i4]
  have ok : ∀ i, u2_v11 i = 1#1 := by
    intro i
    have hi : i = ix5 (i 0) (i 1) 0 (i 3) 0 := by
      funext a
      fin_cases a
      · rfl
      · rfl
      · exact Fin.ext (by have : (i 2).val < 1 := (i 2).isLt; show (i 2).val = 0; omega)
      · rfl
      · exact Fin.ext (by have : (i 4).val < 1 := (i 4).isLt; show (i 4).val = 0; omega)
    obtain ⟨s, hs⟩ := hs (i 0) (i 1)
    have z : u2_v6 i = 0#32 := by
      pointwise [eu2_v6, eu2_c_2]
    have y : u2_v9 i = 63#32 := by
      pointwise [eu2_v9, eu2_v8, eu2_c_1]
    have e : u2_v5 i = BitVec.ofNat 32 s := by
      exact (congrArg u2_v5 hi).trans ((i5 _ _ _).trans hs)
    rw [eu2_v11, eu2_v7, eu2_v10]
    show IntOp.andi (IntOp.cmpi .sge (u2_v5 i) (u2_v6 i)) (IntOp.cmpi .sle (u2_v5 i) (u2_v9 i)) = _
    rw [e, z, y, in_range]
  have r : u2_v12 (ix4 b p 0 c) = 1#1 := by
    rw [eu2_v12]
    exact Host.reduce_andi_one _ _ _ _ _ (by rw [eu2_c_3]; rfl) ok
  rw [ea116, cast_434, ea115]
  show Scalar.select (u2_v12 (ix4 b p 0 c)) (u2_v13 (ix4 b p 0 c)) _ = _
  rw [r, eu2_v13, gather4_at a46 u2_v5 b p c s (by rw [i5, h])]
  rfl

/-- The label of the assigned box. -/
theorem take_label (h1 : hw ≠ 1) {l : IVec ⟨2, ![8, 64]⟩ 32}
    {a112 : IVec ⟨2, ![8, hw]⟩ 32} {a117 : IVec ⟨3, ![8, 1, 64]⟩ 32} {a118 : IVec ⟨3, ![8, hw, 64]⟩ 32}
    {a119 u3_v0 u3_v2 u3_v3 u3_v4 u3_v13 u3_v14 a120 : IVec ⟨3, ![8, hw, 1]⟩ 32}
    {u3_c u3_c_0 u3_c_2 u3_c_4 : IVec ⟨0, ![]⟩ 32} {u3_v1 u3_v12 : IVec ⟨3, ![8, hw, 1]⟩ 1}
    {u3_v5 u3_v6 u3_v9 : IVec ⟨4, ![8, hw, 1, 1]⟩ 32} {u3_c_1 : IVec ⟨1, ![1]⟩ 32}
    {u3_v7 u3_v10 u3_v11 : IVec ⟨4, ![8, hw, 1, 1]⟩ 1} {u3_v8 : IVec ⟨4, ![1, 1, 1, 1]⟩ 32} {u3_c_3 : IVec ⟨0, ![]⟩ 1}
    {f7 : (⟨2, ![8, 64]⟩ : Shape).BroadcastsInDim ⟨3, ![8, 1, 64]⟩ ![0, 2]}
    {f9 : (⟨3, ![8, 1, 64]⟩ : Shape).BroadcastsInDim ⟨3, ![8, hw, 64]⟩ ![0, 1, 2]}
    {f35 : (⟨2, ![8, hw]⟩ : Shape).BroadcastsInDim ⟨3, ![8, hw, 1]⟩ ![0, 1]}
    {f36 : (⟨0, ![]⟩ : Shape).BroadcastsInDim ⟨3, ![8, hw, 1]⟩ ![]}
    {f37 : (⟨3, ![8, hw, 1]⟩ : Shape).ShapeCasts ⟨4, ![8, hw, 1, 1]⟩}
    {f38 : (⟨0, ![]⟩ : Shape).BroadcastsInDim ⟨4, ![8, hw, 1, 1]⟩ ![]}
    {f39 : (⟨1, ![1]⟩ : Shape).BroadcastsInDim ⟨4, ![1, 1, 1, 1]⟩ ![3]}
    {f40 : (⟨4, ![1, 1, 1, 1]⟩ : Shape).BroadcastsInDim ⟨4, ![8, hw, 1, 1]⟩ ![0, 1, 2, 3]}
    {f41 : (⟨4, ![8, hw, 1, 1]⟩ : Shape).ReducesTo [3] ⟨3, ![8, hw, 1]⟩} {f21 : 0 < (⟨0, ![]⟩ : Shape).numel}
    {f42 : GatherDims.WF ⟨3, ![8, hw, 64]⟩ ⟨4, ![8, hw, 1, 1]⟩ ⟨3, ![8, hw, 1]⟩ [] [2] [0, 1] [2] [0, 1] 3 ![1, 1, 1]}
    (ea117 : a117 = broadcastInDim ⟨3, ![8, 1, 64]⟩ ![0, 2] f7 l)
    (ea118 : a118 = broadcastInDim ⟨3, ![8, hw, 64]⟩ ![0, 1, 2] f9 a117)
    (ea119 : a119 = broadcastInDim ⟨3, ![8, hw, 1]⟩ ![0, 1] f35 a112)
    (eu3_c : u3_c = constantI ⟨0, ![]⟩ 32 0#32)
    (eu3_v0 : u3_v0 = broadcastInDim ⟨3, ![8, hw, 1]⟩ ![] f36 u3_c)
    (eu3_v1 : u3_v1 = cmpi .slt a119 u3_v0)
    (eu3_c_0 : u3_c_0 = constantI ⟨0, ![]⟩ 32 64#32)
    (eu3_v2 : u3_v2 = broadcastInDim ⟨3, ![8, hw, 1]⟩ ![] f36 u3_c_0)
    (eu3_v3 : u3_v3 = addi a119 u3_v2)
    (eu3_v4 : u3_v4 = select u3_v1 u3_v3 a119)
    (eu3_v5 : u3_v5 = shapeCast ⟨4, ![8, hw, 1, 1]⟩ u3_v4 f37)
    (eu3_c_1 : u3_c_1 = constantI ⟨1, ![1]⟩ 32 63#32)
    (eu3_c_2 : u3_c_2 = constantI ⟨0, ![]⟩ 32 0#32)
    (eu3_v6 : u3_v6 = broadcastInDim ⟨4, ![8, hw, 1, 1]⟩ ![] f38 u3_c_2)
    (eu3_v7 : u3_v7 = cmpi .sge u3_v5 u3_v6)
    (eu3_v8 : u3_v8 = broadcastInDim ⟨4, ![1, 1, 1, 1]⟩ ![3] f39 u3_c_1)
    (eu3_v9 : u3_v9 = broadcastInDim ⟨4, ![8, hw, 1, 1]⟩ ![0, 1, 2, 3] f40 u3_v8)
    (eu3_v10 : u3_v10 = cmpi .sle u3_v5 u3_v9)
    (eu3_v11 : u3_v11 = andi u3_v7 u3_v10)
    (eu3_c_3 : u3_c_3 = constantI ⟨0, ![]⟩ 1 1#1)
    (eu3_v12 : u3_v12 = Host.reduce IntOp.andi u3_v11 u3_c_3 f41 f21)
    (eu3_v13 : u3_v13 = Host.gather (⟨[], [2], [0, 1], [0, 1], [2], 3, ![1, 1, 1], f42⟩ : GatherDims _ _ _) a118 u3_v5)
    (eu3_c_4 : u3_c_4 = constantI ⟨0, ![]⟩ 32 2147483648#32)
    (eu3_v14 : u3_v14 = broadcastInDim ⟨3, ![8, hw, 1]⟩ ![] f36 u3_c_4)
    (ea120 : a120 = select u3_v12 u3_v13 u3_v14)
    (hs : ∀ b p, ∃ s : Fin 64, a112 (ix2 b p) = BitVec.ofNat 32 s)
    (b : Fin 8) (p : Fin hw) (s : Fin 64) (h : a112 (ix2 b p) = BitVec.ofNat 32 s) :
    a120 (ix3 b p 0) = l (ix2 b s) := by
  have i3 : ∀ b p, u3_v4 (ix3 b p 0) = a112 (ix2 b p) := by
    intro b p
    obtain ⟨s, hs⟩ := hs b p
    have e : a119 (ix3 b p 0) = a112 (ix2 b p) := by
      pointwise [ea119]
      simp [h1]
    have z : u3_v0 (ix3 b p 0) = 0#32 := by
      pointwise [eu3_v0, eu3_c]
    rw [eu3_v4, eu3_v1]
    show Scalar.select (IntOp.cmpi .slt (a119 (ix3 b p 0)) (u3_v0 (ix3 b p 0))) _ (a119 (ix3 b p 0)) = _
    rw [e, z, hs, not_neg]
    rfl
  have i4 : ∀ b p, u3_v5 (ix4 b p 0 0) = a112 (ix2 b p) := by
    intro b p
    rw [eu3_v5, cast_34, i3]
  have ok : ∀ i, u3_v11 i = 1#1 := by
    intro i
    have hi : i = ix4 (i 0) (i 1) 0 0 := by
      funext a
      fin_cases a
      · rfl
      · rfl
      · exact Fin.ext (by have : (i 2).val < 1 := (i 2).isLt; show (i 2).val = 0; omega)
      · exact Fin.ext (by have : (i 3).val < 1 := (i 3).isLt; show (i 3).val = 0; omega)
    obtain ⟨s, hs⟩ := hs (i 0) (i 1)
    have z : u3_v6 i = 0#32 := by
      pointwise [eu3_v6, eu3_c_2]
    have y : u3_v9 i = 63#32 := by
      pointwise [eu3_v9, eu3_v8, eu3_c_1]
    have e : u3_v5 i = BitVec.ofNat 32 s := by
      exact (congrArg u3_v5 hi).trans ((i4 _ _).trans hs)
    rw [eu3_v11, eu3_v7, eu3_v10]
    show IntOp.andi (IntOp.cmpi .sge (u3_v5 i) (u3_v6 i)) (IntOp.cmpi .sle (u3_v5 i) (u3_v9 i)) = _
    rw [e, z, y, in_range]
  have r : u3_v12 (ix3 b p 0) = 1#1 := by
    rw [eu3_v12]
    exact Host.reduce_andi_one _ _ _ _ _ (by rw [eu3_c_3]; rfl) ok
  have e : a118 (ix3 b p s) = l (ix2 b s) := by
    pointwise [ea118, ea117]
  rw [ea120]
  show Scalar.select (u3_v12 (ix3 b p 0)) (u3_v13 (ix3 b p 0)) _ = _
  rw [r, eu3_v13, gather3_at a118 u3_v5 b p s (by rw [i4, h]), e]
  rfl

/-- Whether some box has the point as a positive. -/
theorem some_box     {a110 : IVec ⟨3, ![8, hw, 64]⟩ 1} {a141 : IVec ⟨3, ![8, hw, 64]⟩ 32} {c c_13 : IVec ⟨0, ![]⟩ 32}
    {a142 a143 : IVec ⟨2, ![8, hw]⟩ 32} {a144 : IVec ⟨2, ![8, hw]⟩ 1}
    {f48 : 1 < 32} {f24 : (⟨3, ![8, hw, 64]⟩ : Shape).ReducesTo [2] ⟨2, ![8, hw]⟩} {f21 : 0 < (⟨0, ![]⟩ : Shape).numel}
    {f49 : (⟨0, ![]⟩ : Shape).BroadcastsInDim ⟨2, ![8, hw]⟩ ![]}
    (ea141 : a141 = extui 32 a110 f48)
    (ec : c = constantI ⟨0, ![]⟩ 32 0#32)
    (ea142 : a142 = Host.reduce IntOp.addi a141 c f24 f21)
    (ec_13 : c_13 = constantI ⟨0, ![]⟩ 32 1#32)
    (ea143 : a143 = broadcastInDim ⟨2, ![8, hw]⟩ ![] f49 c_13)
    (ea144 : a144 = cmpi .sge a142 a143)
    (b : Fin 8) (p : Fin hw) {Q : Fin 64 → Prop} (hq : ∀ k, a110 (ix3 b p k) = BitVec.ofBool (decide (Q k))) :
    a144 (ix2 b p) = BitVec.ofBool (decide (∃ k, Q k)) := by
  have z : a143 (ix2 b p) = 1#32 := by
    pointwise [ea143, ec_13]
  rw [ea144]
  show IntOp.cmpi .sge (a142 (ix2 b p)) (a143 (ix2 b p)) = _
  rw [z, ea142, ea141, ec]
  exact count_at a110 Q b p hq

/-- The centerness entry. -/
theorem centerness (h1 : hw ≠ 1)     {a116 : FVec Ideal ⟨3, ![8, hw, 4]⟩ .f32}
    {a121 a123 a126 a128 a131 a133 a136 a138 a153 : FVec Ideal ⟨3, ![8, hw, 1]⟩ .f32}
    {a122 a124 a125 a127 a129 a130 a132 a134 a135 a137 a139 a140 a145 a146 a147 a148 a149 u4_v1 a150 a151 u5_v1 a152 : FVec Ideal ⟨2, ![8, hw]⟩ .f32}
    {a144 : IVec ⟨2, ![8, hw]⟩ 1} {cst_14 cst_15 u4_v0 cst_16 u5_v0 : FVec Ideal ⟨0, ![]⟩ .f32}
    {f43 : (⟨3, ![8, hw, 4]⟩ : Shape).Slices ![0, 0, 0] ⟨3, ![8, hw, 1]⟩}
    {f44 : (⟨3, ![8, hw, 1]⟩ : Shape).ShapeCasts ⟨2, ![8, hw]⟩}
    {f45 : (⟨3, ![8, hw, 4]⟩ : Shape).Slices ![0, 0, 2] ⟨3, ![8, hw, 1]⟩}
    {f46 : (⟨3, ![8, hw, 4]⟩ : Shape).Slices ![0, 0, 1] ⟨3, ![8, hw, 1]⟩}
    {f47 : (⟨3, ![8, hw, 4]⟩ : Shape).Slices ![0, 0, 3] ⟨3, ![8, hw, 1]⟩}
    {f49 : (⟨0, ![]⟩ : Shape).BroadcastsInDim ⟨2, ![8, hw]⟩ ![]}
    {f35 : (⟨2, ![8, hw]⟩ : Shape).BroadcastsInDim ⟨3, ![8, hw, 1]⟩ ![0, 1]}
    (ea121 : a121 = extractStridedSlice ⟨3, ![8, hw, 1]⟩ ![0, 0, 0] a116 f43)
    (ea122 : a122 = shapeCast ⟨2, ![8, hw]⟩ a121 f44)
    (ea123 : a123 = extractStridedSlice ⟨3, ![8, hw, 1]⟩ ![0, 0, 2] a116 f45)
    (ea124 : a124 = shapeCast ⟨2, ![8, hw]⟩ a123 f44)
    (ea125 : a125 = minimumf a122 a124)
    (ea126 : a126 = extractStridedSlice ⟨3, ![8, hw, 1]⟩ ![0, 0, 0] a116 f43)
    (ea127 : a127 = shapeCast ⟨2, ![8, hw]⟩ a126 f44)
    (ea128 : a128 = extractStridedSlice ⟨3, ![8, hw, 1]⟩ ![0, 0, 2] a116 f45)
    (ea129 : a129 = shapeCast ⟨2, ![8, hw]⟩ a128 f44)
    (ea130 : a130 = maximumf a127 a129)
    (ea131 : a131 = extractStridedSlice ⟨3, ![8, hw, 1]⟩ ![0, 0, 1] a116 f46)
    (ea132 : a132 = shapeCast ⟨2, ![8, hw]⟩ a131 f44)
    (ea133 : a133 = extractStridedSlice ⟨3, ![8, hw, 1]⟩ ![0, 0, 3] a116 f47)
    (ea134 : a134 = shapeCast ⟨2, ![8, hw]⟩ a133 f44)
    (ea135 : a135 = minimumf a132 a134)
    (ea136 : a136 = extractStridedSlice ⟨3, ![8, hw, 1]⟩ ![0, 0, 1] a116 f46)
    (ea137 : a137 = shapeCast ⟨2, ![8, hw]⟩ a136 f44)
    (ea138 : a138 = extractStridedSlice ⟨3, ![8, hw, 1]⟩ ![0, 0, 3] a116 f47)
    (ea139 : a139 = shapeCast ⟨2, ![8, hw]⟩ a138 f44)
    (ea140 : a140 = maximumf a137 a139)
    (ea145 : a145 = mulf a125 a135)
    (ea146 : a146 = mulf a130 a140)
    (ecst_14 : cst_14 = constant ⟨0, ![]⟩ .f32 0x2EDBE6FF#32)
    (ea147 : a147 = broadcastInDim ⟨2, ![8, hw]⟩ ![] f49 cst_14)
    (ea148 : a148 = addf a146 a147)
    (ea149 : a149 = Host.divf a145 a148)
    (ecst_15 : cst_15 = constant ⟨0, ![]⟩ .f32 0x3F800000#32)
    (eu4_v0 : u4_v0 = cst_15)
    (eu4_v1 : u4_v1 = broadcastInDim ⟨2, ![8, hw]⟩ ![] f49 u4_v0)
    (ea150 : a150 = select a144 a149 u4_v1)
    (ea151 : a151 = Host.sqrt a150)
    (ecst_16 : cst_16 = constant ⟨0, ![]⟩ .f32 0xBF800000#32)
    (eu5_v0 : u5_v0 = cst_16)
    (eu5_v1 : u5_v1 = broadcastInDim ⟨2, ![8, hw]⟩ ![] f49 u5_v0)
    (ea152 : a152 = select a144 a151 u5_v1)
    (ea153 : a153 = broadcastInDim ⟨3, ![8, hw, 1]⟩ ![0, 1] f35 a152)
    (b : Fin 8) (p : Fin hw) {Q : Prop} (hq : a144 (ix2 b p) = BitVec.ofBool (decide Q)) :
    a153 (ix3 b p 0) = if Q then Ideal.sqrt (centre fun c => a116 (ix3 b p c)) else Ideal.ofBits .f32 0xBF800000#32 := by
  have c0 : a122 (ix2 b p) = a116 (ix3 b p 0) := by
    rw [ea122, cast_32]; pointwise [ea121]
  have c1 : a124 (ix2 b p) = a116 (ix3 b p 2) := by
    rw [ea124, cast_32]; pointwise [ea123]
  have c2 : a127 (ix2 b p) = a116 (ix3 b p 0) := by
    rw [ea127, cast_32]; pointwise [ea126]
  have c3 : a129 (ix2 b p) = a116 (ix3 b p 2) := by
    rw [ea129, cast_32]; pointwise [ea128]
  have c4 : a132 (ix2 b p) = a116 (ix3 b p 1) := by
    rw [ea132, cast_32]; pointwise [ea131]
  have c5 : a134 (ix2 b p) = a116 (ix3 b p 3) := by
    rw [ea134, cast_32]; pointwise [ea133]
  have c6 : a137 (ix2 b p) = a116 (ix3 b p 1) := by
    rw [ea137, cast_32]; pointwise [ea136]
  have c7 : a139 (ix2 b p) = a116 (ix3 b p 3) := by
    rw [ea139, cast_32]; pointwise [ea138]
  have z : a147 (ix2 b p) = Ideal.ofBits .f32 0x2EDBE6FF#32 := by
    pointwise [ea147, ecst_14]
  have q : a149 (ix2 b p) = centre fun c => a116 (ix3 b p c) := by
    rw [ea149, ea145, ea148, ea146, ea125, ea130, ea135, ea140]
    show Ideal.div (min (a122 (ix2 b p)) (a124 (ix2 b p)) * min (a132 (ix2 b p)) (a134 (ix2 b p)))
      (max (a127 (ix2 b p)) (a129 (ix2 b p)) * max (a137 (ix2 b p)) (a139 (ix2 b p)) + a147 (ix2 b p)) = _
    rw [c0, c1, c2, c3, c4, c5, c6, c7, z]
    rfl
  have y : u5_v1 (ix2 b p) = Ideal.ofBits .f32 0xBF800000#32 := by
    rw [eu5_v0] at eu5_v1
    pointwise [eu5_v1, ecst_16]
  have e : a153 (ix3 b p 0) = a152 (ix2 b p) := by
    pointwise [ea153]
    simp [h1]
  rw [e, ea152, ea151, ea150]
  show Scalar.select (a144 (ix2 b p)) (Ideal.sqrt (Scalar.select (a144 (ix2 b p)) (a149 (ix2 b p)) (u4_v1 (ix2 b p))))
    (u5_v1 (ix2 b p)) = _
  rw [hq, select_ofBool, select_ofBool, q, y]
  by_cases h : Q <;> simp only [h, if_true, if_false]

/-- The class entry. -/
theorem classes (h1 : hw ≠ 1)     {a120 u6_v1 a155 : IVec ⟨3, ![8, hw, 1]⟩ 32} {a144 : IVec ⟨2, ![8, hw]⟩ 1} {a154 : IVec ⟨3, ![8, hw, 1]⟩ 1}
    {c_17 u6_v0 : IVec ⟨0, ![]⟩ 32}
    {f35 : (⟨2, ![8, hw]⟩ : Shape).BroadcastsInDim ⟨3, ![8, hw, 1]⟩ ![0, 1]}
    {f36 : (⟨0, ![]⟩ : Shape).BroadcastsInDim ⟨3, ![8, hw, 1]⟩ ![]}
    (ea154 : a154 = broadcastInDim ⟨3, ![8, hw, 1]⟩ ![0, 1] f35 a144)
    (ec_17 : c_17 = constantI ⟨0, ![]⟩ 32 0#32)
    (eu6_v0 : u6_v0 = c_17)
    (eu6_v1 : u6_v1 = broadcastInDim ⟨3, ![8, hw, 1]⟩ ![] f36 u6_v0)
    (ea155 : a155 = select a154 a120 u6_v1)
    (b : Fin 8) (p : Fin hw) {Q : Prop} (hq : a144 (ix2 b p) = BitVec.ofBool (decide Q)) :
    a155 (ix3 b p 0) = if Q then a120 (ix3 b p 0) else 0#32 := by
  have e : a154 (ix3 b p 0) = a144 (ix2 b p) := by
    pointwise [ea154]
    simp [h1]
  have z : u6_v1 (ix3 b p 0) = 0#32 := by
    rw [eu6_v0] at eu6_v1
    pointwise [eu6_v1, ec_17]
  rw [ea155]
  show Scalar.select (a154 (ix3 b p 0)) (a120 (ix3 b p 0)) (u6_v1 (ix3 b p 0)) = _
  rw [e, hq, z, select_ofBool]

/-- The regression entries. -/
theorem regression (h1 : hw ≠ 1)     {a116 u7_v2 a157 : FVec Ideal ⟨3, ![8, hw, 4]⟩ .f32} {a144 : IVec ⟨2, ![8, hw]⟩ 1} {a156 : IVec ⟨3, ![8, hw, 1]⟩ 1}
    {cst_18 u7_v0 : FVec Ideal ⟨0, ![]⟩ .f32} {u7_v1 : IVec ⟨3, ![8, hw, 4]⟩ 1}
    {f35 : (⟨2, ![8, hw]⟩ : Shape).BroadcastsInDim ⟨3, ![8, hw, 1]⟩ ![0, 1]}
    {f50 : (⟨3, ![8, hw, 1]⟩ : Shape).BroadcastsInDim ⟨3, ![8, hw, 4]⟩ ![0, 1, 2]}
    {f51 : (⟨0, ![]⟩ : Shape).BroadcastsInDim ⟨3, ![8, hw, 4]⟩ ![]}
    (ea156 : a156 = broadcastInDim ⟨3, ![8, hw, 1]⟩ ![0, 1] f35 a144)
    (ecst_18 : cst_18 = constant ⟨0, ![]⟩ .f32 0xBF800000#32)
    (eu7_v0 : u7_v0 = cst_18)
    (eu7_v1 : u7_v1 = broadcastInDim ⟨3, ![8, hw, 4]⟩ ![0, 1, 2] f50 a156)
    (eu7_v2 : u7_v2 = broadcastInDim ⟨3, ![8, hw, 4]⟩ ![] f51 u7_v0)
    (ea157 : a157 = select u7_v1 a116 u7_v2)
    (b : Fin 8) (p : Fin hw) (c : Fin 4) {Q : Prop} (hq : a144 (ix2 b p) = BitVec.ofBool (decide Q)) :
    a157 (ix3 b p c) = if Q then a116 (ix3 b p c) else Ideal.ofBits .f32 0xBF800000#32 := by
  have e : u7_v1 (ix3 b p c) = a144 (ix2 b p) := by
    pointwise [eu7_v1, ea156]
    simp [h1]
  have z : u7_v2 (ix3 b p c) = Ideal.ofBits .f32 0xBF800000#32 := by
    rw [eu7_v0] at eu7_v2
    pointwise [eu7_v2, ecst_18]
  rw [ea157]
  show Scalar.select (u7_v1 (ix3 b p c)) (a116 (ix3 b p c)) (u7_v2 (ix3 b p c)) = _
  rw [e, hq, z, select_ofBool]

/-- The place and the constants of a level's grid point, from its words. -/
def pointAt (n : Nat) (S H lo hi ratio : BitVec 32) (p : Nat) : Pt :=
  ⟨place S H (p % n), place S H (p / n), Ideal.ofBits .f32 lo, Ideal.ofBits .f32 hi, Ideal.ofBits .f32 ratio⟩

/-- A box's four sides. -/
def boxAt (g : FVec Ideal ⟨3, ![8, 64, 4]⟩ .f32) (b : Fin 8) (k : Fin 64) : Fin 4 → EReal :=
  ![g (ix3 b k 0), g (ix3 b k 1), g (ix3 b k 2), g (ix3 b k 3)]

/-- The three arrays hold, at every point of a level, the targets of the first box of smallest masked area. -/
def Fits (n hw : Nat) (S H lo hi ratio : BitVec 32) (g : FVec Ideal ⟨3, ![8, 64, 4]⟩ .f32) (l : IVec ⟨2, ![8, 64]⟩ 32)
    (c : IVec ⟨3, ![8, hw, 1]⟩ 32) (z : FVec Ideal ⟨3, ![8, hw, 1]⟩ .f32) (r : FVec Ideal ⟨3, ![8, hw, 4]⟩ .f32) : Prop :=
  ∀ (b : Fin 8) (p : Fin hw), ∃ s, First (fun k => cost (pointAt n S H lo hi ratio p) (boxAt g b k)) s
    ∧ c (ix3 b p 0) = cls (pointAt n S H lo hi ratio p) (boxAt g b) (fun k => l (ix2 b k)) s
    ∧ z (ix3 b p 0) = cen (pointAt n S H lo hi ratio p) (boxAt g b) s
    ∧ ∀ q, r (ix3 b p q) = reg (pointAt n S H lo hi ratio p) (boxAt g b) s q

/-- One level of the reference: at every point, the targets of the first box of smallest masked area. -/
theorem level (hn1 : n ≠ 1) (hn : 0 < n) (hsq : hw = n * n) (h1 : hw ≠ 1) {S H lo hi ratio : BitVec 32}
    {g : FVec Ideal ⟨3, ![8, 64, 4]⟩ .f32} {l : IVec ⟨2, ![8, 64]⟩ 32}
    {T : Prop}
    {a0 a1 a2 a3 a4 a5 a6 a7 a8 a9 : FVec Ideal ⟨1, ![n]⟩ .f32}
    {cst cst_0 cst_1 cst_2 cst_3 cst_4 cst_5 cst_6 cst_7 cst_8 cst_9 cst_10 cst_11 cst_12 u0_v0 u1_cst u2_cst cst_14 cst_15 u4_v0 cst_16 u5_v0 cst_18 u7_v0 : FVec Ideal ⟨0, ![]⟩ .f32}
    {a10 a11 : FVec Ideal ⟨2, ![n, n]⟩ .f32} {a12 a13 : FVec Ideal ⟨1, ![hw]⟩ .f32}
    {a14 a21 a31 a38 a81 a86 a92 a97 : FVec Ideal ⟨3, ![1, hw, 1]⟩ .f32}
    {a15 a22 a28 a35 a67 a69 a74 a76 : FVec Ideal ⟨3, ![8, 64, 1]⟩ .f32}
    {a16 a23 a29 a36 a68 a70 a71 a72 a73 a75 a77 a78 a79 a80 : FVec Ideal ⟨2, ![8, 64]⟩ .f32}
    {a17 a24 a30 a37 a82 a87 a91 a96 : FVec Ideal ⟨3, ![8, 1, 64]⟩ .f32}
    {a18 a19 a20 a25 a26 a27 a32 a33 a34 a39 a40 a41 a48 a50 a51 a53 a55 a56 a57 a58 a59 a60 a62 a64 a83 a84 a85 a88 a89 a90 a93 a94 a95 a98 a99 a100 a106 a107 u0_v1 a111 : FVec Ideal ⟨3, ![8, hw, 64]⟩ .f32}
    {a42 a43 a44 a45 a47 a49 a52 a54 a101 a102 a103 a104 : FVec Ideal ⟨4, ![8, hw, 64, 1]⟩ .f32}
    {a46 a105 : FVec Ideal ⟨4, ![8, hw, 64, 4]⟩ .f32} {a61 a63 a65 a66 a108 a109 a110 : IVec ⟨3, ![8, hw, 64]⟩ 1}
    {u1_v0 a118 a141 : IVec ⟨3, ![8, hw, 64]⟩ 32}
    {u1_c u2_c u2_c_0 u2_c_2 u3_c u3_c_0 u3_c_2 u3_c_4 c c_13 c_17 u6_v0 : IVec ⟨0, ![]⟩ 32}
    {u1_v1_0 a122 a124 a125 a127 a129 a130 a132 a134 a135 a137 a139 a140 a145 a146 a147 a148 a149 u4_v1 a150 a151 u5_v1 a152 : FVec Ideal ⟨2, ![8, hw]⟩ .f32}
    {a112 a142 a143 : IVec ⟨2, ![8, hw]⟩ 32} {a113 u3_v5 u3_v6 u3_v9 : IVec ⟨4, ![8, hw, 1, 1]⟩ 32}
    {a114 u2_v0 u2_v2 u2_v3 u2_v4 : IVec ⟨4, ![8, hw, 1, 4]⟩ 32} {u2_v1 u2_v12 : IVec ⟨4, ![8, hw, 1, 4]⟩ 1}
    {u2_v5 u2_v6 u2_v9 : IVec ⟨5, ![8, hw, 1, 4, 1]⟩ 32} {u2_c_1 u3_c_1 : IVec ⟨1, ![1]⟩ 32}
    {u2_v7 u2_v10 u2_v11 : IVec ⟨5, ![8, hw, 1, 4, 1]⟩ 1} {u2_v8 : IVec ⟨5, ![1, 1, 1, 1, 1]⟩ 32}
    {u2_c_3 u3_c_3 : IVec ⟨0, ![]⟩ 1} {u2_v13 u2_v14 a115 : FVec Ideal ⟨4, ![8, hw, 1, 4]⟩ .f32}
    {a116 u7_v2 a157 : FVec Ideal ⟨3, ![8, hw, 4]⟩ .f32} {a117 : IVec ⟨3, ![8, 1, 64]⟩ 32}
    {a119 u3_v0 u3_v2 u3_v3 u3_v4 u3_v13 u3_v14 a120 u6_v1 a155 : IVec ⟨3, ![8, hw, 1]⟩ 32}
    {u3_v1 u3_v12 a154 a156 : IVec ⟨3, ![8, hw, 1]⟩ 1} {u3_v7 u3_v10 u3_v11 : IVec ⟨4, ![8, hw, 1, 1]⟩ 1}
    {u3_v8 : IVec ⟨4, ![1, 1, 1, 1]⟩ 32} {a121 a123 a126 a128 a131 a133 a136 a138 a153 : FVec Ideal ⟨3, ![8, hw, 1]⟩ .f32}
    {a144 : IVec ⟨2, ![8, hw]⟩ 1} {u7_v1 : IVec ⟨3, ![8, hw, 4]⟩ 1}
    {f0 : (⟨0, ![]⟩ : Shape).BroadcastsInDim ⟨1, ![n]⟩ ![]} {f1 : (⟨1, ![n]⟩ : Shape).BroadcastsInDim ⟨2, ![n, n]⟩ ![0]}
    {f2 : (⟨1, ![n]⟩ : Shape).BroadcastsInDim ⟨2, ![n, n]⟩ ![1]} {f3 : (⟨2, ![n, n]⟩ : Shape).ShapeCasts ⟨1, ![hw]⟩}
    {f4 : (⟨1, ![hw]⟩ : Shape).BroadcastsInDim ⟨3, ![1, hw, 1]⟩ ![1]}
    {f5 : (⟨3, ![8, 64, 4]⟩ : Shape).Slices ![0, 0, 0] ⟨3, ![8, 64, 1]⟩}
    {f6 : (⟨3, ![8, 64, 1]⟩ : Shape).ShapeCasts ⟨2, ![8, 64]⟩}
    {f7 : (⟨2, ![8, 64]⟩ : Shape).BroadcastsInDim ⟨3, ![8, 1, 64]⟩ ![0, 2]}
    {f8 : (⟨3, ![1, hw, 1]⟩ : Shape).BroadcastsInDim ⟨3, ![8, hw, 64]⟩ ![0, 1, 2]}
    {f9 : (⟨3, ![8, 1, 64]⟩ : Shape).BroadcastsInDim ⟨3, ![8, hw, 64]⟩ ![0, 1, 2]}
    {f10 : (⟨3, ![8, 64, 4]⟩ : Shape).Slices ![0, 0, 1] ⟨3, ![8, 64, 1]⟩}
    {f11 : (⟨3, ![8, 64, 4]⟩ : Shape).Slices ![0, 0, 2] ⟨3, ![8, 64, 1]⟩}
    {f12 : (⟨3, ![8, 64, 4]⟩ : Shape).Slices ![0, 0, 3] ⟨3, ![8, 64, 1]⟩}
    {f13 : (⟨3, ![8, hw, 64]⟩ : Shape).BroadcastsInDim ⟨4, ![8, hw, 64, 1]⟩ ![0, 1, 2]}
    {f14 : Shape.Concatenates [⟨4, ![8, hw, 64, 1]⟩, ⟨4, ![8, hw, 64, 1]⟩, ⟨4, ![8, hw, 64, 1]⟩, ⟨4, ![8, hw, 64, 1]⟩] ⟨4, ![8, hw, 64, 4]⟩ 3}
    {f15 : (⟨4, ![8, hw, 64, 4]⟩ : Shape).Slices ![0, 0, 0, 0] ⟨4, ![8, hw, 64, 1]⟩}
    {f16 : (⟨4, ![8, hw, 64, 1]⟩ : Shape).ShapeCasts ⟨3, ![8, hw, 64]⟩}
    {f17 : (⟨4, ![8, hw, 64, 4]⟩ : Shape).Slices ![0, 0, 0, 2] ⟨4, ![8, hw, 64, 1]⟩}
    {f18 : (⟨4, ![8, hw, 64, 4]⟩ : Shape).Slices ![0, 0, 0, 1] ⟨4, ![8, hw, 64, 1]⟩}
    {f19 : (⟨4, ![8, hw, 64, 4]⟩ : Shape).Slices ![0, 0, 0, 3] ⟨4, ![8, hw, 64, 1]⟩}
    {f20 : (⟨4, ![8, hw, 64, 4]⟩ : Shape).ReducesTo [3] ⟨3, ![8, hw, 64]⟩} {f21 : 0 < (⟨0, ![]⟩ : Shape).numel}
    {f22 : (⟨0, ![]⟩ : Shape).BroadcastsInDim ⟨3, ![8, hw, 64]⟩ ![]}
    {f23 : (⟨0, ![]⟩ : Shape).BroadcastsInDim ⟨2, ![8, 64]⟩ ![]}
    {f24 : (⟨3, ![8, hw, 64]⟩ : Shape).ReducesTo [2] ⟨2, ![8, hw]⟩}
    {f25 : (⟨2, ![8, hw]⟩ : Shape).BroadcastsInDim ⟨4, ![8, hw, 1, 1]⟩ ![0, 1]}
    {f26 : (⟨4, ![8, hw, 1, 1]⟩ : Shape).BroadcastsInDim ⟨4, ![8, hw, 1, 4]⟩ ![0, 1, 2, 3]}
    {f27 : (⟨0, ![]⟩ : Shape).BroadcastsInDim ⟨4, ![8, hw, 1, 4]⟩ ![]}
    {f28 : (⟨4, ![8, hw, 1, 4]⟩ : Shape).ShapeCasts ⟨5, ![8, hw, 1, 4, 1]⟩}
    {f29 : (⟨0, ![]⟩ : Shape).BroadcastsInDim ⟨5, ![8, hw, 1, 4, 1]⟩ ![]}
    {f30 : (⟨1, ![1]⟩ : Shape).BroadcastsInDim ⟨5, ![1, 1, 1, 1, 1]⟩ ![4]}
    {f31 : (⟨5, ![1, 1, 1, 1, 1]⟩ : Shape).BroadcastsInDim ⟨5, ![8, hw, 1, 4, 1]⟩ ![0, 1, 2, 3, 4]}
    {f32 : (⟨5, ![8, hw, 1, 4, 1]⟩ : Shape).ReducesTo [4] ⟨4, ![8, hw, 1, 4]⟩}
    {f33 : GatherDims.WF ⟨4, ![8, hw, 64, 4]⟩ ⟨5, ![8, hw, 1, 4, 1]⟩ ⟨4, ![8, hw, 1, 4]⟩ [] [2] [0, 1, 3] [2] [0, 1, 3] 4 ![1, 1, 1, 1]}
    {f34 : (⟨4, ![8, hw, 1, 4]⟩ : Shape).ShapeCasts ⟨3, ![8, hw, 4]⟩}
    {f35 : (⟨2, ![8, hw]⟩ : Shape).BroadcastsInDim ⟨3, ![8, hw, 1]⟩ ![0, 1]}
    {f36 : (⟨0, ![]⟩ : Shape).BroadcastsInDim ⟨3, ![8, hw, 1]⟩ ![]}
    {f37 : (⟨3, ![8, hw, 1]⟩ : Shape).ShapeCasts ⟨4, ![8, hw, 1, 1]⟩}
    {f38 : (⟨0, ![]⟩ : Shape).BroadcastsInDim ⟨4, ![8, hw, 1, 1]⟩ ![]}
    {f39 : (⟨1, ![1]⟩ : Shape).BroadcastsInDim ⟨4, ![1, 1, 1, 1]⟩ ![3]}
    {f40 : (⟨4, ![1, 1, 1, 1]⟩ : Shape).BroadcastsInDim ⟨4, ![8, hw, 1, 1]⟩ ![0, 1, 2, 3]}
    {f41 : (⟨4, ![8, hw, 1, 1]⟩ : Shape).ReducesTo [3] ⟨3, ![8, hw, 1]⟩}
    {f42 : GatherDims.WF ⟨3, ![8, hw, 64]⟩ ⟨4, ![8, hw, 1, 1]⟩ ⟨3, ![8, hw, 1]⟩ [] [2] [0, 1] [2] [0, 1] 3 ![1, 1, 1]}
    {f43 : (⟨3, ![8, hw, 4]⟩ : Shape).Slices ![0, 0, 0] ⟨3, ![8, hw, 1]⟩}
    {f44 : (⟨3, ![8, hw, 1]⟩ : Shape).ShapeCasts ⟨2, ![8, hw]⟩}
    {f45 : (⟨3, ![8, hw, 4]⟩ : Shape).Slices ![0, 0, 2] ⟨3, ![8, hw, 1]⟩}
    {f46 : (⟨3, ![8, hw, 4]⟩ : Shape).Slices ![0, 0, 1] ⟨3, ![8, hw, 1]⟩}
    {f47 : (⟨3, ![8, hw, 4]⟩ : Shape).Slices ![0, 0, 3] ⟨3, ![8, hw, 1]⟩} {f48 : 1 < 32}
    {f49 : (⟨0, ![]⟩ : Shape).BroadcastsInDim ⟨2, ![8, hw]⟩ ![]}
    {f50 : (⟨3, ![8, hw, 1]⟩ : Shape).BroadcastsInDim ⟨3, ![8, hw, 4]⟩ ![0, 1, 2]}
    {f51 : (⟨0, ![]⟩ : Shape).BroadcastsInDim ⟨3, ![8, hw, 4]⟩ ![]}
    (h : a0 = sitofp .f32 (iotaInDim ⟨1, ![n]⟩ 32 0) ∧
      cst = constant ⟨0, ![]⟩ .f32 S ∧
      a1 = broadcastInDim ⟨1, ![n]⟩ ![] f0 cst ∧
      a2 = mulf a0 a1 ∧
      cst_0 = constant ⟨0, ![]⟩ .f32 H ∧
      a3 = broadcastInDim ⟨1, ![n]⟩ ![] f0 cst_0 ∧
      a4 = addf a2 a3 ∧
      a5 = sitofp .f32 (iotaInDim ⟨1, ![n]⟩ 32 0) ∧
      cst_1 = constant ⟨0, ![]⟩ .f32 S ∧
      a6 = broadcastInDim ⟨1, ![n]⟩ ![] f0 cst_1 ∧
      a7 = mulf a5 a6 ∧
      cst_2 = constant ⟨0, ![]⟩ .f32 H ∧
      a8 = broadcastInDim ⟨1, ![n]⟩ ![] f0 cst_2 ∧
      a9 = addf a7 a8 ∧
      a10 = broadcastInDim ⟨2, ![n, n]⟩ ![0] f1 a9 ∧
      a11 = broadcastInDim ⟨2, ![n, n]⟩ ![1] f2 a4 ∧
      a12 = shapeCast ⟨1, ![hw]⟩ a11 f3 ∧
      a13 = shapeCast ⟨1, ![hw]⟩ a10 f3 ∧
      a14 = broadcastInDim ⟨3, ![1, hw, 1]⟩ ![1] f4 a12 ∧
      a15 = extractStridedSlice ⟨3, ![8, 64, 1]⟩ ![0, 0, 0] g f5 ∧
      a16 = shapeCast ⟨2, ![8, 64]⟩ a15 f6 ∧
      a17 = broadcastInDim ⟨3, ![8, 1, 64]⟩ ![0, 2] f7 a16 ∧
      a18 = broadcastInDim ⟨3, ![8, hw, 64]⟩ ![0, 1, 2] f8 a14 ∧
      a19 = broadcastInDim ⟨3, ![8, hw, 64]⟩ ![0, 1, 2] f9 a17 ∧
      a20 = subf a18 a19 ∧
      a21 = broadcastInDim ⟨3, ![1, hw, 1]⟩ ![1] f4 a13 ∧
      a22 = extractStridedSlice ⟨3, ![8, 64, 1]⟩ ![0, 0, 1] g f10 ∧
      a23 = shapeCast ⟨2, ![8, 64]⟩ a22 f6 ∧
      a24 = broadcastInDim ⟨3, ![8, 1, 64]⟩ ![0, 2] f7 a23 ∧
      a25 = broadcastInDim ⟨3, ![8, hw, 64]⟩ ![0, 1, 2] f8 a21 ∧
      a26 = broadcastInDim ⟨3, ![8, hw, 64]⟩ ![0, 1, 2] f9 a24 ∧
      a27 = subf a25 a26 ∧
      a28 = extractStridedSlice ⟨3, ![8, 64, 1]⟩ ![0, 0, 2] g f11 ∧
      a29 = shapeCast ⟨2, ![8, 64]⟩ a28 f6 ∧
      a30 = broadcastInDim ⟨3, ![8, 1, 64]⟩ ![0, 2] f7 a29 ∧
      a31 = broadcastInDim ⟨3, ![1, hw, 1]⟩ ![1] f4 a12 ∧
      a32 = broadcastInDim ⟨3, ![8, hw, 64]⟩ ![0, 1, 2] f9 a30 ∧
      a33 = broadcastInDim ⟨3, ![8, hw, 64]⟩ ![0, 1, 2] f8 a31 ∧
      a34 = subf a32 a33 ∧
      a35 = extractStridedSlice ⟨3, ![8, 64, 1]⟩ ![0, 0, 3] g f12 ∧
      a36 = shapeCast ⟨2, ![8, 64]⟩ a35 f6 ∧
      a37 = broadcastInDim ⟨3, ![8, 1, 64]⟩ ![0, 2] f7 a36 ∧
      a38 = broadcastInDim ⟨3, ![1, hw, 1]⟩ ![1] f4 a13 ∧
      a39 = broadcastInDim ⟨3, ![8, hw, 64]⟩ ![0, 1, 2] f9 a37 ∧
      a40 = broadcastInDim ⟨3, ![8, hw, 64]⟩ ![0, 1, 2] f8 a38 ∧
      a41 = subf a39 a40 ∧
      a42 = broadcastInDim ⟨4, ![8, hw, 64, 1]⟩ ![0, 1, 2] f13 a20 ∧
      a43 = broadcastInDim ⟨4, ![8, hw, 64, 1]⟩ ![0, 1, 2] f13 a27 ∧
      a44 = broadcastInDim ⟨4, ![8, hw, 64, 1]⟩ ![0, 1, 2] f13 a34 ∧
      a45 = broadcastInDim ⟨4, ![8, hw, 64, 1]⟩ ![0, 1, 2] f13 a41 ∧
      a46 = concatenate ⟨4, ![8, hw, 64, 4]⟩ 3 [⟨⟨4, ![8, hw, 64, 1]⟩, a42⟩, ⟨⟨4, ![8, hw, 64, 1]⟩, a43⟩, ⟨⟨4, ![8, hw, 64, 1]⟩, a44⟩, ⟨⟨4, ![8, hw, 64, 1]⟩, a45⟩] f14 ∧
      a47 = extractStridedSlice ⟨4, ![8, hw, 64, 1]⟩ ![0, 0, 0, 0] a46 f15 ∧
      a48 = shapeCast ⟨3, ![8, hw, 64]⟩ a47 f16 ∧
      a49 = extractStridedSlice ⟨4, ![8, hw, 64, 1]⟩ ![0, 0, 0, 2] a46 f17 ∧
      a50 = shapeCast ⟨3, ![8, hw, 64]⟩ a49 f16 ∧
      a51 = addf a48 a50 ∧
      a52 = extractStridedSlice ⟨4, ![8, hw, 64, 1]⟩ ![0, 0, 0, 1] a46 f18 ∧
      a53 = shapeCast ⟨3, ![8, hw, 64]⟩ a52 f16 ∧
      a54 = extractStridedSlice ⟨4, ![8, hw, 64, 1]⟩ ![0, 0, 0, 3] a46 f19 ∧
      a55 = shapeCast ⟨3, ![8, hw, 64]⟩ a54 f16 ∧
      a56 = addf a53 a55 ∧
      a57 = mulf a51 a56 ∧
      cst_3 = constant ⟨0, ![]⟩ .f32 0x7F800000#32 ∧
      a58 = Host.reduce (FloatOps.minimumf (F := Ideal) (φ := .f32)) a46 cst_3 f20 f21 ∧
      cst_4 = constant ⟨0, ![]⟩ .f32 0xFF800000#32 ∧
      a59 = Host.reduce (FloatOps.maximumf (F := Ideal) (φ := .f32)) a46 cst_4 f20 f21 ∧
      cst_5 = constant ⟨0, ![]⟩ .f32 0x00000000#32 ∧
      a60 = broadcastInDim ⟨3, ![8, hw, 64]⟩ ![] f22 cst_5 ∧
      a61 = cmpf .ogt a58 a60 ∧
      cst_6 = constant ⟨0, ![]⟩ .f32 lo ∧
      a62 = broadcastInDim ⟨3, ![8, hw, 64]⟩ ![] f22 cst_6 ∧
      a63 = cmpf .ogt a59 a62 ∧
      cst_7 = constant ⟨0, ![]⟩ .f32 hi ∧
      a64 = broadcastInDim ⟨3, ![8, hw, 64]⟩ ![] f22 cst_7 ∧
      a65 = cmpf .ole a59 a64 ∧
      a66 = andi a63 a65 ∧
      a67 = extractStridedSlice ⟨3, ![8, 64, 1]⟩ ![0, 0, 0] g f5 ∧
      a68 = shapeCast ⟨2, ![8, 64]⟩ a67 f6 ∧
      a69 = extractStridedSlice ⟨3, ![8, 64, 1]⟩ ![0, 0, 2] g f11 ∧
      a70 = shapeCast ⟨2, ![8, 64]⟩ a69 f6 ∧
      a71 = addf a68 a70 ∧
      cst_8 = constant ⟨0, ![]⟩ .f32 0x40000000#32 ∧
      a72 = broadcastInDim ⟨2, ![8, 64]⟩ ![] f23 cst_8 ∧
      a73 = Host.divf a71 a72 ∧
      a74 = extractStridedSlice ⟨3, ![8, 64, 1]⟩ ![0, 0, 1] g f10 ∧
      a75 = shapeCast ⟨2, ![8, 64]⟩ a74 f6 ∧
      a76 = extractStridedSlice ⟨3, ![8, 64, 1]⟩ ![0, 0, 3] g f12 ∧
      a77 = shapeCast ⟨2, ![8, 64]⟩ a76 f6 ∧
      a78 = addf a75 a77 ∧
      cst_9 = constant ⟨0, ![]⟩ .f32 0x40000000#32 ∧
      a79 = broadcastInDim ⟨2, ![8, 64]⟩ ![] f23 cst_9 ∧
      a80 = Host.divf a78 a79 ∧
      a81 = broadcastInDim ⟨3, ![1, hw, 1]⟩ ![1] f4 a12 ∧
      a82 = broadcastInDim ⟨3, ![8, 1, 64]⟩ ![0, 2] f7 a73 ∧
      a83 = broadcastInDim ⟨3, ![8, hw, 64]⟩ ![0, 1, 2] f8 a81 ∧
      a84 = broadcastInDim ⟨3, ![8, hw, 64]⟩ ![0, 1, 2] f9 a82 ∧
      a85 = subf a83 a84 ∧
      a86 = broadcastInDim ⟨3, ![1, hw, 1]⟩ ![1] f4 a13 ∧
      a87 = broadcastInDim ⟨3, ![8, 1, 64]⟩ ![0, 2] f7 a80 ∧
      a88 = broadcastInDim ⟨3, ![8, hw, 64]⟩ ![0, 1, 2] f8 a86 ∧
      a89 = broadcastInDim ⟨3, ![8, hw, 64]⟩ ![0, 1, 2] f9 a87 ∧
      a90 = subf a88 a89 ∧
      a91 = broadcastInDim ⟨3, ![8, 1, 64]⟩ ![0, 2] f7 a73 ∧
      a92 = broadcastInDim ⟨3, ![1, hw, 1]⟩ ![1] f4 a12 ∧
      a93 = broadcastInDim ⟨3, ![8, hw, 64]⟩ ![0, 1, 2] f9 a91 ∧
      a94 = broadcastInDim ⟨3, ![8, hw, 64]⟩ ![0, 1, 2] f8 a92 ∧
      a95 = subf a93 a94 ∧
      a96 = broadcastInDim ⟨3, ![8, 1, 64]⟩ ![0, 2] f7 a80 ∧
      a97 = broadcastInDim ⟨3, ![1, hw, 1]⟩ ![1] f4 a13 ∧
      a98 = broadcastInDim ⟨3, ![8, hw, 64]⟩ ![0, 1, 2] f9 a96 ∧
      a99 = broadcastInDim ⟨3, ![8, hw, 64]⟩ ![0, 1, 2] f8 a97 ∧
      a100 = subf a98 a99 ∧
      a101 = broadcastInDim ⟨4, ![8, hw, 64, 1]⟩ ![0, 1, 2] f13 a85 ∧
      a102 = broadcastInDim ⟨4, ![8, hw, 64, 1]⟩ ![0, 1, 2] f13 a90 ∧
      a103 = broadcastInDim ⟨4, ![8, hw, 64, 1]⟩ ![0, 1, 2] f13 a95 ∧
      a104 = broadcastInDim ⟨4, ![8, hw, 64, 1]⟩ ![0, 1, 2] f13 a100 ∧
      a105 = concatenate ⟨4, ![8, hw, 64, 4]⟩ 3 [⟨⟨4, ![8, hw, 64, 1]⟩, a101⟩, ⟨⟨4, ![8, hw, 64, 1]⟩, a102⟩, ⟨⟨4, ![8, hw, 64, 1]⟩, a103⟩, ⟨⟨4, ![8, hw, 64, 1]⟩, a104⟩] f14 ∧
      cst_10 = constant ⟨0, ![]⟩ .f32 0xFF800000#32 ∧
      a106 = Host.reduce (FloatOps.maximumf (F := Ideal) (φ := .f32)) a105 cst_10 f20 f21 ∧
      cst_11 = constant ⟨0, ![]⟩ .f32 ratio ∧
      a107 = broadcastInDim ⟨3, ![8, hw, 64]⟩ ![] f22 cst_11 ∧
      a108 = cmpf .olt a106 a107 ∧
      a109 = andi a61 a66 ∧
      a110 = andi a109 a108 ∧
      cst_12 = constant ⟨0, ![]⟩ .f32 0x4CBEBC20#32 ∧
      u0_v0 = cst_12 ∧
      u0_v1 = broadcastInDim ⟨3, ![8, hw, 64]⟩ ![] f22 u0_v0 ∧
      a111 = select a110 a57 u0_v1 ∧
      u1_v0 = iotaInDim ⟨3, ![8, hw, 64]⟩ 32 2 ∧
      u1_cst = constant ⟨0, ![]⟩ .f32 0x7F800000#32 ∧
      u1_c = constantI ⟨0, ![]⟩ 32 0#32 ∧
      u1_v1_0 = (fun j => (Host.argReduce (Cert.ReferenceIdeal.reducer_argmin_f32_i32 (F := Ideal)) a111 u1_v0 u1_cst u1_c f24 f21 j).1) ∧
      a112 = (fun j => (Host.argReduce (Cert.ReferenceIdeal.reducer_argmin_f32_i32 (F := Ideal)) a111 u1_v0 u1_cst u1_c f24 f21 j).2) ∧
      a113 = broadcastInDim ⟨4, ![8, hw, 1, 1]⟩ ![0, 1] f25 a112 ∧
      a114 = broadcastInDim ⟨4, ![8, hw, 1, 4]⟩ ![0, 1, 2, 3] f26 a113 ∧
      u2_c = constantI ⟨0, ![]⟩ 32 0#32 ∧
      u2_v0 = broadcastInDim ⟨4, ![8, hw, 1, 4]⟩ ![] f27 u2_c ∧
      u2_v1 = cmpi .slt a114 u2_v0 ∧
      u2_c_0 = constantI ⟨0, ![]⟩ 32 64#32 ∧
      u2_v2 = broadcastInDim ⟨4, ![8, hw, 1, 4]⟩ ![] f27 u2_c_0 ∧
      u2_v3 = addi a114 u2_v2 ∧
      u2_v4 = select u2_v1 u2_v3 a114 ∧
      u2_v5 = shapeCast ⟨5, ![8, hw, 1, 4, 1]⟩ u2_v4 f28 ∧
      u2_c_1 = constantI ⟨1, ![1]⟩ 32 63#32 ∧
      u2_c_2 = constantI ⟨0, ![]⟩ 32 0#32 ∧
      u2_v6 = broadcastInDim ⟨5, ![8, hw, 1, 4, 1]⟩ ![] f29 u2_c_2 ∧
      u2_v7 = cmpi .sge u2_v5 u2_v6 ∧
      u2_v8 = broadcastInDim ⟨5, ![1, 1, 1, 1, 1]⟩ ![4] f30 u2_c_1 ∧
      u2_v9 = broadcastInDim ⟨5, ![8, hw, 1, 4, 1]⟩ ![0, 1, 2, 3, 4] f31 u2_v8 ∧
      u2_v10 = cmpi .sle u2_v5 u2_v9 ∧
      u2_v11 = andi u2_v7 u2_v10 ∧
      u2_c_3 = constantI ⟨0, ![]⟩ 1 1#1 ∧
      u2_v12 = Host.reduce IntOp.andi u2_v11 u2_c_3 f32 f21 ∧
      u2_v13 = Host.gather (⟨[], [2], [0, 1, 3], [0, 1, 3], [2], 4, ![1, 1, 1, 1], f33⟩ : GatherDims _ _ _) a46 u2_v5 ∧
      u2_cst = constant ⟨0, ![]⟩ .f32 0x7FC00000#32 ∧
      u2_v14 = broadcastInDim ⟨4, ![8, hw, 1, 4]⟩ ![] f27 u2_cst ∧
      a115 = select u2_v12 u2_v13 u2_v14 ∧
      a116 = shapeCast ⟨3, ![8, hw, 4]⟩ a115 f34 ∧
      a117 = broadcastInDim ⟨3, ![8, 1, 64]⟩ ![0, 2] f7 l ∧
      a118 = broadcastInDim ⟨3, ![8, hw, 64]⟩ ![0, 1, 2] f9 a117 ∧
      a119 = broadcastInDim ⟨3, ![8, hw, 1]⟩ ![0, 1] f35 a112 ∧
      u3_c = constantI ⟨0, ![]⟩ 32 0#32 ∧
      u3_v0 = broadcastInDim ⟨3, ![8, hw, 1]⟩ ![] f36 u3_c ∧
      u3_v1 = cmpi .slt a119 u3_v0 ∧
      u3_c_0 = constantI ⟨0, ![]⟩ 32 64#32 ∧
      u3_v2 = broadcastInDim ⟨3, ![8, hw, 1]⟩ ![] f36 u3_c_0 ∧
      u3_v3 = addi a119 u3_v2 ∧
      u3_v4 = select u3_v1 u3_v3 a119 ∧
      u3_v5 = shapeCast ⟨4, ![8, hw, 1, 1]⟩ u3_v4 f37 ∧
      u3_c_1 = constantI ⟨1, ![1]⟩ 32 63#32 ∧
      u3_c_2 = constantI ⟨0, ![]⟩ 32 0#32 ∧
      u3_v6 = broadcastInDim ⟨4, ![8, hw, 1, 1]⟩ ![] f38 u3_c_2 ∧
      u3_v7 = cmpi .sge u3_v5 u3_v6 ∧
      u3_v8 = broadcastInDim ⟨4, ![1, 1, 1, 1]⟩ ![3] f39 u3_c_1 ∧
      u3_v9 = broadcastInDim ⟨4, ![8, hw, 1, 1]⟩ ![0, 1, 2, 3] f40 u3_v8 ∧
      u3_v10 = cmpi .sle u3_v5 u3_v9 ∧
      u3_v11 = andi u3_v7 u3_v10 ∧
      u3_c_3 = constantI ⟨0, ![]⟩ 1 1#1 ∧
      u3_v12 = Host.reduce IntOp.andi u3_v11 u3_c_3 f41 f21 ∧
      u3_v13 = Host.gather (⟨[], [2], [0, 1], [0, 1], [2], 3, ![1, 1, 1], f42⟩ : GatherDims _ _ _) a118 u3_v5 ∧
      u3_c_4 = constantI ⟨0, ![]⟩ 32 2147483648#32 ∧
      u3_v14 = broadcastInDim ⟨3, ![8, hw, 1]⟩ ![] f36 u3_c_4 ∧
      a120 = select u3_v12 u3_v13 u3_v14 ∧
      a121 = extractStridedSlice ⟨3, ![8, hw, 1]⟩ ![0, 0, 0] a116 f43 ∧
      a122 = shapeCast ⟨2, ![8, hw]⟩ a121 f44 ∧
      a123 = extractStridedSlice ⟨3, ![8, hw, 1]⟩ ![0, 0, 2] a116 f45 ∧
      a124 = shapeCast ⟨2, ![8, hw]⟩ a123 f44 ∧
      a125 = minimumf a122 a124 ∧
      a126 = extractStridedSlice ⟨3, ![8, hw, 1]⟩ ![0, 0, 0] a116 f43 ∧
      a127 = shapeCast ⟨2, ![8, hw]⟩ a126 f44 ∧
      a128 = extractStridedSlice ⟨3, ![8, hw, 1]⟩ ![0, 0, 2] a116 f45 ∧
      a129 = shapeCast ⟨2, ![8, hw]⟩ a128 f44 ∧
      a130 = maximumf a127 a129 ∧
      a131 = extractStridedSlice ⟨3, ![8, hw, 1]⟩ ![0, 0, 1] a116 f46 ∧
      a132 = shapeCast ⟨2, ![8, hw]⟩ a131 f44 ∧
      a133 = extractStridedSlice ⟨3, ![8, hw, 1]⟩ ![0, 0, 3] a116 f47 ∧
      a134 = shapeCast ⟨2, ![8, hw]⟩ a133 f44 ∧
      a135 = minimumf a132 a134 ∧
      a136 = extractStridedSlice ⟨3, ![8, hw, 1]⟩ ![0, 0, 1] a116 f46 ∧
      a137 = shapeCast ⟨2, ![8, hw]⟩ a136 f44 ∧
      a138 = extractStridedSlice ⟨3, ![8, hw, 1]⟩ ![0, 0, 3] a116 f47 ∧
      a139 = shapeCast ⟨2, ![8, hw]⟩ a138 f44 ∧
      a140 = maximumf a137 a139 ∧
      a141 = extui 32 a110 f48 ∧
      c = constantI ⟨0, ![]⟩ 32 0#32 ∧
      a142 = Host.reduce IntOp.addi a141 c f24 f21 ∧
      c_13 = constantI ⟨0, ![]⟩ 32 1#32 ∧
      a143 = broadcastInDim ⟨2, ![8, hw]⟩ ![] f49 c_13 ∧
      a144 = cmpi .sge a142 a143 ∧
      a145 = mulf a125 a135 ∧
      a146 = mulf a130 a140 ∧
      cst_14 = constant ⟨0, ![]⟩ .f32 0x2EDBE6FF#32 ∧
      a147 = broadcastInDim ⟨2, ![8, hw]⟩ ![] f49 cst_14 ∧
      a148 = addf a146 a147 ∧
      a149 = Host.divf a145 a148 ∧
      cst_15 = constant ⟨0, ![]⟩ .f32 0x3F800000#32 ∧
      u4_v0 = cst_15 ∧
      u4_v1 = broadcastInDim ⟨2, ![8, hw]⟩ ![] f49 u4_v0 ∧
      a150 = select a144 a149 u4_v1 ∧
      a151 = Host.sqrt a150 ∧
      cst_16 = constant ⟨0, ![]⟩ .f32 0xBF800000#32 ∧
      u5_v0 = cst_16 ∧
      u5_v1 = broadcastInDim ⟨2, ![8, hw]⟩ ![] f49 u5_v0 ∧
      a152 = select a144 a151 u5_v1 ∧
      a153 = broadcastInDim ⟨3, ![8, hw, 1]⟩ ![0, 1] f35 a152 ∧
      a154 = broadcastInDim ⟨3, ![8, hw, 1]⟩ ![0, 1] f35 a144 ∧
      c_17 = constantI ⟨0, ![]⟩ 32 0#32 ∧
      u6_v0 = c_17 ∧
      u6_v1 = broadcastInDim ⟨3, ![8, hw, 1]⟩ ![] f36 u6_v0 ∧
      a155 = select a154 a120 u6_v1 ∧
      a156 = broadcastInDim ⟨3, ![8, hw, 1]⟩ ![0, 1] f35 a144 ∧
      cst_18 = constant ⟨0, ![]⟩ .f32 0xBF800000#32 ∧
      u7_v0 = cst_18 ∧
      u7_v1 = broadcastInDim ⟨3, ![8, hw, 4]⟩ ![0, 1, 2] f50 a156 ∧
      u7_v2 = broadcastInDim ⟨3, ![8, hw, 4]⟩ ![] f51 u7_v0 ∧
      a157 = select u7_v1 a116 u7_v2 ∧
      T) :
    Fits n hw S H lo hi ratio g l a155 a153 a157 ∧ T := by
  revert h
  refine And.elim fun ea0 => And.elim fun ecst => And.elim fun ea1 => And.elim fun ea2 => And.elim fun ecst_0 =>
    And.elim fun ea3 => And.elim fun ea4 => And.elim fun ea5 => And.elim fun ecst_1 => And.elim fun ea6 =>
    And.elim fun ea7 => And.elim fun ecst_2 => And.elim fun ea8 => And.elim fun ea9 => And.elim fun ea10 =>
    And.elim fun ea11 => And.elim fun ea12 => And.elim fun ea13 => And.elim fun ea14 => And.elim fun ea15 =>
    And.elim fun ea16 => And.elim fun ea17 => And.elim fun ea18 => And.elim fun ea19 => And.elim fun ea20 =>
    And.elim fun ea21 => And.elim fun ea22 => And.elim fun ea23 => And.elim fun ea24 => And.elim fun ea25 =>
    And.elim fun ea26 => And.elim fun ea27 => And.elim fun ea28 => And.elim fun ea29 => And.elim fun ea30 =>
    And.elim fun ea31 => And.elim fun ea32 => And.elim fun ea33 => And.elim fun ea34 => And.elim fun ea35 =>
    And.elim fun ea36 => And.elim fun ea37 => And.elim fun ea38 => And.elim fun ea39 => And.elim fun ea40 =>
    And.elim fun ea41 => And.elim fun ea42 => And.elim fun ea43 => And.elim fun ea44 => And.elim fun ea45 =>
    And.elim fun ea46 => And.elim fun ea47 => And.elim fun ea48 => And.elim fun ea49 => And.elim fun ea50 =>
    And.elim fun ea51 => And.elim fun ea52 => And.elim fun ea53 => And.elim fun ea54 => And.elim fun ea55 =>
    And.elim fun ea56 => And.elim fun ea57 => And.elim fun ecst_3 => And.elim fun ea58 => And.elim fun ecst_4 =>
    And.elim fun ea59 => And.elim fun ecst_5 => And.elim fun ea60 => And.elim fun ea61 => And.elim fun ecst_6 =>
    And.elim fun ea62 => And.elim fun ea63 => And.elim fun ecst_7 => And.elim fun ea64 => And.elim fun ea65 =>
    And.elim fun ea66 => And.elim fun ea67 => And.elim fun ea68 => And.elim fun ea69 => And.elim fun ea70 =>
    And.elim fun ea71 => And.elim fun ecst_8 => And.elim fun ea72 => And.elim fun ea73 => And.elim fun ea74 =>
    And.elim fun ea75 => And.elim fun ea76 => And.elim fun ea77 => And.elim fun ea78 => And.elim fun ecst_9 =>
    And.elim fun ea79 => And.elim fun ea80 => And.elim fun ea81 => And.elim fun ea82 => And.elim fun ea83 =>
    And.elim fun ea84 => And.elim fun ea85 => And.elim fun ea86 => And.elim fun ea87 => And.elim fun ea88 =>
    And.elim fun ea89 => And.elim fun ea90 => And.elim fun ea91 => And.elim fun ea92 => And.elim fun ea93 =>
    And.elim fun ea94 => And.elim fun ea95 => And.elim fun ea96 => And.elim fun ea97 => And.elim fun ea98 =>
    And.elim fun ea99 => And.elim fun ea100 => And.elim fun ea101 => And.elim fun ea102 => And.elim fun ea103 =>
    And.elim fun ea104 => And.elim fun ea105 => And.elim fun ecst_10 => And.elim fun ea106 => And.elim fun ecst_11 =>
    And.elim fun ea107 => And.elim fun ea108 => And.elim fun ea109 => And.elim fun ea110 => And.elim fun ecst_12 =>
    And.elim fun eu0_v0 => And.elim fun eu0_v1 => And.elim fun ea111 => And.elim fun eu1_v0 => And.elim fun eu1_cst =>
    And.elim fun eu1_c => And.elim fun eu1_v1_0 => And.elim fun ea112 => And.elim fun ea113 => And.elim fun ea114 =>
    And.elim fun eu2_c => And.elim fun eu2_v0 => And.elim fun eu2_v1 => And.elim fun eu2_c_0 => And.elim fun eu2_v2 =>
    And.elim fun eu2_v3 => And.elim fun eu2_v4 => And.elim fun eu2_v5 => And.elim fun eu2_c_1 => And.elim fun eu2_c_2 =>
    And.elim fun eu2_v6 => And.elim fun eu2_v7 => And.elim fun eu2_v8 => And.elim fun eu2_v9 => And.elim fun eu2_v10 =>
    And.elim fun eu2_v11 => And.elim fun eu2_c_3 => And.elim fun eu2_v12 => And.elim fun eu2_v13 => And.elim fun eu2_cst =>
    And.elim fun eu2_v14 => And.elim fun ea115 => And.elim fun ea116 => And.elim fun ea117 => And.elim fun ea118 =>
    And.elim fun ea119 => And.elim fun eu3_c => And.elim fun eu3_v0 => And.elim fun eu3_v1 => And.elim fun eu3_c_0 =>
    And.elim fun eu3_v2 => And.elim fun eu3_v3 => And.elim fun eu3_v4 => And.elim fun eu3_v5 => And.elim fun eu3_c_1 =>
    And.elim fun eu3_c_2 => And.elim fun eu3_v6 => And.elim fun eu3_v7 => And.elim fun eu3_v8 => And.elim fun eu3_v9 =>
    And.elim fun eu3_v10 => And.elim fun eu3_v11 => And.elim fun eu3_c_3 => And.elim fun eu3_v12 => And.elim fun eu3_v13 =>
    And.elim fun eu3_c_4 => And.elim fun eu3_v14 => And.elim fun ea120 => And.elim fun ea121 => And.elim fun ea122 =>
    And.elim fun ea123 => And.elim fun ea124 => And.elim fun ea125 => And.elim fun ea126 => And.elim fun ea127 =>
    And.elim fun ea128 => And.elim fun ea129 => And.elim fun ea130 => And.elim fun ea131 => And.elim fun ea132 =>
    And.elim fun ea133 => And.elim fun ea134 => And.elim fun ea135 => And.elim fun ea136 => And.elim fun ea137 =>
    And.elim fun ea138 => And.elim fun ea139 => And.elim fun ea140 => And.elim fun ea141 => And.elim fun ec =>
    And.elim fun ea142 => And.elim fun ec_13 => And.elim fun ea143 => And.elim fun ea144 => And.elim fun ea145 =>
    And.elim fun ea146 => And.elim fun ecst_14 => And.elim fun ea147 => And.elim fun ea148 => And.elim fun ea149 =>
    And.elim fun ecst_15 => And.elim fun eu4_v0 => And.elim fun eu4_v1 => And.elim fun ea150 => And.elim fun ea151 =>
    And.elim fun ecst_16 => And.elim fun eu5_v0 => And.elim fun eu5_v1 => And.elim fun ea152 => And.elim fun ea153 =>
    And.elim fun ea154 => And.elim fun ec_17 => And.elim fun eu6_v0 => And.elim fun eu6_v1 => And.elim fun ea155 =>
    And.elim fun ea156 => And.elim fun ecst_18 => And.elim fun eu7_v0 => And.elim fun eu7_v1 => And.elim fun eu7_v2 =>
    And.elim fun ea157 => ?_
  intro rest
  obtain ⟨hx, hy⟩ := places hn1 hn hsq ea0 ecst ea1 ea2 ecst_0 ea3 ea4 ea5 ecst_1 ea6 ea7 ecst_2 ea8 ea9 ea10 ea11 ea12 ea13
  have hd : ∀ b p k, (fun c => a46 (ix4 b p k c)) = off (pointAt n S H lo hi ratio p) (boxAt g b k) := by
    intro b p k
    funext c
    rw [distances h1 ea14 ea15 ea16 ea17 ea18 ea19 ea20 ea21 ea22 ea23 ea24 ea25 ea26 ea27 ea28 ea29 ea30 ea31 ea32 ea33 ea34 ea35 ea36
      ea37 ea38 ea39 ea40 ea41 ea42 ea43 ea44 ea45 ea46 b p k c, hx, hy]
    rfl
  have ha : ∀ b p k, a57 (ix3 b p k) = area (pointAt n S H lo hi ratio p) (boxAt g b k) := by
    intro b p k
    rw [areas ea47 ea48 ea49 ea50 ea51 ea52 ea53 ea54 ea55 ea56 ea57 b p k]
    have h := hd b p k
    unfold area
    rw [← h]
  have hq : ∀ b p k, a110 (ix3 b p k) = BitVec.ofBool (decide (Pos (pointAt n S H lo hi ratio p) (boxAt g b k))) := by
    intro b p k
    have u := inside ecst_3 ea58 ecst_5 ea60 ea61 b p k
    have v := sized ecst_4 ea59 ecst_6 ea62 ea63 ecst_7 ea64 ea65 ea66 b p k
    have w := near h1 ea67 ea68 ea69 ea70 ea71 ecst_8 ea72 ea73 ea74 ea75 ea76 ea77 ea78 ecst_9 ea79 ea80 ea81 ea82 ea83 ea84 ea85 ea86 ea87
      ea88 ea89 ea90 ea91 ea92 ea93 ea94 ea95 ea96 ea97 ea98 ea99 ea100 ea101 ea102 ea103 ea104 ea105 ecst_10 ea106 ecst_11
      ea107 ea108 b p k
    rw [hd] at u v
    rw [hx, hy] at w
    rw [ea110, ea109]
    show IntOp.andi (IntOp.andi (a61 (ix3 b p k)) (a66 (ix3 b p k))) (a108 (ix3 b p k)) = _
    rw [u, v, w, andi_ofBool, andi_ofBool]
    exact congrArg BitVec.ofBool (decide_eq_decide.mpr Iff.rfl)
  have hc : ∀ b p, (fun k => a111 (ix3 b p k)) = fun k => cost (pointAt n S H lo hi ratio p) (boxAt g b k) := by
    intro b p
    funext k
    rw [costs ecst_12 eu0_v0 eu0_v1 ea111 b p k (hq b p k), ha]
    rfl
  have hl := least eu1_v0 eu1_cst eu1_c ea112
  have hs : ∀ b p, ∃ s : Fin 64, a112 (ix2 b p) = BitVec.ofNat 32 s := fun b p => (hl b p).imp fun s h => h.2
  refine ⟨fun b p => ?_, rest⟩
  obtain ⟨s, hf, he⟩ := hl b p
  have hany : a144 (ix2 b p) = BitVec.ofBool (@decide (Any (pointAt n S H lo hi ratio p) (boxAt g b)) (Classical.propDecidable _)) :=
    (some_box ea141 ec ea142 ec_13 ea143 ea144 b p (hq b p)).trans
      (congrArg BitVec.ofBool (decide_eq_decide.mpr Iff.rfl))
  have ht : ∀ c, a116 (ix3 b p c) = off (pointAt n S H lo hi ratio p) (boxAt g b s) c := fun c =>
    (take_box h1 ea113 ea114 eu2_c eu2_v0 eu2_v1 eu2_c_0 eu2_v2 eu2_v3 eu2_v4 eu2_v5 eu2_c_1 eu2_c_2 eu2_v6 eu2_v7 eu2_v8 eu2_v9
      eu2_v10 eu2_v11 eu2_c_3 eu2_v12 eu2_v13 eu2_cst eu2_v14 ea115 ea116 hs b p c s he).trans (congrFun (hd b p s) c)
  refine ⟨s, by rw [← hc]; exact hf, ?_, ?_, fun c => ?_⟩
  · rw [classes h1 ea154 ec_17 eu6_v0 eu6_v1 ea155 b p hany,
      take_label h1 ea117 ea118 ea119 eu3_c eu3_v0 eu3_v1 eu3_c_0 eu3_v2 eu3_v3 eu3_v4 eu3_v5 eu3_c_1 eu3_c_2 eu3_v6 eu3_v7 eu3_v8 eu3_v9
      eu3_v10 eu3_v11 eu3_c_3 eu3_v12 eu3_v13 eu3_c_4 eu3_v14 ea120 hs b p s he]
    rfl
  · rw [centerness h1 ea121 ea122 ea123 ea124 ea125 ea126 ea127 ea128 ea129 ea130 ea131 ea132 ea133 ea134 ea135 ea136 ea137 ea138 ea139
      ea140 ea145 ea146 ecst_14 ea147 ea148 ea149 ecst_15 eu4_v0 eu4_v1 ea150 ea151 ecst_16 eu5_v0 eu5_v1 ea152 ea153 b p hany, funext ht]
    rfl
  · rw [regression h1 ea156 ecst_18 eu7_v0 eu7_v1 eu7_v2 ea157 b p c hany, ht]
    rfl

end Cert.Level
end
-- ==== Proof.RefLevels.lean ====
/- The reference's five levels: its final contents hold each level's targets, and its results are those targets one
   level after another. -/
module

public import proofs.«01_k».proof.Proof.RefRun
public import proofs.«01_k».proof.Proof.Level

@[expose] public section

set_option maxRecDepth 100000
set_option maxHeartbeats 4000000
noncomputable section
namespace Cert.ReferenceIdeal.Line

open Cert.ReferenceIdeal Cert.ReferenceIdeal.Gen Idealize.ShloMosaic Idealize.ShloMosaic.TcCoe Idealize.SL.Sem
  Idealize.ShloMosaic.StableHlo Cert.Straight Cert.Level

/-- Contents that solve the reference's equations hold the five levels' targets, and the results join them. -/
theorem levels (U : Valuation τ sig (Elt Idealize.ShloMosaic.Ideal)) (h : Solves U ops) :
    Fits 64 4096 0x41000000#32 0x40800000#32 0xBF800000#32 0x42800000#32 0x41400000#32
        (U (Proc.devRef .tc main_arg15)) (U (Proc.devRef .tc main_arg16))
        (U (Proc.devRef .tc main_v155)) (U (Proc.devRef .tc main_v153)) (U (Proc.devRef .tc main_v157))
      ∧ Fits 32 1024 0x41800000#32 0x41000000#32 0x42800000#32 0x43000000#32 0x41C00000#32
        (U (Proc.devRef .tc main_arg15)) (U (Proc.devRef .tc main_arg16))
        (U (Proc.devRef .tc main_v313)) (U (Proc.devRef .tc main_v311)) (U (Proc.devRef .tc main_v315))
      ∧ Fits 16 256 0x42000000#32 0x41800000#32 0x43000000#32 0x43800000#32 0x42400000#32
        (U (Proc.devRef .tc main_arg15)) (U (Proc.devRef .tc main_arg16))
        (U (Proc.devRef .tc main_v471)) (U (Proc.devRef .tc main_v469)) (U (Proc.devRef .tc main_v473))
      ∧ Fits 8 64 0x42800000#32 0x42000000#32 0x43800000#32 0x44000000#32 0x42C00000#32
        (U (Proc.devRef .tc main_arg15)) (U (Proc.devRef .tc main_arg16))
        (U (Proc.devRef .tc main_v629)) (U (Proc.devRef .tc main_v627)) (U (Proc.devRef .tc main_v631))
      ∧ Fits 4 16 0x43000000#32 0x42800000#32 0x44000000#32 0x497423F0#32 0x43400000#32
        (U (Proc.devRef .tc main_arg15)) (U (Proc.devRef .tc main_arg16))
        (U (Proc.devRef .tc main_v787)) (U (Proc.devRef .tc main_v785)) (U (Proc.devRef .tc main_v789))
      ∧ U (Proc.devRef .tc main_v790) = (concatenate S8x5456x1 1 [⟨S8x4096x1, (U (Proc.devRef .tc main_v155))⟩, ⟨S8x1024x1, (U (Proc.devRef .tc main_v313))⟩, ⟨S8x256x1, (U (Proc.devRef .tc main_v471))⟩, ⟨S8x64x1, (U (Proc.devRef .tc main_v629))⟩, ⟨S8x16x1, (U (Proc.devRef .tc main_v787))⟩] concatenates_S8x4096x1_S8x1024x1_S8x256x1_S8x64x1_S8x16x1_S8x5456x1_d1)
      ∧ U (Proc.devRef .tc main_v791) = (concatenate S8x5456x1 1 [⟨S8x4096x1, (U (Proc.devRef .tc main_v153))⟩, ⟨S8x1024x1, (U (Proc.devRef .tc main_v311))⟩, ⟨S8x256x1, (U (Proc.devRef .tc main_v469))⟩, ⟨S8x64x1, (U (Proc.devRef .tc main_v627))⟩, ⟨S8x16x1, (U (Proc.devRef .tc main_v785))⟩] concatenates_S8x4096x1_S8x1024x1_S8x256x1_S8x64x1_S8x16x1_S8x5456x1_d1)
      ∧ U (Proc.devRef .tc main_v792) = (concatenate S8x5456x4 1 [⟨S8x4096x4, (U (Proc.devRef .tc main_v157))⟩, ⟨S8x1024x4, (U (Proc.devRef .tc main_v315))⟩, ⟨S8x256x4, (U (Proc.devRef .tc main_v473))⟩, ⟨S8x64x4, (U (Proc.devRef .tc main_v631))⟩, ⟨S8x16x4, (U (Proc.devRef .tc main_v789))⟩] concatenates_S8x4096x4_S8x1024x4_S8x256x4_S8x64x4_S8x16x4_S8x5456x4_d1) := by
  simp -implicitDefEqProofs only [ops, part0, part1, part2, part3, part4, part5, part6, part7, part8, part9, part10, part11,
    part12, part13, part14, List.cons_append, List.nil_append, solves_nullary, solves_unary, solves_binary, solves_ternary,
    solves_quaternary, solves_reshape, solves_nary, solves_nil, TRef.toBuf, TRef.ofBuf, TRef.of, cast_eq, id_eq] at h
  obtain ⟨t0, h⟩ := level (n := 64) (hw := 4096) (by decide) (by decide) (by norm_num) (by decide) h
  obtain ⟨t1, h⟩ := level (n := 32) (hw := 1024) (by decide) (by decide) (by norm_num) (by decide) h
  obtain ⟨t2, h⟩ := level (n := 16) (hw := 256) (by decide) (by decide) (by norm_num) (by decide) h
  obtain ⟨t3, h⟩ := level (n := 8) (hw := 64) (by decide) (by decide) (by norm_num) (by decide) h
  obtain ⟨t4, h⟩ := level (n := 4) (hw := 16) (by decide) (by decide) (by norm_num) (by decide) h
  exact ⟨t0, t1, t2, t3, t4, h.1, h.2.1, h.2.2.1⟩

end Cert.ReferenceIdeal.Line
end
-- ==== Proof.Block.lean ====
/- What one grid step of the kernel writes, entry by entry: the targets of the points of its columns against the boxes of
   its block. -/
module

public import proofs.«01_k».proof.Proof.Target
public import proofs.«01_k».proof.Proof.Gen.KernelIdeal.Skeleton

@[expose] public section

noncomputable section
namespace Cert.KernelIdeal.Block

open Cert.KernelIdeal Cert.KernelIdeal.Gen Cert.Target Idealize.ShloMosaic
open scoped Classical

section

variable (v0 v1 v2 v3 v4 : Vec Ideal S1x512 .f32) (v5 : Vec Ideal S1x64x8 .f32)

/-- The point of column `q`, from the block's five rows. -/
def pt (q : Fin 512) : Pt := ⟨v0 (ix2 0 q), v1 (ix2 0 q), v2 (ix2 0 q), v3 (ix2 0 q), v4 (ix2 0 q)⟩

/-- The sides of box `m`. -/
def box (m : Fin 64) : Fin 4 → EReal := ![v5 (ix3 0 m 0), v5 (ix3 0 m 1), v5 (ix3 0 m 2), v5 (ix3 0 m 3)]

/-- The word of plus infinity is the top. -/
theorem ofBits_top : Ideal.ofBits .f32 2139095040#32 = ⊤ := by
  simp [Ideal.ofBits, Ideal.ieee]

/-- The kernel's mask of positives. -/
abbrev mask : IVec S64x512 1 :=
  k0_pay16 v0 v1 v4 (k0_pay4 v5) (k0_pay6 v5) (k0_pay13 v0 v1 v5) (k0_pay14 v0 v1 v2 v3 v5) (k0_pay15 v5)

/-- The kernel's indicator of the assigned box. -/
abbrev hot : FVec Ideal S64x512 .f32 :=
  k0_pay17 v0 v1 v4 (k0_pay4 v5) (k0_pay6 v5) (k0_pay12 v0 v1 v5) (k0_pay13 v0 v1 v5) (k0_pay14 v0 v1 v2 v3 v5) (k0_pay15 v5)

/-- The four distances the kernel computes. -/
theorem dist_at (m : Fin 64) (q : Fin 512) :
    k0_pay8 v0 v5 (ix2 m q) = off (pt v0 v1 v2 v3 v4 q) (box v5 m) 0 ∧
    k0_pay9 v1 v5 (ix2 m q) = off (pt v0 v1 v2 v3 v4 q) (box v5 m) 1 ∧
    k0_pay10 v0 v5 (ix2 m q) = off (pt v0 v1 v2 v3 v4 q) (box v5 m) 2 ∧
    k0_pay11 v1 v5 (ix2 m q) = off (pt v0 v1 v2 v3 v4 q) (box v5 m) 3 := by
  refine ⟨?_, ?_, ?_, ?_⟩
  · pointwise [k0_pay8, k0_pay3, k0_pay2] <;> rfl
  · pointwise [k0_pay9, k0_pay4, k0_pay2] <;> rfl
  · pointwise [k0_pay10, k0_pay5, k0_pay2] <;> rfl
  · pointwise [k0_pay11, k0_pay6, k0_pay2] <;> rfl

/-- The area the kernel computes. -/
theorem area_at (m : Fin 64) (q : Fin 512) :
    k0_pay12 v0 v1 v5 (ix2 m q) = area (pt v0 v1 v2 v3 v4 q) (box v5 m) := by
  obtain ⟨h0, h1, h2, h3⟩ := dist_at v0 v1 v2 v3 v4 v5 m q
  unfold k0_pay12
  pointwise
  rw [h0, h1, h2, h3]; rfl

/-- The kernel's mask is one exactly at the positives. -/
theorem mask_at (m : Fin 64) (q : Fin 512) :
    mask v0 v1 v2 v3 v4 v5 (ix2 m q) = BitVec.ofBool (decide (Pos (pt v0 v1 v2 v3 v4 q) (box v5 m))) := by
  obtain ⟨h0, h1, h2, h3⟩ := dist_at v0 v1 v2 v3 v4 v5 m q
  have hin : k0_pay13 v0 v1 v5 (ix2 m q) = BitVec.ofBool (decide (0 < low (off (pt v0 v1 v2 v3 v4 q) (box v5 m)))) := by
    unfold k0_pay13
    pointwise
    rw [h0, h1, h2, h3]; rfl
  have hlv : k0_pay14 v0 v1 v2 v3 v5 (ix2 m q) = BitVec.ofBool (decide
      (v2 (ix2 0 q) < high (off (pt v0 v1 v2 v3 v4 q) (box v5 m)) ∧ high (off (pt v0 v1 v2 v3 v4 q) (box v5 m)) ≤ v3 (ix2 0 q))) := by
    unfold k0_pay14
    pointwise
    rw [h0, h1, h2, h3, ← andi_ofBool]; rfl
  unfold mask k0_pay16
  pointwise
  rw [hin, hlv, andi_ofBool, show k0_pay15 v5 (ix2 m 0) = mid (box v5 m 0) (box v5 m 2) by
    pointwise [k0_pay15, k0_pay3, k0_pay5, k0_pay2] <;> rfl,
    show k0_pay4 v5 (ix2 m 0) = box v5 m 1 by pointwise [k0_pay4, k0_pay2] <;> rfl,
    show k0_pay6 v5 (ix2 m 0) = box v5 m 3 by pointwise [k0_pay6, k0_pay2] <;> rfl]
  rw [andi_ofBool]
  exact congrArg BitVec.ofBool (decide_eq_decide.mpr Iff.rfl)

/-- The kernel's indicator is that of the first box of smallest masked area. -/
theorem hot_at (m s : Fin 64) (q : Fin 512) (hs : First (fun k => cost (pt v0 v1 v2 v3 v4 q) (box v5 k)) s) :
    hot v0 v1 v2 v3 v4 v5 (ix2 m q) = if m = s then (1 : EReal) else 0 := by
  have hA : ∀ k, Scalar.select (mask v0 v1 v2 v3 v4 v5 (ix2 k q)) (k0_pay12 v0 v1 v5 (ix2 k q)) (Ideal.ofBits .f32 1287568416#32)
      = cost (pt v0 v1 v2 v3 v4 q) (box v5 k) := fun k => by
    rw [mask_at, area_at v0 v1 v2 v3 v4, select_ofBool]; rfl
  unfold hot k0_pay17
  have hmask := hA
  unfold mask at hmask
  generalize k0_pay16 v0 v1 v4 (k0_pay4 v5) (k0_pay6 v5) (k0_pay13 v0 v1 v5) (k0_pay14 v0 v1 v2 v3 v5) (k0_pay15 v5) = M at hmask ⊢
  pointwise
  simp only [hmask]
  rw [ofBits_top, fold_min_eq _ s hs.1]
  have hidx : Finset.univ.fold IntOp.minsi (2147483647#32)
      (fun k : Fin 64 => if cost (pt v0 v1 v2 v3 v4 q) (box v5 k) = cost (pt v0 v1 v2 v3 v4 q) (box v5 s) then BitVec.ofNat 32 k else 64#32)
      = BitVec.ofNat 32 s := by
    have hw : ∀ k : Fin 64, (BitVec.ofNat 32 k).toInt = k := fun k => by
      rw [BitVec.toInt_eq_toNat_of_lt] <;> simp <;> omega
    refine (fold_minsi_eq _ _ s ?_ fun k => ?_).trans (if_pos rfl)
    · rw [if_pos rfl, hw]
      exact le_trans (Int.ofNat_le.mpr s.isLt.le) (by decide)
    · rw [if_pos rfl, hw]
      split
      · rename_i hk
        rw [hw]
        exact Int.ofNat_le.mpr (not_lt.mp fun hlt => absurd hk (hs.2 k hlt).ne')
      · exact le_trans (Int.ofNat_le.mpr s.isLt.le) (by decide)
  rw [hidx]
  have hcmp : IntOp.cmpi .eq (BitVec.ofNat 32 m) (BitVec.ofNat 32 s) = BitVec.ofBool (decide (m = s)) := by
    unfold IntOp.cmpi
    refine congrArg BitVec.ofBool ?_
    rw [beq_eq_decide, decide_eq_decide]
    constructor
    · intro h
      have := congrArg BitVec.toNat h
      simp at this
      omega
    · rintro rfl; rfl
  rw [hcmp, sitofp_ofBool]

/-- The kernel's test for a positive box. -/
theorem any_at (q : Fin 512) : k0_pay23 (F := Ideal) (mask v0 v1 v2 v3 v4 v5) (ix2 0 q)
    = BitVec.ofBool (decide (Any (pt v0 v1 v2 v3 v4 q) (box v5))) := by
  have hM := fun m => mask_at v0 v1 v2 v3 v4 v5 m q
  generalize mask v0 v1 v2 v3 v4 v5 = M at hM ⊢
  pointwise [k0_pay23]
  simp only [hM, sitofp_ofBool]
  refine congrArg BitVec.ofBool (decide_eq_decide.mpr ?_)
  exact one_le_count _

/-- A sum over the boxes weighted by the kernel's indicator. -/
theorem picked (s : Fin 64) (q : Fin 512) (hs : First (fun k => cost (pt v0 v1 v2 v3 v4 q) (box v5 k)) s) (d : Fin 64 → EReal) :
    (∑ m, d m * hot v0 v1 v2 v3 v4 v5 (ix2 m q)) = d s := by
  simp only [hot_at v0 v1 v2 v3 v4 v5 _ s q hs]
  exact sum_onehot d s

/-- The kernel's four picked distances are those to the assigned box. -/
theorem pick_at (s : Fin 64) (q : Fin 512) (hs : First (fun k => cost (pt v0 v1 v2 v3 v4 q) (box v5 k)) s) :
    k0_pay18 v0 v1 v4 (k0_pay4 v5) (k0_pay6 v5) (k0_pay8 v0 v5) (k0_pay12 v0 v1 v5) (k0_pay13 v0 v1 v5) (k0_pay14 v0 v1 v2 v3 v5) (k0_pay15 v5) (ix2 0 q)
      = off (pt v0 v1 v2 v3 v4 q) (box v5 s) 0 ∧
    k0_pay19 v0 v1 v4 (k0_pay4 v5) (k0_pay6 v5) (k0_pay9 v1 v5) (k0_pay12 v0 v1 v5) (k0_pay13 v0 v1 v5) (k0_pay14 v0 v1 v2 v3 v5) (k0_pay15 v5) (ix2 0 q)
      = off (pt v0 v1 v2 v3 v4 q) (box v5 s) 1 ∧
    k0_pay20 v0 v1 v4 (k0_pay4 v5) (k0_pay6 v5) (k0_pay10 v0 v5) (k0_pay12 v0 v1 v5) (k0_pay13 v0 v1 v5) (k0_pay14 v0 v1 v2 v3 v5) (k0_pay15 v5) (ix2 0 q)
      = off (pt v0 v1 v2 v3 v4 q) (box v5 s) 2 ∧
    k0_pay21 v0 v1 v4 (k0_pay4 v5) (k0_pay6 v5) (k0_pay11 v1 v5) (k0_pay12 v0 v1 v5) (k0_pay13 v0 v1 v5) (k0_pay14 v0 v1 v2 v3 v5) (k0_pay15 v5) (ix2 0 q)
      = off (pt v0 v1 v2 v3 v4 q) (box v5 s) 3 := by
  have hp := picked v0 v1 v2 v3 v4 v5 s q hs
  have hd := fun m => dist_at v0 v1 v2 v3 v4 v5 m q
  refine ⟨?_, ?_, ?_, ?_⟩
  · rw [← (hd s).1, ← hp fun m => k0_pay8 v0 v5 (ix2 m q)]; pointwise [k0_pay18]
  · rw [← (hd s).2.1, ← hp fun m => k0_pay9 v1 v5 (ix2 m q)]; pointwise [k0_pay19]
  · rw [← (hd s).2.2.1, ← hp fun m => k0_pay10 v0 v5 (ix2 m q)]; pointwise [k0_pay20]
  · rw [← (hd s).2.2.2, ← hp fun m => k0_pay11 v1 v5 (ix2 m q)]; pointwise [k0_pay21]

/-- The class target as the kernel stores it: the picked box's label, as a number. -/
theorem cls_at (s : Fin 64) (q : Fin 512) (hs : First (fun k => cost (pt v0 v1 v2 v3 v4 q) (box v5 k)) s) :
    k0_pay24 (F := Ideal) (mask v0 v1 v2 v3 v4 v5) (k0_pay22 v0 v1 v4 (k0_pay4 v5) (k0_pay6 v5) (k0_pay7 v5) (k0_pay12 v0 v1 v5) (k0_pay13 v0 v1 v5) (k0_pay14 v0 v1 v2 v3 v5) (k0_pay15 v5)) (ix3 0 0 q)
      = if Any (pt v0 v1 v2 v3 v4 q) (box v5) then v5 (ix3 0 s 4) else (0 : EReal) := by
  have hp := picked v0 v1 v2 v3 v4 v5 s q hs fun m => v5 (ix3 0 m 4)
  have ha := any_at v0 v1 v2 v3 v4 v5 q
  unfold k0_pay24
  generalize k0_pay23 (F := Ideal) (mask v0 v1 v2 v3 v4 v5) = A at ha ⊢
  unfold k0_pay22
  pointwise
  rw [ha, select_ofBool]
  refine if_congr Iff.rfl (Eq.trans (Finset.sum_congr rfl fun m _ => congrArg (· * _) ?_) hp) rfl
  pointwise [k0_pay7, k0_pay2]

/-- The centerness target the kernel stores. -/
theorem cen_at (v82 v85 v88 v91 : FVec Ideal S1x512 .f32) (s : Fin 64) (q : Fin 512)
    (h0 : v82 (ix2 0 q) = off (pt v0 v1 v2 v3 v4 q) (box v5 s) 0) (h1 : v85 (ix2 0 q) = off (pt v0 v1 v2 v3 v4 q) (box v5 s) 1)
    (h2 : v88 (ix2 0 q) = off (pt v0 v1 v2 v3 v4 q) (box v5 s) 2) (h3 : v91 (ix2 0 q) = off (pt v0 v1 v2 v3 v4 q) (box v5 s) 3) :
    k0_pay25 (F := Ideal) (mask v0 v1 v2 v3 v4 v5) v82 v85 v88 v91 (ix3 0 0 q) = cen (pt v0 v1 v2 v3 v4 q) (box v5) s := by
  have ha := any_at v0 v1 v2 v3 v4 v5 q
  unfold k0_pay25
  generalize k0_pay23 (F := Ideal) (mask v0 v1 v2 v3 v4 v5) = A at ha ⊢
  pointwise
  rw [ha, select_ofBool, select_ofBool, h0, h1, h2, h3]
  unfold cen
  by_cases hany : Any (pt v0 v1 v2 v3 v4 q) (box v5)
  · rw [if_pos hany, if_pos hany, if_pos hany]; rfl
  · rw [if_neg hany, if_neg hany]

/-- The regression target the kernel stores. -/
theorem reg_at (v82 v85 v88 v91 : FVec Ideal S1x512 .f32) (s : Fin 64) (q : Fin 512) (c : Fin 4)
    (h0 : v82 (ix2 0 q) = off (pt v0 v1 v2 v3 v4 q) (box v5 s) 0) (h1 : v85 (ix2 0 q) = off (pt v0 v1 v2 v3 v4 q) (box v5 s) 1)
    (h2 : v88 (ix2 0 q) = off (pt v0 v1 v2 v3 v4 q) (box v5 s) 2) (h3 : v91 (ix2 0 q) = off (pt v0 v1 v2 v3 v4 q) (box v5 s) 3) :
    k0_pay26 (F := Ideal) (mask v0 v1 v2 v3 v4 v5) v82 v85 v88 v91 (ix2 c q) = reg (pt v0 v1 v2 v3 v4 q) (box v5) s c := by
  have ha := any_at v0 v1 v2 v3 v4 v5 q
  unfold k0_pay26
  generalize k0_pay23 (F := Ideal) (mask v0 v1 v2 v3 v4 v5) = A at ha ⊢
  pointwise
  have hsel : ∀ a : EReal, Scalar.select (A (ix2 0 q)) a (Ideal.ofBits FTy.f32 3212836864#32)
      = if Any (pt v0 v1 v2 v3 v4 q) (box v5) then a else Ideal.ofBits FTy.f32 3212836864#32 := fun a => by rw [ha, select_ofBool]
  fin_cases c
  · exact (hsel _).trans (congrArg (fun a => if Any (pt v0 v1 v2 v3 v4 q) (box v5) then a else _) h0)
  · exact (hsel _).trans (congrArg (fun a => if Any (pt v0 v1 v2 v3 v4 q) (box v5) then a else _) h1)
  · exact (hsel _).trans (congrArg (fun a => if Any (pt v0 v1 v2 v3 v4 q) (box v5) then a else _) h2)
  · exact (hsel _).trans (congrArg (fun a => if Any (pt v0 v1 v2 v3 v4 q) (box v5) then a else _) h3)

end

end Cert.KernelIdeal.Block
end
-- ==== Proof.Arrays.lean ====
/- What the kernel's three result arrays hold, entry by entry: the targets of the points of the table's columns against the
   boxes of each image. -/
module

public import proofs.«01_k».proof.Proof.Block
public import proofs.«01_k».proof.Proof.Gen.KernelIdeal.Frame
public import proofs.«01_k».proof.Proof.Gen.KernelIdeal.Points
public import Idealize.ShloMosaic.Lib.Pipeline.ValueKit

@[expose] public section

noncomputable section
namespace Cert.KernelIdeal.Arrays

open Cert.KernelIdeal Cert.KernelIdeal.Gen Cert.Target Idealize.ShloMosaic Idealize.ShloMosaic.TcCoe
open scoped Classical

/-- The point of the table's column `q`. -/
def pt (T : Vec Ideal S8x5632 .f32) (q : Fin 5632) : Pt :=
  ⟨T (ix2 0 q), T (ix2 1 q), T (ix2 2 q), T (ix2 3 q), T (ix2 4 q)⟩

/-- The sides of image `b`'s box `k`. -/
def box (B : Vec Ideal S8x64x8 .f32) (b : Fin 8) (k : Fin 64) : Fin 4 → EReal :=
  ![B (ix3 b k 0), B (ix3 b k 1), B (ix3 b k 2), B (ix3 b k 3)]

/-- The box that column `q`'s point is assigned in image `b`. -/
def pick (T : Vec Ideal S8x5632 .f32) (B : Vec Ideal S8x64x8 .f32) (b : Fin 8) (q : Fin 5632) : Fin 64 :=
  (exists_first fun k => cost (pt T q) (box B b k)).choose

/-- The assigned box is the first of smallest masked area. -/
theorem pick_first (T : Vec Ideal S8x5632 .f32) (B : Vec Ideal S8x64x8 .f32) (b : Fin 8) (q : Fin 5632) :
    First (fun k => cost (pt T q) (box B b k)) (pick T B b q) :=
  (exists_first fun k => cost (pt T q) (box B b k)).choose_spec

variable (m : (ℓ : Loc nD τ sig) → Buf (Elt Ideal) ℓ)

/-- The table's block of columns at step `t`. -/
theorem index0 : ∀ t : Fin cfg0.N, win0_0.index t = ![0, t.val % 11] := (by decide +kernel : ∀ t : Fin grid0.N, _)
/-- The image of the boxes' block at step `t`. -/
theorem index1 : ∀ t : Fin cfg0.N, win0_1.index t = ![t.val / 11, 0, 0] := (by decide +kernel : ∀ t : Fin grid0.N, _)
/-- The image and the columns of the class array's block at step `t`. -/
theorem index2 : ∀ t : Fin cfg0.N, win0_2.index t = ![t.val / 11, 0, t.val % 11] := (by decide +kernel : ∀ t : Fin grid0.N, _)
/-- The image and the columns of the centerness array's block at step `t`. -/
theorem index3 : ∀ t : Fin cfg0.N, win0_3.index t = ![t.val / 11, 0, t.val % 11] := (by decide +kernel : ∀ t : Fin grid0.N, _)
/-- The image and the columns of the regression array's block at step `t`. -/
theorem index4 : ∀ t : Fin cfg0.N, win0_4.index t = ![t.val / 11, 0, t.val % 11] := (by decide +kernel : ∀ t : Fin grid0.N, _)

/-- The image that step `t` works on. -/
def img (t : Fin cfg0.N) : Fin 8 := ⟨t.val / 11, by have : t.val < 88 := t.isLt; omega⟩

/-- The table's column that step `t` has as its column `q`. -/
def col (t : Fin cfg0.N) (q : Fin 512) : Fin 5632 := ⟨t.val % 11 * 512 + q.val, by omega⟩

/-- The step's table rows are the table's at its columns. -/
theorem table_at (c : Dev nD) (t : Fin cfg0.N) (r : Fin 8) (q : Fin 512) :
    iblk m c 0 t (ix2 r q) = V m c main_cst (ix2 r (col t q)) := by
  blk_simp [iblk]
  refine congrArg (V m c main_cst) ?_
  blk_ext [index0, col]

/-- The step's boxes are its image's. -/
theorem boxes_at (c : Dev nD) (t : Fin cfg0.N) (k : Fin 64) (j : Fin 8) :
    iblk m c 1 t (ix3 0 k j) = V m c main_v3 (ix3 (img t) k j) := by
  blk_simp [iblk]
  refine congrArg (V m c main_v3) ?_
  blk_ext [index1, img]

/-- The points of the step's columns. -/
theorem point_at (c : Dev nD) (t : Fin cfg0.N) (q : Fin 512) :
    Block.pt (View.ld (iblk m c 0 t) r0_0) (View.ld (iblk m c 0 t) r0_1) (View.ld (iblk m c 0 t) r0_2) (View.ld (iblk m c 0 t) r0_3)
      (View.ld (iblk m c 0 t) r0_4) q = pt (V m c main_cst) (col t q) := by
  have h : ∀ r : Fin 8, _ := fun r => table_at m c t r q
  generalize iblk m c 0 t = X at h ⊢
  unfold Block.pt pt
  simp only [← h]
  congr 1 <;> pointwise

/-- The sides of the step's boxes. -/
theorem sides_at (c : Dev nD) (t : Fin cfg0.N) : Block.box (iblk m c 1 t) = box (V m c main_v3) (img t) := by
  funext k
  unfold Block.box box
  rw [boxes_at, boxes_at, boxes_at, boxes_at]

/-- A load of the whole block of boxes is the block. -/
theorem ld_whole (X : Vec Ideal S1x64x8 .f32) : View.ld X r0_5 = X :=
  View.ld_unit_zero (by funext a; fin_cases a <;> rfl) _ X

/-- An index of a block of one row. -/
theorem row_index (y : S1x1x512.Idx) : ∃ q : Fin 512, y = ix3 0 0 q := ⟨y 2, by
  funext a; fin_cases a
  · exact Fin.ext (by have : (y 0).val < 1 := (y 0).isLt; show (y 0).val = 0; omega)
  · exact Fin.ext (by have : (y 1).val < 1 := (y 1).isLt; show (y 1).val = 0; omega)
  · rfl⟩

/-- An index of a block of four rows. -/
theorem rows_index (y : S1x4x512.Idx) : ∃ (a : Fin 4) (q : Fin 512), y = ix3 0 a q := ⟨y 1, y 2, by
  funext a; fin_cases a
  · exact Fin.ext (by have : (y 0).val < 1 := (y 0).isLt; show (y 0).val = 0; omega)
  · rfl
  · rfl⟩

/-- The assigned box, as the step's own. -/
theorem first_at (c : Dev nD) (t : Fin cfg0.N) (q : Fin 512) :
    First (fun k => cost (Block.pt (View.ld (iblk m c 0 t) r0_0) (View.ld (iblk m c 0 t) r0_1) (View.ld (iblk m c 0 t) r0_2)
      (View.ld (iblk m c 0 t) r0_3) (View.ld (iblk m c 0 t) r0_4) q) (Block.box (iblk m c 1 t) k))
      (pick (V m c main_cst) (V m c main_v3) (img t) (col t q)) := by
  rw [point_at, sides_at]
  exact pick_first _ _ _ _

/-- The first array holds each assigned box's label, as a number, and zero where the point has no positive box. -/
theorem arr2 (c : Dev nD) : (dats m 0 c).arrAt 2 cfg0.N = (fun i : S8x1x5632.Idx =>
    if Any (pt (V m c main_cst) (i 2)) (box (V m c main_v3) (i 0)) then
      V m c main_v3 (ix3 (i 0) (pick (V m c main_cst) (V m c main_v3) (i 0) (i 2)) 4) else (0 : EReal)) := by
  refine (dats m 0 c).arrAt_eq_of_covers 2 _ (by decide +kernel) fun t hf y => ?_
  blk_simp
  rw [after0_2]
  frame_out
  obtain ⟨q, rfl⟩ := row_index y
  have he : ((View.whole main_v4_0).slice (win0_2.rect t)).emb (ix3 0 0 q) = ix3 (img t) 0 (col t q) := by
    blk_ext [index2, img, col]
  rw [he]
  have hs := first_at m c t q
  have hP := point_at m c t q
  have hB := sides_at m c t
  simp only [k0_pay27, k0_pay28, k0_pay29, k0_pay30, k0_pay31, k0_pay32, k0_pay33, k0_pay34, k0_pay35, k0_pay36, k0_pay37, ld_whole]
  refine (Block.cls_at _ _ _ _ _ _ _ q hs).trans ?_
  rw [hP, hB, boxes_at]
  rfl

/-- The second array holds the centerness targets. -/
theorem arr3 (c : Dev nD) : (dats m 0 c).arrAt 3 cfg0.N = (fun i : S8x1x5632.Idx =>
    cen (pt (V m c main_cst) (i 2)) (box (V m c main_v3) (i 0)) (pick (V m c main_cst) (V m c main_v3) (i 0) (i 2))) := by
  refine (dats m 0 c).arrAt_eq_of_covers 3 _ (by decide +kernel) fun t hf y => ?_
  blk_simp
  rw [after0_3]
  frame_out
  obtain ⟨q, rfl⟩ := row_index y
  have he : ((View.whole main_v4_1).slice (win0_3.rect t)).emb (ix3 0 0 q) = ix3 (img t) 0 (col t q) := by
    blk_ext [index3, img, col]
  rw [he]
  have hs := first_at m c t q
  have hP := point_at m c t q
  have hB := sides_at m c t
  simp only [k0_pay27, k0_pay28, k0_pay29, k0_pay30, k0_pay31, k0_pay32, k0_pay33, k0_pay34, k0_pay35, k0_pay36, k0_pay37, ld_whole]
  obtain ⟨h0, h1, h2, h3⟩ := Block.pick_at _ _ _ _ _ _ _ q hs
  refine (Block.cen_at _ _ _ _ _ _ _ _ _ _ _ q h0 h1 h2 h3).trans ?_
  rw [hP, hB]
  rfl

/-- The third array holds the regression targets, one row of each image's block per side. -/
theorem arr4 (c : Dev nD) : (dats m 0 c).arrAt 4 cfg0.N = (fun i : S8x4x5632.Idx =>
    reg (pt (V m c main_cst) (i 2)) (box (V m c main_v3) (i 0)) (pick (V m c main_cst) (V m c main_v3) (i 0) (i 2)) (i 1)) := by
  refine (dats m 0 c).arrAt_eq_of_covers 4 _ (by decide +kernel) fun t hf y => ?_
  blk_simp
  rw [after0_4]
  frame_out
  obtain ⟨a, q, rfl⟩ := rows_index y
  have he : ((View.whole main_v4_2).slice (win0_4.rect t)).emb (ix3 0 a q) = ix3 (img t) a (col t q) := by
    blk_ext [index4, img, col]
  rw [he]
  have hs := first_at m c t q
  have hP := point_at m c t q
  have hB := sides_at m c t
  simp only [k0_pay27, k0_pay28, k0_pay29, k0_pay30, k0_pay31, k0_pay32, k0_pay33, k0_pay34, k0_pay35, k0_pay36, k0_pay37, ld_whole]
  obtain ⟨h0, h1, h2, h3⟩ := Block.pick_at _ _ _ _ _ _ _ q hs
  have hr := Block.reg_at _ _ _ _ _ _ _ _ _ _ _ q a h0 h1 h2 h3
  rw [hP, hB] at hr
  refine Eq.trans ?_ hr
  unfold k0_pay1
  pointwise
  rfl

end Cert.KernelIdeal.Arrays
end
-- ==== Proof.Table.lean ====
/- The kernel's table of points: its columns are the grid points of the five levels, one level after another. -/
module

public import proofs.«01_k».proof.Proof.Arrays
public import proofs.«01_k».proof.Proof.Level

@[expose] public section

noncomputable section
namespace Cert.KernelIdeal.Table

open Cert.KernelIdeal Cert.KernelIdeal.Gen Cert.KernelIdeal.Arrays Cert.Target Cert.Level Idealize.ShloMosaic
  Idealize.ShloMosaic.TcCoe

/-- The word of a whole number below `2 ^ 24` as a float. -/
def word (v : Nat) : BitVec 32 :=
  BitVec.ofNat 32 ((Nat.log2 v + 127) * 8388608 + (v - 2 ^ Nat.log2 v) * 2 ^ (23 - Nat.log2 v))

/-- The word of a whole number stands for that number. -/
theorem word_value {v : Nat} (h0 : v ≠ 0) (h : v < 2 ^ 24) : Idealize.ShloMosaic.Ideal.ofBits .f32 (word v) = ((v : ℝ) : EReal) := by
  have hlo : 2 ^ Nat.log2 v ≤ v := Nat.log2_self_le h0
  have hhi : v < 2 ^ (Nat.log2 v + 1) := Nat.lt_log2_self
  have he : Nat.log2 v < 24 := (Nat.log2_lt h0).mpr h
  unfold word
  generalize Nat.log2 v = e at hlo hhi he
  obtain ⟨f, rfl⟩ := Nat.exists_eq_add_of_le hlo
  have hf : f < 2 ^ e := by rw [pow_succ] at hhi; omega
  have hp : 2 ^ e * 2 ^ (23 - e) = 8388608 := by rw [← pow_add, show e + (23 - e) = 23 by omega]; norm_num
  have hg : f * 2 ^ (23 - e) < 8388608 := by rw [← hp]; exact Nat.mul_lt_mul_of_pos_right hf (by positivity)
  rw [Nat.add_sub_cancel_left]
  have hgr : ((f * 2 ^ (23 - e) : ℕ) : ℝ) = f * 2 ^ (23 - e) := by push_cast; ring
  have hpr : (2 : ℝ) ^ e * 2 ^ (23 - e) = 8388608 := by exact_mod_cast hp
  generalize f * 2 ^ (23 - e) = g at hg hgr
  have hw : ((e + 127) * 8388608 + g) % 2 ^ 32 = (e + 127) * 8388608 + g := Nat.mod_eq_of_lt (by omega)
  have hx : ((BitVec.ofNat 32 ((e + 127) * 8388608 + g)).extractLsb' 23 8).toNat = e + 127 := by
    rw [BitVec.extractLsb'_toNat, BitVec.toNat_ofNat, hw, Nat.shiftRight_eq_div_pow]; omega
  have hy : ((BitVec.ofNat 32 ((e + 127) * 8388608 + g)).extractLsb' 0 23).toNat = g := by
    rw [BitVec.extractLsb'_toNat, BitVec.toNat_ofNat, hw, Nat.shiftRight_eq_div_pow]; omega
  have hs : ((BitVec.ofNat 32 ((e + 127) * 8388608 + g)).extractLsb' (8 + 23) 1 == 1#1) = false := by
    have h0 : ((BitVec.ofNat 32 ((e + 127) * 8388608 + g)).extractLsb' (8 + 23) 1).toNat = 0 := by
      rw [BitVec.extractLsb'_toNat, BitVec.toNat_ofNat, hw, Nat.shiftRight_eq_div_pow]; omega
    rw [beq_eq_false_iff_ne]
    intro h1
    rw [h1] at h0
    exact absurd h0 (by decide)
  simp only [Idealize.ShloMosaic.Ideal.ofBits, Idealize.ShloMosaic.Ideal.ieee, hx, hy, hs]
  rw [if_neg (by omega), if_neg (by omega)]
  congr 1
  simp only [Bool.false_eq_true, if_false, one_mul]
  have hz : (2 : ℝ) ^ (((e + 127 : ℕ) : Int) - (2 ^ (8 - 1) - 1) - (23 : ℕ)) = ((2 : ℝ) ^ (23 - e))⁻¹ := by
    rw [show (((e + 127 : ℕ) : Int) - (2 ^ (8 - 1) - 1) - (23 : ℕ)) = -((23 - e : ℕ) : Int) by omega, zpow_neg, zpow_natCast]
  rw [hz]
  push_cast
  rw [hgr]
  have hne : (2 : ℝ) ^ (23 - e) ≠ 0 := by positivity
  field_simp
  linarith [hpr]

/-- A grid's places are whole numbers. -/
theorem place_value {s t i : Nat} (hs0 : s ≠ 0) (hs : s < 2 ^ 24) (ht0 : t ≠ 0) (ht : t < 2 ^ 24) (hi : i < 2 ^ 31) :
    place (word s) (word t) i = (((s * i + t : ℕ) : ℝ) : EReal) := by
  have hc : (FloatOps.sitofp .f32 (BitVec.ofNat 32 i) : Ideal .f32) = ((i : ℝ) : EReal) := by
    change (((BitVec.ofNat 32 i).toInt : ℝ) : EReal) = _
    rw [BitVec.toInt_ofNat', Int.bmod_eq_of_le (by omega) (by omega)]
    rfl
  rw [place, hc, word_value hs0 hs, word_value ht0 ht, ← EReal.coe_mul, ← EReal.coe_add]
  congr 1
  push_cast
  ring

/-- The words of the table's five used rows at the column of row `a`, column `b` of a level's grid of `n` columns whose
    first column in the table is `o`. -/
abbrev Column (n o s t : Nat) (lo hi ratio : BitVec 32) (a b : Nat) : Prop :=
  lit0t (0 * 5632 + (o + (n * a + b))) = word (s * b + t) ∧ lit0t (1 * 5632 + (o + (n * a + b))) = word (s * a + t)
    ∧ lit0t (2 * 5632 + (o + (n * a + b))) = lo ∧ lit0t (3 * 5632 + (o + (n * a + b))) = hi
    ∧ lit0t (4 * 5632 + (o + (n * a + b))) = ratio

/-- The first row of the first level's columns. -/
theorem column0_x : ∀ a b : Fin 64, lit0t (0 * 5632 + (0 + (64 * a.val + b.val))) = word (8 * b + 4) := by decide +kernel
/-- The second row of the first level's columns. -/
theorem column0_y : ∀ a b : Fin 64, lit0t (1 * 5632 + (0 + (64 * a.val + b.val))) = word (8 * a + 4) := by decide +kernel
/-- The third row of the first level's columns. -/
theorem column0_lo : ∀ a b : Fin 64, lit0t (2 * 5632 + (0 + (64 * a.val + b.val))) = 0xBF800000#32 := by decide +kernel
/-- The fourth row of the first level's columns. -/
theorem column0_hi : ∀ a b : Fin 64, lit0t (3 * 5632 + (0 + (64 * a.val + b.val))) = 0x42800000#32 := by decide +kernel
/-- The fifth row of the first level's columns. -/
theorem column0_ratio : ∀ a b : Fin 64, lit0t (4 * 5632 + (0 + (64 * a.val + b.val))) = 0x41400000#32 := by decide +kernel
/-- The first level's columns. -/
theorem column0 (a b : Fin 64) : Column 64 0 8 4 0xBF800000#32 0x42800000#32 0x41400000#32 a b :=
  ⟨column0_x a b, column0_y a b, column0_lo a b, column0_hi a b, column0_ratio a b⟩
/-- The second level's columns. -/
theorem column1 : ∀ a b : Fin 32, Column 32 4096 16 8 0x42800000#32 0x43000000#32 0x41C00000#32 a b := by decide +kernel
/-- The third level's columns. -/
theorem column2 : ∀ a b : Fin 16, Column 16 5120 32 16 0x43000000#32 0x43800000#32 0x42400000#32 a b := by decide +kernel
/-- The fourth level's columns. -/
theorem column3 : ∀ a b : Fin 8, Column 8 5376 64 32 0x43800000#32 0x44000000#32 0x42C00000#32 a b := by decide +kernel
/-- The fifth level's columns. -/
theorem column4 : ∀ a b : Fin 4, Column 4 5440 128 64 0x44000000#32 0x497423F0#32 0x43400000#32 a b := by decide +kernel

variable (m : (ℓ : Loc nD τ sig) → Buf (Elt Idealize.ShloMosaic.Ideal) ℓ)

/-- The table's entry in row `r`, column `q` is the value of the word at that place of the constant, row after row. -/
theorem table_word (c : Dev nD) (r : Fin 8) (q : Fin 5632) (k : Nat) (hk : k = r.val * 5632 + q.val) :
    V m c main_cst (ix2 r q) = Idealize.ShloMosaic.Ideal.ofBits .f32 (lit0t k) := by
  have h : V m c main_cst = (fun i : S8x5632.Idx => (FloatOps.ofBits .f32 (lit0 (S8x5632.rowMajor i)) : Ideal .f32)) := by
    simp only [V, V0, hostOps0, List.flatten_cons, List.flatten_nil, List.append_nil, List.cons_append, List.nil_append]
    after_results <;> rfl
  rw [h]
  have hv : (S8x5632.rowMajor (ix2 r q)).val = r.val * 5632 + q.val := by
    rw [Shape.rowMajor_val_two]
    rfl
  change Idealize.ShloMosaic.Ideal.ofBits .f32 (lit0t (S8x5632.rowMajor (ix2 r q)).val) = _
  rw [hv, hk]

/-- A level's grid point is the point of its column in the table. -/
theorem point_of_column {n o s t : Nat} {lo hi ratio : BitVec 32} (hn : 0 < n) (hn' : n < 2 ^ 31) (hs0 : s ≠ 0)
    (hs : s < 2 ^ 24) (ht0 : t ≠ 0) (ht : t < 2 ^ 24) (hst : s * n + t < 2 ^ 24)
    (hC : ∀ a b : Fin n, Column n o s t lo hi ratio a b) (c : Dev nD) (q : Fin 5632) (p : Nat) (hp : p < n * n)
    (hq : q.val = o + p) : pt (V m c main_cst) q = pointAt n (word s) (word t) lo hi ratio p := by
  have hb : p % n < n := Nat.mod_lt _ hn
  have ha : p / n < n := Nat.div_lt_of_lt_mul hp
  obtain ⟨h0, h1, h2, h3, h4⟩ := hC ⟨p / n, ha⟩ ⟨p % n, hb⟩
  simp only [Nat.div_add_mod, ← hq] at h0 h1 h2 h3 h4
  have hw : ∀ i < n, s * i + t < 2 ^ 24 := fun i hi =>
    lt_of_le_of_lt (Nat.add_le_add_right (Nat.mul_le_mul_left s hi.le) t) hst
  unfold pt pointAt
  rw [place_value hs0 hs ht0 ht (hb.trans hn'), place_value hs0 hs ht0 ht (ha.trans hn'),
    ← word_value (by omega) (hw _ hb), ← word_value (by omega) (hw _ ha), ← h0, ← h1, ← h2, ← h3, ← h4]
  simp only [Pt.mk.injEq]
  exact ⟨table_word m c 0 q _ rfl, table_word m c 1 q _ rfl, table_word m c 2 q _ rfl, table_word m c 3 q _ rfl,
    table_word m c 4 q _ rfl⟩

end Cert.KernelIdeal.Table
end
-- ==== Proof.Join.lean ====
/- The two programs' results, entry by entry: the kernel's after its last host operations, and the reference's as one of
   its five levels' entries; and the agreement of a level's targets with the columns of the kernel's table. -/
module

public import proofs.«01_k».proof.Proof.Arrays
public import proofs.«01_k».proof.Proof.Level

@[expose] public section

noncomputable section
namespace Cert.KernelIdeal.Join

open Cert.KernelIdeal Cert.KernelIdeal.Gen Cert.KernelIdeal.Arrays Cert.Target Cert.Level Idealize.ShloMosaic
  Idealize.ShloMosaic.TcCoe
open scoped Classical

/-- A result's column as a column of the kernel's wider arrays. -/
def wide (q : Fin 5456) : Fin 5632 := ⟨q.val, by omega⟩

/-- Dropping the middle axis of a slice of one row. -/
theorem cast_row (X : FVec Idealize.ShloMosaic.Ideal S8x1x5632 .f32) (b : Fin 8) (q : Fin 5456) :
    shapeCast S8x5456 (extractStridedSlice S8x1x5456 ![0, 0, 0] X slices_S8x1x5632_S8x1x5456_0_0_0)
      shapeCasts_S8x1x5456_S8x5456 (ix2 b q) = X (ix3 b 0 (wide q)) := by
  pointwise
  rfl

/-- A one-column result of the kernel, from the kernel's row. -/
theorem row_entry (X : FVec Idealize.ShloMosaic.Ideal S8x1x5632 .f32) (b : Fin 8) (q : Fin 5456) :
    broadcastInDim S8x5456x1 ![0, 1] bcast_S8x5456_S8x5456x1_0_1 (shapeCast S8x5456 (extractStridedSlice S8x1x5456 ![0, 0, 0] X slices_S8x1x5632_S8x1x5456_0_0_0)
      shapeCasts_S8x1x5456_S8x5456) (ix3 b q 0) = X (ix3 b 0 (wide q)) := by
  refine Eq.trans ?_ (cast_row X b q)
  pointwise

/-- The four-column result of the kernel, from the kernel's four rows. -/
theorem rows_entry (X : FVec Idealize.ShloMosaic.Ideal S8x4x5632 .f32) (b : Fin 8) (q : Fin 5456) (j : Fin 4) :
    transpose S8x5456x4 [0, 2, 1] (extractStridedSlice S8x4x5456 ![0, 0, 0] X slices_S8x4x5632_S8x4x5456_0_0_0) transposes_S8x4x5456_S8x5456x4_0_2_1 (ix3 b q j) = X (ix3 b j (wide q)) := by
  pointwise
  rfl

/-- A label made a float and back is the label. -/
theorem label_back (l : BitVec 32) : Idealize.ShloMosaic.Ideal.fptosi 32 (FloatOps.sitofp .f32 l : Ideal .f32) = l := by
  change Idealize.ShloMosaic.Ideal.fptosi 32 (((l.toInt : ℝ)) : EReal) = l
  have h1 : l.toInt < 2 ^ 31 := BitVec.toInt_lt
  have h2 : -2 ^ 31 ≤ l.toInt := BitVec.le_toInt l
  simp [Idealize.ShloMosaic.Ideal.fptosi, Idealize.ShloMosaic.Ideal.toIntClamped_coe]
  rw [min_eq_right (by omega), max_eq_right (by omega), BitVec.ofInt_toInt]

/-- A result joined from five parts along its middle axis holds what each part holds at its own place. -/
theorem joined {α : Type} {d : Nat} {A0 : (⟨3, ![8, 4096, d]⟩ : Shape).Idx → α} {A1 : (⟨3, ![8, 1024, d]⟩ : Shape).Idx → α}
    {A2 : (⟨3, ![8, 256, d]⟩ : Shape).Idx → α} {A3 : (⟨3, ![8, 64, d]⟩ : Shape).Idx → α} {A4 : (⟨3, ![8, 16, d]⟩ : Shape).Idx → α}
    (f : Shape.Concatenates [⟨3, ![8, 4096, d]⟩, ⟨3, ![8, 1024, d]⟩, ⟨3, ![8, 256, d]⟩, ⟨3, ![8, 64, d]⟩, ⟨3, ![8, 16, d]⟩] ⟨3, ![8, 5456, d]⟩ 1)
    (b : Fin 8) (j : Fin d) (t : Fin 5456 → α)
    (h0 : ∀ (p : Fin 4096) (q : Fin 5456), q.val = 0 + p.val → A0 (ix3 b p j) = t q)
    (h1 : ∀ (p : Fin 1024) (q : Fin 5456), q.val = 4096 + p.val → A1 (ix3 b p j) = t q)
    (h2 : ∀ (p : Fin 256) (q : Fin 5456), q.val = 5120 + p.val → A2 (ix3 b p j) = t q)
    (h3 : ∀ (p : Fin 64) (q : Fin 5456), q.val = 5376 + p.val → A3 (ix3 b p j) = t q)
    (h4 : ∀ (p : Fin 16) (q : Fin 5456), q.val = 5440 + p.val → A4 (ix3 b p j) = t q) (q : Fin 5456) :
    concatenate ⟨3, ![8, 5456, d]⟩ 1 [⟨⟨3, ![8, 4096, d]⟩, A0⟩, ⟨⟨3, ![8, 1024, d]⟩, A1⟩, ⟨⟨3, ![8, 256, d]⟩, A2⟩, ⟨⟨3, ![8, 64, d]⟩, A3⟩, ⟨⟨3, ![8, 16, d]⟩, A4⟩] f (ix3 b q j) = t q := by
  pointwise
  by_cases g0 : q.val < 4096
  · rw [dif_pos g0]
    exact h0 _ q (Nat.zero_add _).symm
  rw [dif_neg g0]
  by_cases g1 : q.val - 4096 < 1024
  · rw [dif_pos g1]
    exact h1 _ q (by change q.val = 4096 + (q.val - 4096); omega)
  rw [dif_neg g1]
  by_cases g2 : q.val - 4096 - 1024 < 256
  · rw [dif_pos g2]
    exact h2 _ q (by change q.val = 5120 + (q.val - 4096 - 1024); omega)
  rw [dif_neg g2]
  by_cases g3 : q.val - 4096 - 1024 - 256 < 64
  · rw [dif_pos g3]
    exact h3 _ q (by change q.val = 5376 + (q.val - 4096 - 1024 - 256); omega)
  rw [dif_neg g3]
  exact h4 _ q (by change q.val = 5440 + (q.val - 4096 - 1024 - 256 - 64); omega)

/-- A level's targets are the targets of its columns of the kernel's table, against the kernel's boxes. -/
theorem agree {n hw o : Nat} {S H lo hi ratio : BitVec 32} {g : FVec Idealize.ShloMosaic.Ideal ⟨3, ![8, 64, 4]⟩ .f32} {l : IVec ⟨2, ![8, 64]⟩ 32}
    {c : IVec ⟨3, ![8, hw, 1]⟩ 32} {z : FVec Idealize.ShloMosaic.Ideal ⟨3, ![8, hw, 1]⟩ .f32} {r : FVec Idealize.ShloMosaic.Ideal ⟨3, ![8, hw, 4]⟩ .f32}
    (h : Fits n hw S H lo hi ratio g l c z r) (T : Vec Idealize.ShloMosaic.Ideal S8x5632 .f32) (B : Vec Idealize.ShloMosaic.Ideal S8x64x8 .f32)
    (hB : ∀ b k, box B b k = boxAt g b k)
    (hT : ∀ (q : Fin 5632) (p : Nat), p < hw → q.val = o + p → pt T q = pointAt n S H lo hi ratio p)
    (b : Fin 8) (p : Fin hw) (q : Fin 5456) (hq : q.val = o + p.val) :
    c (ix3 b p 0) = cls (pt T (wide q)) (box B b) (fun k => l (ix2 b k)) (pick T B b (wide q))
      ∧ z (ix3 b p 0) = cen (pt T (wide q)) (box B b) (pick T B b (wide q))
      ∧ ∀ j, r (ix3 b p j) = reg (pt T (wide q)) (box B b) (pick T B b (wide q)) j := by
  obtain ⟨s, hs, hc, hz, hr⟩ := h b p
  have e : box B b = boxAt g b := funext (hB b)
  have ep := hT (wide q) p.val p.isLt hq
  have es : pick T B b (wide q) = s := by
    refine First.unique (pick_first T B b (wide q)) ?_
    rw [ep, e]
    exact hs
  rw [ep, e, es]
  exact ⟨hc, hz, hr⟩

end Cert.KernelIdeal.Join
end
-- ==== Proof.Boxes.lean ====
/- The kernel's array of boxes: each box's four sides, its label made a float, and three zeros. -/
module

public import proofs.«01_k».proof.Proof.Join

@[expose] public section

noncomputable section
namespace Cert.KernelIdeal.Boxes

open Cert.KernelIdeal Cert.KernelIdeal.Gen Cert.KernelIdeal.Arrays Cert.Target Cert.Level Idealize.ShloMosaic
  Idealize.ShloMosaic.TcCoe

variable (m : (ℓ : Loc nD τ sig) → Buf (Elt Idealize.ShloMosaic.Ideal) ℓ)

/-- The boxes as they were given. -/
abbrev given (c : Dev nD) : FVec Idealize.ShloMosaic.Ideal S8x64x4 .f32 := m ((c : Thread nD τ).loc main_arg15)

/-- The labels as they were given. -/
abbrev labels (c : Dev nD) : IVec S8x64 32 := m ((c : Thread nD τ).loc main_arg16)

/-- The array of boxes that the kernel is given joins the boxes, their labels and zeros. -/
theorem boxes_read (c : Dev nD) : V m c main_v3 =
    concatenate S8x64x8 2 [⟨S8x64x4, given m c⟩,
      ⟨S8x64x1, broadcastInDim S8x64x1 ![0, 1] bcast_S8x64_S8x64x1_0_1 (sitofp (F := Idealize.ShloMosaic.Ideal) .f32 (labels m c))⟩,
      ⟨S8x64x3, broadcastInDim S8x64x3 ![] bcast_S_S8x64x3 (constant (F := Idealize.ShloMosaic.Ideal) S_ .f32 0x00000000#32)⟩]
      concatenates_S8x64x4_S8x64x1_S8x64x3_S8x64x8_d2 := by
  simp only [V, V0, hostOps0, List.flatten_cons, List.flatten_nil, List.append_nil, List.cons_append, List.nil_append]
  after_results <;> rfl

/-- A box's sides are the given ones. -/
theorem sides (c : Dev nD) (b : Fin 8) (k : Fin 64) : box (V m c main_v3) b k = boxAt (given m c) b k := by
  unfold box boxAt
  rw [boxes_read]
  pointwise

/-- A box's fifth entry is its label made a float. -/
theorem label (c : Dev nD) (b : Fin 8) (k : Fin 64) :
    V m c main_v3 (ix3 b k 4) = (FloatOps.sitofp .f32 (labels m c (ix2 b k)) : Ideal .f32) := by
  rw [boxes_read]
  pointwise

end Cert.KernelIdeal.Boxes
end
-- ==== Proof.Final.lean ====
/- The kernel's three results are the reference's: both hold, at every entry, the targets of one point against one image's
   boxes. -/
module

public import proofs.«01_k».proof.Proof.Gen.KernelIdeal.Run
public import proofs.«01_k».proof.Proof.RefLevels
public import proofs.«01_k».proof.Proof.Table
public import proofs.«01_k».proof.Proof.Boxes

@[expose] public section

noncomputable section
namespace Cert.Final

open Cert.KernelIdeal Cert.KernelIdeal.Gen Cert.KernelIdeal.Arrays Cert.KernelIdeal.Table Cert.KernelIdeal.Boxes Cert.KernelIdeal.Join
  Cert.KernelIdeal.Value Cert.Target Cert.Level Idealize.ShloMosaic Idealize.ShloMosaic.TcCoe Idealize.ShloMosaic.StableHlo
open scoped Classical

variable (m : (ℓ : Loc nD τ sig) → Buf (Elt Idealize.ShloMosaic.Ideal) ℓ)
  (m' : (ℓ : Loc Cert.ReferenceIdeal.nD Cert.ReferenceIdeal.τ Cert.ReferenceIdeal.sig) → Buf (Elt Idealize.ShloMosaic.Ideal) ℓ)

/-- The class target of result column `q` in image `b`. -/
def classAt (c : Dev nD) (b : Fin 8) (q : Fin 5456) : BitVec 32 :=
  cls (pt (V m c main_cst) (wide q)) (box (V m c main_v3) b) (fun k => labels m c (ix2 b k))
    (pick (V m c main_cst) (V m c main_v3) b (wide q))

/-- The centerness target of result column `q` in image `b`. -/
def centreAt (c : Dev nD) (b : Fin 8) (q : Fin 5456) : EReal :=
  cen (pt (V m c main_cst) (wide q)) (box (V m c main_v3) b) (pick (V m c main_cst) (V m c main_v3) b (wide q))

/-- The regression target's entry `j` of result column `q` in image `b`. -/
def offsetAt (c : Dev nD) (b : Fin 8) (q : Fin 5456) (j : Fin 4) : EReal :=
  reg (pt (V m c main_cst) (wide q)) (box (V m c main_v3) b) (pick (V m c main_cst) (V m c main_v3) b (wide q)) j

/-- The words of the five strides and of their halves. -/
theorem words : word 4 = 0x40800000#32 ∧ word 8 = 0x41000000#32 ∧ word 16 = 0x41800000#32 ∧ word 32 = 0x42000000#32
    ∧ word 64 = 0x42800000#32 ∧ word 128 = 0x43000000#32 := by decide +kernel

/-- The reference's results hold the targets at every entry. -/
theorem reference_entries (c : Dev nD) (h15 : Cert.ReferenceIdeal.Line.final m' c (Proc.devRef .tc Cert.ReferenceIdeal.main_arg15) = given m c)
    (h16 : Cert.ReferenceIdeal.Line.final m' c (Proc.devRef .tc Cert.ReferenceIdeal.main_arg16) = labels m c) :
    (∀ (b : Fin 8) (q : Fin 5456), (Cert.ReferenceIdeal.Line.final m' c (Proc.devRef .tc Cert.ReferenceIdeal.main_v790) : IVec ⟨3, ![8, 5456, 1]⟩ 32) (ix3 b q 0) = classAt m c b q)
    ∧ (∀ (b : Fin 8) (q : Fin 5456), (Cert.ReferenceIdeal.Line.final m' c (Proc.devRef .tc Cert.ReferenceIdeal.main_v791) : FVec Idealize.ShloMosaic.Ideal ⟨3, ![8, 5456, 1]⟩ .f32) (ix3 b q 0) = centreAt m c b q)
    ∧ ∀ (b : Fin 8) (q : Fin 5456) (j : Fin 4), (Cert.ReferenceIdeal.Line.final m' c (Proc.devRef .tc Cert.ReferenceIdeal.main_v792) : FVec Idealize.ShloMosaic.Ideal ⟨3, ![8, 5456, 4]⟩ .f32) (ix3 b q j) = offsetAt m c b q j := by
  obtain ⟨f0, f1, f2, f3, f4, e0, e1, e2⟩ := Cert.ReferenceIdeal.Line.levels (Cert.ReferenceIdeal.Line.final m' c)
    (Cert.ReferenceIdeal.Line.rising_ops.solves (launchContents m' c))
  rw [h15, h16] at f0 f1 f2 f3 f4
  obtain ⟨w4, w8, w16, w32, w64, w128⟩ := words
  have hB := sides m c
  have g0 := agree (o := 0) f0 (V m c main_cst) (V m c main_v3) hB fun q p hp hq => by
    rw [← w4, ← w8]
    exact point_of_column m (by decide) (by decide) (by decide) (by decide) (by decide) (by decide) (by decide) column0 c q p (by omega) hq
  have g1 := agree (o := 4096) f1 (V m c main_cst) (V m c main_v3) hB fun q p hp hq => by
    rw [← w8, ← w16]
    exact point_of_column m (by decide) (by decide) (by decide) (by decide) (by decide) (by decide) (by decide) column1 c q p (by omega) hq
  have g2 := agree (o := 5120) f2 (V m c main_cst) (V m c main_v3) hB fun q p hp hq => by
    rw [← w16, ← w32]
    exact point_of_column m (by decide) (by decide) (by decide) (by decide) (by decide) (by decide) (by decide) column2 c q p (by omega) hq
  have g3 := agree (o := 5376) f3 (V m c main_cst) (V m c main_v3) hB fun q p hp hq => by
    rw [← w32]
    refine (point_of_column m (by decide) (by decide) (by decide) (by decide) (by decide) (by decide) (by decide) column3 c q p (by omega) hq).trans ?_
    rw [w64]
  have g4 := agree (o := 5440) f4 (V m c main_cst) (V m c main_v3) hB fun q p hp hq => by
    refine (point_of_column m (by decide) (by decide) (by decide) (by decide) (by decide) (by decide) (by decide) column4 c q p (by omega) hq).trans ?_
    rw [w64, w128]
  refine ⟨fun b q => ?_, fun b q => ?_, fun b q j => ?_⟩
  · refine (congrFun e0 _).trans (joined _ b 0 (classAt m c b) ?_ ?_ ?_ ?_ ?_ q)
    · exact fun p q hq => (g0 b p q hq).1
    · exact fun p q hq => (g1 b p q hq).1
    · exact fun p q hq => (g2 b p q hq).1
    · exact fun p q hq => (g3 b p q hq).1
    · exact fun p q hq => (g4 b p q hq).1
  · refine (congrFun e1 _).trans (joined _ b 0 (centreAt m c b) ?_ ?_ ?_ ?_ ?_ q)
    · exact fun p q hq => (g0 b p q hq).2.1
    · exact fun p q hq => (g1 b p q hq).2.1
    · exact fun p q hq => (g2 b p q hq).2.1
    · exact fun p q hq => (g3 b p q hq).2.1
    · exact fun p q hq => (g4 b p q hq).2.1
  · refine (congrFun e2 _).trans (joined _ b j (fun q => offsetAt m c b q j) ?_ ?_ ?_ ?_ ?_ q)
    · exact fun p q hq => (g0 b p q hq).2.2 j
    · exact fun p q hq => (g1 b p q hq).2.2 j
    · exact fun p q hq => (g2 b p q hq).2.2 j
    · exact fun p q hq => (g3 b p q hq).2.2 j
    · exact fun p q hq => (g4 b p q hq).2.2 j

/-- The class results are equal. -/
theorem classes (c : Dev nD) (h15 : Cert.ReferenceIdeal.Line.final m' c (Proc.devRef .tc Cert.ReferenceIdeal.main_arg15) = given m c)
    (h16 : Cert.ReferenceIdeal.Line.final m' c (Proc.devRef .tc Cert.ReferenceIdeal.main_arg16) = labels m c) :
    (Cert.ReferenceIdeal.Line.final m' c (Proc.devRef .tc Cert.ReferenceIdeal.main_v790) : IVec S8x5456x1 32) = fptosi (F := Idealize.ShloMosaic.Ideal) (φ := .f32) 32 (broadcastInDim S8x5456x1 ![0, 1] bcast_S8x5456_S8x5456x1_0_1 (shapeCast S8x5456 (extractStridedSlice S8x1x5456 ![0, 0, 0] (reg_main_v4_0 m c) slices_S8x1x5632_S8x1x5456_0_0_0) shapeCasts_S8x1x5456_S8x5456)) := by
  funext i
  obtain ⟨b, q, rfl⟩ : ∃ (b : Fin 8) (q : Fin 5456), i = ix3 b q 0 :=
    ⟨i 0, i 1, (eq_ix3 i).trans (congrArg (ix3 (i 0) (i 1)) (Subsingleton.elim (α := Fin 1) _ _))⟩
  refine ((reference_entries m m' c h15 h16).1 b q).trans ?_
  refine Eq.trans ?_ (congrArg (Idealize.ShloMosaic.Ideal.fptosi 32) (row_entry (reg_main_v4_0 m c) b q)).symm
  unfold reg_main_v4_0
  rw [arr2]
  show classAt m c b q = Idealize.ShloMosaic.Ideal.fptosi 32 (if Any (pt (V m c main_cst) (wide q)) (box (V m c main_v3) b) then
      V m c main_v3 (ix3 b (pick (V m c main_cst) (V m c main_v3) b (wide q)) 4) else (0 : EReal))
  unfold classAt cls
  split_ifs
  · rw [label, label_back]
  · have h0 : (FloatOps.sitofp .f32 0#32 : Ideal .f32) = (0 : EReal) := by
      change (((0#32 : BitVec 32).toInt : ℝ) : EReal) = 0
      simp
    exact ((congrArg (Idealize.ShloMosaic.Ideal.fptosi 32) h0).symm.trans (label_back 0#32)).symm

/-- The centerness results are equal. -/
theorem centres (c : Dev nD) (h15 : Cert.ReferenceIdeal.Line.final m' c (Proc.devRef .tc Cert.ReferenceIdeal.main_arg15) = given m c)
    (h16 : Cert.ReferenceIdeal.Line.final m' c (Proc.devRef .tc Cert.ReferenceIdeal.main_arg16) = labels m c) :
    (Cert.ReferenceIdeal.Line.final m' c (Proc.devRef .tc Cert.ReferenceIdeal.main_v791) : FVec Idealize.ShloMosaic.Ideal S8x5456x1 .f32) = broadcastInDim S8x5456x1 ![0, 1] bcast_S8x5456_S8x5456x1_0_1 (shapeCast S8x5456 (extractStridedSlice S8x1x5456 ![0, 0, 0] (reg_main_v4_1 m c) slices_S8x1x5632_S8x1x5456_0_0_0) shapeCasts_S8x1x5456_S8x5456) := by
  funext i
  obtain ⟨b, q, rfl⟩ : ∃ (b : Fin 8) (q : Fin 5456), i = ix3 b q 0 :=
    ⟨i 0, i 1, (eq_ix3 i).trans (congrArg (ix3 (i 0) (i 1)) (Subsingleton.elim (α := Fin 1) _ _))⟩
  refine ((reference_entries m m' c h15 h16).2.1 b q).trans (Eq.trans ?_ (row_entry (reg_main_v4_1 m c) b q).symm)
  unfold reg_main_v4_1
  rw [arr3]
  rfl

/-- The regression results are equal. -/
theorem offsets (c : Dev nD) (h15 : Cert.ReferenceIdeal.Line.final m' c (Proc.devRef .tc Cert.ReferenceIdeal.main_arg15) = given m c)
    (h16 : Cert.ReferenceIdeal.Line.final m' c (Proc.devRef .tc Cert.ReferenceIdeal.main_arg16) = labels m c) :
    (Cert.ReferenceIdeal.Line.final m' c (Proc.devRef .tc Cert.ReferenceIdeal.main_v792) : FVec Idealize.ShloMosaic.Ideal S8x5456x4 .f32) = transpose S8x5456x4 [0, 2, 1] (extractStridedSlice S8x4x5456 ![0, 0, 0] (reg_main_v4_2 m c) slices_S8x4x5632_S8x4x5456_0_0_0) transposes_S8x4x5456_S8x5456x4_0_2_1 := by
  funext i
  rw [eq_ix3 i]
  refine ((reference_entries m m' c h15 h16).2.2 (i 0) (i 1) (i 2)).trans (Eq.trans ?_ (rows_entry (reg_main_v4_2 m c) (i 0) (i 1) (i 2)).symm)
  unfold reg_main_v4_2
  rw [arr4]
  rfl

end Cert.Final
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.RefRun
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference's frame: it leaves its arguments as they were, and it has no semaphore. -/
theorem frame_reference : @Cert.quiescent_ReferenceIdeal Cert.ReferenceIdeal.Gen.facts := by
  intro m g _
  refine θ_run_mono (Cert.ReferenceIdeal.Line.run m g) fun r hr =>
    ⟨fun c => ?_, Cert.ReferenceIdeal.Line.sem_zero r.2⟩
  and_intros
  all_goals exact (hr c _).trans (Cert.ReferenceIdeal.Line.final_arg m c _ (by decide))

/-- The kernel computes the reference's three results, equal as extended reals at every entry. -/
theorem algebraic : @Cert.algebraic_KernelIdeal_ReferenceIdeal Cert.KernelIdeal.Gen.facts Cert.ReferenceIdeal.Gen.facts := by
  intro m g m' g' _ hagree
  refine ⟨_, _, _, Cert.KernelIdeal.Value.run m g, ?_⟩
  refine θ_run_mono (Cert.ReferenceIdeal.Line.run m' g') fun r hr c => ?_
  have h15 := (Cert.ReferenceIdeal.Line.final_arg m' c Cert.ReferenceIdeal.main_arg15 (by decide)).trans (hagree c).2.2.2.2.2.2.2.2.2.2.2.2.2.2.2.1
  have h16 := (Cert.ReferenceIdeal.Line.final_arg m' c Cert.ReferenceIdeal.main_arg16 (by decide)).trans (hagree c).2.2.2.2.2.2.2.2.2.2.2.2.2.2.2.2
  refine ⟨(hr c _).trans (Cert.Final.classes m m' c h15 h16), (hr c _).trans (Cert.Final.centres m m' c h15 h16),
    (hr c _).trans (Cert.Final.offsets m m' c h15 h16), ?_⟩
  and_intros
  all_goals exact (hr c _).trans (Cert.ReferenceIdeal.Line.final_arg m' c _ (by decide))

/-- Everything this certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
